-- ==== Defs.lean ====
def Pre_Kernel [hPre_every_token_has_an_expert : Cert.Pre_every_token_has_an_expert.Facts] (m : (ℓ : Loc Cert.Kernel.nD Cert.Kernel.τ Cert.Kernel.sig) → Buf (Elt Bits) ℓ) : Prop :=
  ∀ c : Dev Cert.Kernel.nD,
    (Cert.Pre_every_token_has_an_expert.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).1 = (fun _ => 1#1)
    ∧ (Cert.Pre_every_token_has_an_expert.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2 = (fun _ => 1#1)

def Pre_KernelIdeal [hPre_every_token_has_an_expert : Cert.Pre_every_token_has_an_expert.Facts] (m : (ℓ : Loc Cert.KernelIdeal.nD Cert.KernelIdeal.τ Cert.KernelIdeal.sig) → Buf (Elt Ideal) ℓ) : Prop :=
  ∀ c : Dev Cert.KernelIdeal.nD,
    (Cert.Pre_every_token_has_an_expert.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_every_token_has_an_expert.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_KernelIdeal_finite_and_every_token_has_an_expert [hPre_finite_and_every_token_has_an_expert : Cert.Pre_finite_and_every_token_has_an_expert.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_every_token_has_an_expert.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_and_every_token_has_an_expert.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_and_every_token_has_an_expert.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_every_token_has_an_expert [hPre_finite_and_every_token_has_an_expert : Cert.Pre_finite_and_every_token_has_an_expert.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_every_token_has_an_expert.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_and_every_token_has_an_expert.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_and_every_token_has_an_expert.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] [hPre_every_token_has_an_expert : Cert.Pre_every_token_has_an_expert.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_every_token_has_an_expert : Cert.Pre_every_token_has_an_expert.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_every_token_has_an_expert [hKernelIdeal : Cert.KernelIdeal.Facts] [hPre_finite_and_every_token_has_an_expert : Cert.Pre_finite_and_every_token_has_an_expert.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_every_token_has_an_expert m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_every_token_has_an_expert [hReferenceIdeal : Cert.ReferenceIdeal.Facts] [hPre_finite_and_every_token_has_an_expert : Cert.Pre_finite_and_every_token_has_an_expert.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_every_token_has_an_expert m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_and_every_token_has_an_expert [hKernelIdeal : Cert.KernelIdeal.Facts] [hReferenceIdeal : Cert.ReferenceIdeal.Facts] [hPre_finite_and_every_token_has_an_expert : Cert.Pre_finite_and_every_token_has_an_expert.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_every_token_has_an_expert m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_every_token_has_an_expert : Cert.Pre_every_token_has_an_expert.Facts) (hPre_finite_and_every_token_has_an_expert : Cert.Pre_finite_and_every_token_has_an_expert.Facts),
    quiescent_Kernel (hKernel := hKernel) (hPre_every_token_has_an_expert := hPre_every_token_has_an_expert)
    ∧ quiescent_KernelIdeal (hKernelIdeal := hKernelIdeal) (hPre_every_token_has_an_expert := hPre_every_token_has_an_expert)
    ∧ quiescent_KernelIdeal_pre_finite_and_every_token_has_an_expert (hKernelIdeal := hKernelIdeal) (hPre_finite_and_every_token_has_an_expert := hPre_finite_and_every_token_has_an_expert)
    ∧ quiescent_ReferenceIdeal (hReferenceIdeal := hReferenceIdeal)
    ∧ quiescent_ReferenceIdeal_pre_finite_and_every_token_has_an_expert (hReferenceIdeal := hReferenceIdeal) (hPre_finite_and_every_token_has_an_expert := hPre_finite_and_every_token_has_an_expert)
    ∧ preserves_Kernel_KernelIdeal
    ∧ algebraic_KernelIdeal_ReferenceIdeal_pre_finite_and_every_token_has_an_expert (hKernelIdeal := hKernelIdeal) (hReferenceIdeal := hReferenceIdeal) (hPre_finite_and_every_token_has_an_expert := hPre_finite_and_every_token_has_an_expert)
-- ==== Pre_every_token_has_an_expert.lean ====
abbrev S24576x1536 : Shape := ⟨2, ![24576, 1536]⟩
abbrev S16 : Shape := ⟨1, ![16]⟩
abbrev S16x5120x768 : Shape := ⟨3, ![16, 5120, 768]⟩
abbrev S16x5120x48 : Shape := ⟨3, ![16, 5120, 48]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S24576x1536 .bf16) (main_arg1 : IVec S16 32) (main_arg2 : IVec S16x5120x768 8) (main_arg3 : FVec F S16x5120x48 .f32) : IVec S_ 1 × IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 24576#32
  let main_v2 : IVec S16 32 := broadcastInDim S16 ![] bcast_S_S16 main_c_0
  let main_v3 : IVec S16 1 := cmpi .sle main_arg1 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  let main_c_2 : IVec S_ 32 := constantI S_ 32 0#32
  let main_v6 : IVec S_ 32 := (fun x v => Host.reduce IntOp.addi x v reducesTo_S16_S_d0 h_S_) main_arg1 main_c_2
  let main_c_3 : IVec S_ 32 := constantI S_ 32 24576#32
  let main_v7 : IVec S_ 1 := cmpi .eq main_v6 main_c_3
  (main_v5, main_v7)
-- ==== Pre_finite_and_every_token_has_an_expert.lean ====
abbrev S24576x1536 : Shape := ⟨2, ![24576, 1536]⟩
abbrev S16 : Shape := ⟨1, ![16]⟩
abbrev S16x5120x768 : Shape := ⟨3, ![16, 5120, 768]⟩
abbrev S16x5120x48 : Shape := ⟨3, ![16, 5120, 48]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bitsLt_bf16_f32 : FTy.bits .bf16 < FTy.bits .f32
  bcast_S_S24576x1536 : S_.BroadcastsInDim S24576x1536 (![] : Fin 0 → Fin S24576x1536.rank)
  reducesTo_S24576x1536_S_d0_1 : S24576x1536.ReducesTo [0, 1] S_

variable [Facts]

def fn {F : FTy → Type} [FloatOps F] (main_arg0 : FVec F S24576x1536 .bf16) (main_arg1 : IVec S16 32) (main_arg2 : IVec S16x5120x768 8) (main_arg3 : FVec F S16x5120x48 .f32) : IVec S_ 1 × IVec S_ 1 × IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 24576#32
  let main_v2 : IVec S16 32 := broadcastInDim S16 ![] bcast_S_S16 main_c_0
  let main_v3 : IVec S16 1 := cmpi .sle main_arg1 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  let main_c_2 : IVec S_ 32 := constantI S_ 32 0#32
  let main_v6 : IVec S_ 32 := (fun x v => Host.reduce IntOp.addi x v reducesTo_S16_S_d0 h_S_) main_arg1 main_c_2
  let main_c_3 : IVec S_ 32 := constantI S_ 32 24576#32
  let main_v7 : IVec S_ 1 := cmpi .eq main_v6 main_c_3
  let main_v8 : FVec F S24576x1536 .f32 := (extf .f32 · bitsLt_bf16_f32) main_arg0
  let main_v9 : FVec F S24576x1536 .f32 := Host.absf main_v8
  let main_cst : FVec F S_ .f32 := constant S_ .f32 0x7F7F0000#32
  let main_v10 : FVec F S24576x1536 .f32 := broadcastInDim S24576x1536 ![] bcast_S_S24576x1536 main_cst
  let main_v11 : IVec S24576x1536 1 := cmpf .ole main_v9 main_v10
  let main_c_4 : IVec S_ 1 := constantI S_ 1 1#1
  let main_v12 : IVec S_ 1 := (fun x v => Host.reduce IntOp.andi x v reducesTo_S24576x1536_S_d0_1 h_S_) main_v11 main_c_4
  (main_v5, main_v7, main_v12)
-- ==== Kernel.lean ====
abbrev S24576x1536 : Shape := ⟨2, ![24576, 1536]⟩
abbrev S16 : Shape := ⟨1, ![16]⟩
abbrev S16x5120x768 : Shape := ⟨3, ![16, 5120, 768]⟩
abbrev S16x5120x48 : Shape := ⟨3, ![16, 5120, 48]⟩
abbrev S_ : Shape := ⟨0, ![]⟩
abbrev S1 : Shape := ⟨1, ![1]⟩
abbrev S17 : Shape := ⟨1, ![17]⟩
abbrev S111 : Shape := ⟨1, ![111]⟩
abbrev S111x1 : Shape := ⟨2, ![111, 1]⟩
abbrev S1x16 : Shape := ⟨2, ![1, 16]⟩
abbrev S111x16 : Shape := ⟨2, ![111, 16]⟩
abbrev S24576x5120 : Shape := ⟨2, ![24576, 5120]⟩
abbrev S256x1536 : Shape := ⟨2, ![256, 1536]⟩
abbrev S1x5120x768 : Shape := ⟨3, ![1, 5120, 768]⟩
abbrev S1x5120x48 : Shape := ⟨3, ![1, 5120, 48]⟩
abbrev S256x5120 : Shape := ⟨2, ![256, 5120]⟩
abbrev S5120x1536 : Shape := ⟨2, ![5120, 1536]⟩
abbrev S256x1 : Shape := ⟨2, ![256, 1]⟩
abbrev S5120x768 : Shape := ⟨2, ![5120, 768]⟩
abbrev S256x768 : Shape := ⟨2, ![256, 768]⟩
abbrev S64x768 : Shape := ⟨2, ![64, 768]⟩
abbrev S5120x48 : Shape := ⟨2, ![5120, 48]⟩
abbrev S256x48 : Shape := ⟨2, ![256, 48]⟩
abbrev S256x80 : Shape := ⟨2, ![256, 80]⟩
abbrev S256x128 : Shape := ⟨2, ![256, 128]⟩
abbrev S256x128x1 : Shape := ⟨3, ![256, 128, 1]⟩
abbrev S256 : Shape := ⟨1, ![256]⟩
abbrev S256x256 : Shape := ⟨2, ![256, 256]⟩
abbrev S512x1536 : Shape := ⟨2, ![512, 1536]⟩
abbrev S256x512 : Shape := ⟨2, ![256, 512]⟩

abbrev nBuf : Space → Nat
  | .hbm => 99
  | .vmem => 11
  | .smem => 4
  | _ => 0

abbrev bufTy : (tb : Table) → Fin (tcTables nBuf tb) → BufTy
  | .hbm, ⟨0, _⟩ => ⟨S24576x1536, .bf16⟩
  | .hbm, ⟨1, _⟩ => ⟨S16, .i32⟩
  | .hbm, ⟨2, _⟩ => ⟨S16x5120x768, .i8⟩
  | .hbm, ⟨3, _⟩ => ⟨S16x5120x48, .f32⟩
  | .hbm, ⟨4, _⟩ => ⟨S_, .i32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S_, .i32⟩
  | .hbm, ⟨11, _⟩ => ⟨S_, .i32⟩
  | .hbm, ⟨12, _⟩ => ⟨S16, .i32⟩
  | .hbm, ⟨13, _⟩ => ⟨S16, .i32⟩
  | .hbm, ⟨14, _⟩ => ⟨S16, .i32⟩
  | .hbm, ⟨15, _⟩ => ⟨S_, .i32⟩
  | .hbm, ⟨16, _⟩ => ⟨S16, .i32⟩
  | .hbm, ⟨17, _⟩ => ⟨S16, .i1⟩
  | .hbm, ⟨18, _⟩ => ⟨S16, .i32⟩
  | .hbm, ⟨19, _⟩ => ⟨S16, .i32⟩
  | .hbm, ⟨20, _⟩ => ⟨S_, .i32⟩
  | .hbm, ⟨21, _⟩ => ⟨S16, .i32⟩
  | .hbm, ⟨22, _⟩ => ⟨S16, .i1⟩
  | .hbm, ⟨23, _⟩ => ⟨S16, .i1⟩
  | .hbm, ⟨24, _⟩ => ⟨S_, .i32⟩
  | .hbm, ⟨25, _⟩ => ⟨S16, .i32⟩
  | .hbm, ⟨26, _⟩ => ⟨S16, .i32⟩
  | .hbm, ⟨27, _⟩ => ⟨S16, .i32⟩
  | .hbm, ⟨28, _⟩ => ⟨S16, .i32⟩
  | .hbm, ⟨29, _⟩ => ⟨S_, .i32⟩
  | .hbm, ⟨30, _⟩ => ⟨S16, .i32⟩
  | .hbm, ⟨31, _⟩ => ⟨S16, .i32⟩
  | .hbm, ⟨32, _⟩ => ⟨S_, .i32⟩
  | .hbm, ⟨33, _⟩ => ⟨S16, .i32⟩
  | .hbm, ⟨34, _⟩ => ⟨S16, .i32⟩
  | .hbm, ⟨35, _⟩ => ⟨S_, .i32⟩
  | .hbm, ⟨36, _⟩ => ⟨S_, .i32⟩
  | .hbm, ⟨37, _⟩ => ⟨S16, .i32⟩
  | .hbm, ⟨38, _⟩ => ⟨S16, .i32⟩
  | .hbm, ⟨39, _⟩ => ⟨S16, .i32⟩
  | .hbm, ⟨40, _⟩ => ⟨S_, .i32⟩
  | .hbm, ⟨41, _⟩ => ⟨S16, .i32⟩
  | .hbm, ⟨42, _⟩ => ⟨S16, .i1⟩
  | .hbm, ⟨43, _⟩ => ⟨S16, .i32⟩
  | .hbm, ⟨44, _⟩ => ⟨S16, .i32⟩
  | .hbm, ⟨45, _⟩ => ⟨S_, .i32⟩
  | .hbm, ⟨46, _⟩ => ⟨S16, .i32⟩
  | .hbm, ⟨47, _⟩ => ⟨S16, .i1⟩
  | .hbm, ⟨48, _⟩ => ⟨S16, .i1⟩
  | .hbm, ⟨49, _⟩ => ⟨S_, .i32⟩
  | .hbm, ⟨50, _⟩ => ⟨S16, .i32⟩
  | .hbm, ⟨51, _⟩ => ⟨S16, .i32⟩
  | .hbm, ⟨52, _⟩ => ⟨S16, .i32⟩
  | .hbm, ⟨53, _⟩ => ⟨S_, .i32⟩
  | .hbm, ⟨54, _⟩ => ⟨S16, .i32⟩
  | .hbm, ⟨55, _⟩ => ⟨S16, .i1⟩
  | .hbm, ⟨56, _⟩ => ⟨S16, .i32⟩
  | .hbm, ⟨57, _⟩ => ⟨S_, .i32⟩
  | .hbm, ⟨58, _⟩ => ⟨S_, .i32⟩
  | .hbm, ⟨59, _⟩ => ⟨S16, .i32⟩
  | .hbm, ⟨60, _⟩ => ⟨S16, .i32⟩
  | .hbm, ⟨61, _⟩ => ⟨S_, .i32⟩
  | .hbm, ⟨62, _⟩ => ⟨S_, .i32⟩
  | .hbm, ⟨63, _⟩ => ⟨S16, .i32⟩
  | .hbm, ⟨64, _⟩ => ⟨S111, .i32⟩
  | .hbm, ⟨65, _⟩ => ⟨S1, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S111, .i32⟩
  | .hbm, ⟨70, _⟩ => ⟨S111, .i32⟩
  | .hbm, ⟨71, _⟩ => ⟨S111x1, .i32⟩
  | .hbm, ⟨72, _⟩ => ⟨S1x16, .i32⟩
  | .hbm, ⟨73, _⟩ => ⟨S111x16, .i32⟩
  | .hbm, ⟨74, _⟩ => ⟨S111x16, .i32⟩
  | .hbm, ⟨75, _⟩ => ⟨S111x16, .i1⟩
  | .hbm, ⟨76, _⟩ => ⟨S111x16, .i32⟩
  | .hbm, ⟨77, _⟩ => ⟨S_, .i32⟩
  | .hbm, ⟨78, _⟩ => ⟨S_, .i32⟩
  | .hbm, ⟨79, _⟩ => ⟨S111, .i32⟩
  | .hbm, ⟨80, _⟩ => ⟨S111, .i1⟩
  | .hbm, ⟨81, _⟩ => ⟨S_, .i32⟩
  | .hbm, ⟨82, _⟩ => ⟨S111, .i32⟩
  | .hbm, ⟨83, _⟩ => ⟨S111, .i32⟩
  | .hbm, ⟨84, _⟩ => ⟨S111, .i32⟩
  | .hbm, ⟨85, _⟩ => ⟨S111x1, .i32⟩
  | .hbm, ⟨86, _⟩ => ⟨S111, .i32⟩
  | .hbm, ⟨87, _⟩ => ⟨S111, .i32⟩
  | .hbm, ⟨88, _⟩ => ⟨S16, .i32⟩
  | .hbm, ⟨89, _⟩ => ⟨S_, .i32⟩
  | .hbm, ⟨90, _⟩ => ⟨S111, .i32⟩
  | .hbm, ⟨91, _⟩ => ⟨S111, .i1⟩
  | .hbm, ⟨92, _⟩ => ⟨S_, .i32⟩
  | .hbm, ⟨93, _⟩ => ⟨S111, .i32⟩
  | .hbm, ⟨94, _⟩ => ⟨S111, .i32⟩
  | .hbm, ⟨95, _⟩ => ⟨S111, .i32⟩
  | .hbm, ⟨96, _⟩ => ⟨S111x1, .i32⟩
  | .hbm, ⟨97, _⟩ => ⟨S111, .i32⟩
  | .hbm, ⟨98, _⟩ => ⟨S24576x5120, .bf16⟩
  | .local _ .vmem, ⟨0, _⟩ => ⟨S256x1536, .bf16⟩
  | .local _ .vmem, ⟨1, _⟩ => ⟨S256x1536, .bf16⟩
  | .local _ .vmem, ⟨2, _⟩ => ⟨S1x5120x768, .i8⟩
  | .local _ .vmem, ⟨3, _⟩ => ⟨S1x5120x768, .i8⟩
  | .local _ .vmem, ⟨4, _⟩ => ⟨S1x5120x48, .f32⟩
  | .local _ .vmem, ⟨5, _⟩ => ⟨S1x5120x48, .f32⟩
  | .local _ .vmem, ⟨6, _⟩ => ⟨S256x5120, .bf16⟩
  | .local _ .vmem, ⟨7, _⟩ => ⟨S256x5120, .bf16⟩
  | .local _ .vmem, ⟨8, _⟩ => ⟨S5120x1536, .bf16⟩
  | .local _ .vmem, ⟨9, _⟩ => ⟨S256x1536, .bf16⟩
  | .local _ .vmem, ⟨10, _⟩ => ⟨S256x1, .f32⟩
  | .local _ .smem, ⟨0, _⟩ => ⟨S111, .i32⟩
  | .local _ .smem, ⟨1, _⟩ => ⟨S111, .i32⟩
  | .local _ .smem, ⟨2, _⟩ => ⟨S17, .i32⟩
  | .local _ .smem, ⟨3, _⟩ => ⟨S1, .i32⟩
  | _, _ => ⟨S24576x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_call0_call0_c : Ref sig .tc := ⟨.hbm, 6, rfl⟩
abbrev main_call0_call0_v0 : Ref sig .tc := ⟨.hbm, 7, rfl⟩
abbrev main_v1 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_c : Ref sig .tc := ⟨.hbm, 20, rfl⟩
abbrev main_call1_v9 : Ref sig .tc := ⟨.hbm, 21, rfl⟩
abbrev main_call1_v10 : Ref sig .tc := ⟨.hbm, 22, rfl⟩
abbrev main_call1_v11 : Ref sig .tc := ⟨.hbm, 23, rfl⟩
abbrev main_call1_c_0 : Ref sig .tc := ⟨.hbm, 24, rfl⟩
abbrev main_call1_v12 : Ref sig .tc := ⟨.hbm, 25, rfl⟩
abbrev main_call1_v13 : Ref sig .tc := ⟨.hbm, 26, rfl⟩
abbrev main_v4 : Ref sig .tc := ⟨.hbm, 27, rfl⟩
abbrev main_v5 : Ref sig .tc := ⟨.hbm, 28, rfl⟩
abbrev main_c_1 : Ref sig .tc := ⟨.hbm, 29, rfl⟩
abbrev main_v6 : Ref sig .tc := ⟨.hbm, 30, rfl⟩
abbrev main_v7 : Ref sig .tc := ⟨.hbm, 31, rfl⟩
abbrev main_c_2 : Ref sig .tc := ⟨.hbm, 32, rfl⟩
abbrev main_v8 : Ref sig .tc := ⟨.hbm, 33, rfl⟩
abbrev main_v9 : Ref sig .tc := ⟨.hbm, 34, rfl⟩
abbrev main_c_3 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_c : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_0 : Ref sig .tc := ⟨.hbm, 49, rfl⟩
abbrev main_call2_v12 : Ref sig .tc := ⟨.hbm, 50, rfl⟩
abbrev main_call2_v13 : Ref sig .tc := ⟨.hbm, 51, rfl⟩
abbrev main_v10 : Ref sig .tc := ⟨.hbm, 52, rfl⟩
abbrev main_c_4 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_c_5 : Ref sig .tc := ⟨.hbm, 57, rfl⟩
abbrev main_call3_v0 : Ref sig .tc := ⟨.hbm, 58, rfl⟩
abbrev main_call3_v1 : Ref sig .tc := ⟨.hbm, 59, rfl⟩
abbrev main_v14 : Ref sig .tc := ⟨.hbm, 60, rfl⟩
abbrev main_call4_call0_c : Ref sig .tc := ⟨.hbm, 61, rfl⟩
abbrev main_call4_call0_v0 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_c_6 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_c_7 : Ref sig .tc := ⟨.hbm, 77, rfl⟩
abbrev main_c_8 : Ref sig .tc := ⟨.hbm, 78, rfl⟩
abbrev main_v29 : Ref sig .tc := ⟨.hbm, 79, rfl⟩
abbrev main_v30 : Ref sig .tc := ⟨.hbm, 80, rfl⟩
abbrev main_c_9 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_c_10 : Ref sig .tc := ⟨.hbm, 89, rfl⟩
abbrev main_v38 : Ref sig .tc := ⟨.hbm, 90, rfl⟩
abbrev main_v39 : Ref sig .tc := ⟨.hbm, 91, rfl⟩
abbrev main_c_11 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v47 : Ref sig .tc := ⟨.hbm, 98, rfl⟩
abbrev main_v45 : Ref sig .tc := ⟨.smem, 0, rfl⟩
abbrev main_v28 : Ref sig .tc := ⟨.smem, 1, rfl⟩
abbrev main_v2 : Ref sig .tc := ⟨.smem, 2, rfl⟩
abbrev main_v46 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![111], ![false]⟩

abbrev pre0 : Pipeline.Prefetch sig := ⟨4, ![main_v45.idx, main_v28.idx, main_v2.idx, main_v46.idx], fun | 0 => main_v45.names | 1 => main_v28.names | 2 => main_v2.names | 3 => main_v46.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v4 : BitVec 32 := Scalar.subi arg0 c1_i32
  let c0_i32 : BitVec 32 := 0#32
  let v5 : BitVec 32 := Scalar.maxsi v4 c0_i32
  let v11 : Index := Scalar.indexCast v5
  ![v11.toNat]
@[reducible] def k0_t1_loop : Scf.Loop 32 :=
  let c0_i32_11 : BitVec 32 := 0#32
  let c20_i32 : BitVec 32 := 20#32
  let v39 : BitVec 32 := Scalar.addi c0_i32_11 c20_i32
  let c1_i32_12 : BitVec 32 := 1#32
  ⟨c0_i32_11, v39, c1_i32_12⟩
def k0_mult1 (k0_t1 : Fin k0_t1_loop.trips) : BitVec 32 :=
  let c0_i32_11 : BitVec 32 := 0#32
  let c1_i32_12 : BitVec 32 := 1#32
  let arg12 : BitVec 32 := Scf.iv c0_i32_11 c1_i32_12 k0_t1
  let c256_i32_14 : BitVec 32 := 256#32
  let v40 : BitVec 32 := Scalar.muli arg12 c256_i32_14
  v40
def k0_off3 (k0_t1 : Fin k0_t1_loop.trips) : Fin 2 → Nat :=
  let c0_i32_11 : BitVec 32 := 0#32
  let c1_i32_12 : BitVec 32 := 1#32
  let arg12 : BitVec 32 := Scf.iv c0_i32_11 c1_i32_12 k0_t1
  let c256_i32_14 : BitVec 32 := 256#32
  let v40 : BitVec 32 := Scalar.muli arg12 c256_i32_14
  let v41 : BitVec 32 := v40
  let v44 : Index := Scalar.indexCast v41
  let c0_17 : Index := 0#32
  ![v44.toNat, 0]
def k0_off4 (k0_t1 : Fin k0_t1_loop.trips) : Fin 2 → Nat :=
  let c0_i32_11 : BitVec 32 := 0#32
  let c1_i32_12 : BitVec 32 := 1#32
  let arg12 : BitVec 32 := Scf.iv c0_i32_11 c1_i32_12 k0_t1
  let c256_i32_14 : BitVec 32 := 256#32
  let v40 : BitVec 32 := Scalar.muli arg12 c256_i32_14
  let v41 : BitVec 32 := v40
  let v57 : Index := Scalar.indexCast v41
  let c0_21 : Index := 0#32
  ![v57.toNat, 0]
def k0_off5 (k0_t1 : Fin k0_t1_loop.trips) : Fin 2 → Nat :=
  let c0_i32_11 : BitVec 32 := 0#32
  let c1_i32_12 : BitVec 32 := 1#32
  let arg12 : BitVec 32 := Scf.iv c0_i32_11 c1_i32_12 k0_t1
  let c256_i32_14 : BitVec 32 := 256#32
  let v40 : BitVec 32 := Scalar.muli arg12 c256_i32_14
  let v41 : BitVec 32 := v40
  let v102 : Index := Scalar.indexCast v41
  let c0_30 : Index := 0#32
  ![v102.toNat, 0]
def k0_off6 (k0_t1 : Fin k0_t1_loop.trips) : Fin 2 → Nat :=
  let c0_i32_11 : BitVec 32 := 0#32
  let c1_i32_12 : BitVec 32 := 1#32
  let arg12 : BitVec 32 := Scf.iv c0_i32_11 c1_i32_12 k0_t1
  let c256_i32_14 : BitVec 32 := 256#32
  let v40 : BitVec 32 := Scalar.muli arg12 c256_i32_14
  let v41 : BitVec 32 := v40
  let v109 : Index := Scalar.indexCast v41
  let c768 : Index := 768#32
  ![v109.toNat, 768]
def k0_off7 (k0_t1 : Fin k0_t1_loop.trips) : Fin 2 → Nat :=
  let c0_i32_11 : BitVec 32 := 0#32
  let c1_i32_12 : BitVec 32 := 1#32
  let arg12 : BitVec 32 := Scf.iv c0_i32_11 c1_i32_12 k0_t1
  let c256_i32_14 : BitVec 32 := 256#32
  let v40 : BitVec 32 := Scalar.muli arg12 c256_i32_14
  let v41 : BitVec 32 := v40
  let v127 : Index := Scalar.indexCast v41
  let c128 : Index := 128#32
  ![v127.toNat, 128]
def k0_off8 (k0_t1 : Fin k0_t1_loop.trips) : Fin 2 → Nat :=
  let c0_i32_11 : BitVec 32 := 0#32
  let c1_i32_12 : BitVec 32 := 1#32
  let arg12 : BitVec 32 := Scf.iv c0_i32_11 c1_i32_12 k0_t1
  let c256_i32_14 : BitVec 32 := 256#32
  let v40 : BitVec 32 := Scalar.muli arg12 c256_i32_14
  let v41 : BitVec 32 := v40
  let v134 : Index := Scalar.indexCast v41
  let c896 : Index := 896#32
  ![v134.toNat, 896]
def k0_off9 (k0_t1 : Fin k0_t1_loop.trips) : Fin 2 → Nat :=
  let c0_i32_11 : BitVec 32 := 0#32
  let c1_i32_12 : BitVec 32 := 1#32
  let arg12 : BitVec 32 := Scf.iv c0_i32_11 c1_i32_12 k0_t1
  let c256_i32_14 : BitVec 32 := 256#32
  let v40 : BitVec 32 := Scalar.muli arg12 c256_i32_14
  let v41 : BitVec 32 := v40
  let v152 : Index := Scalar.indexCast v41
  let c256 : Index := 256#32
  ![v152.toNat, 256]
def k0_off10 (k0_t1 : Fin k0_t1_loop.trips) : Fin 2 → Nat :=
  let c0_i32_11 : BitVec 32 := 0#32
  let c1_i32_12 : BitVec 32 := 1#32
  let arg12 : BitVec 32 := Scf.iv c0_i32_11 c1_i32_12 k0_t1
  let c256_i32_14 : BitVec 32 := 256#32
  let v40 : BitVec 32 := Scalar.muli arg12 c256_i32_14
  let v41 : BitVec 32 := v40
  let v159 : Index := Scalar.indexCast v41
  let c1024 : Index := 1024#32
  ![v159.toNat, 1024]
def k0_off11 (k0_t1 : Fin k0_t1_loop.trips) : Fin 2 → Nat :=
  let c0_i32_11 : BitVec 32 := 0#32
  let c1_i32_12 : BitVec 32 := 1#32
  let arg12 : BitVec 32 := Scf.iv c0_i32_11 c1_i32_12 k0_t1
  let c256_i32_14 : BitVec 32 := 256#32
  let v40 : BitVec 32 := Scalar.muli arg12 c256_i32_14
  let v41 : BitVec 32 := v40
  let v177 : Index := Scalar.indexCast v41
  let c384 : Index := 384#32
  ![v177.toNat, 384]
def k0_off12 (k0_t1 : Fin k0_t1_loop.trips) : Fin 2 → Nat :=
  let c0_i32_11 : BitVec 32 := 0#32
  let c1_i32_12 : BitVec 32 := 1#32
  let arg12 : BitVec 32 := Scf.iv c0_i32_11 c1_i32_12 k0_t1
  let c256_i32_14 : BitVec 32 := 256#32
  let v40 : BitVec 32 := Scalar.muli arg12 c256_i32_14
  let v41 : BitVec 32 := v40
  let v184 : Index := Scalar.indexCast v41
  let c1152 : Index := 1152#32
  ![v184.toNat, 1152]
def k0_off13 (k0_t1 : Fin k0_t1_loop.trips) : Fin 2 → Nat :=
  let c0_i32_11 : BitVec 32 := 0#32
  let c1_i32_12 : BitVec 32 := 1#32
  let arg12 : BitVec 32 := Scf.iv c0_i32_11 c1_i32_12 k0_t1
  let c256_i32_14 : BitVec 32 := 256#32
  let v40 : BitVec 32 := Scalar.muli arg12 c256_i32_14
  let v41 : BitVec 32 := v40
  let v202 : Index := Scalar.indexCast v41
  let c512 : Index := 512#32
  ![v202.toNat, 512]
def k0_off14 (k0_t1 : Fin k0_t1_loop.trips) : Fin 2 → Nat :=
  let c0_i32_11 : BitVec 32 := 0#32
  let c1_i32_12 : BitVec 32 := 1#32
  let arg12 : BitVec 32 := Scf.iv c0_i32_11 c1_i32_12 k0_t1
  let c256_i32_14 : BitVec 32 := 256#32
  let v40 : BitVec 32 := Scalar.muli arg12 c256_i32_14
  let v41 : BitVec 32 := v40
  let v209 : Index := Scalar.indexCast v41
  let c1280 : Index := 1280#32
  ![v209.toNat, 1280]
def k0_off15 (k0_t1 : Fin k0_t1_loop.trips) : Fin 2 → Nat :=
  let c0_i32_11 : BitVec 32 := 0#32
  let c1_i32_12 : BitVec 32 := 1#32
  let arg12 : BitVec 32 := Scf.iv c0_i32_11 c1_i32_12 k0_t1
  let c256_i32_14 : BitVec 32 := 256#32
  let v40 : BitVec 32 := Scalar.muli arg12 c256_i32_14
  let v41 : BitVec 32 := v40
  let v227 : Index := Scalar.indexCast v41
  let c640 : Index := 640#32
  ![v227.toNat, 640]
def k0_off16 (k0_t1 : Fin k0_t1_loop.trips) : Fin 2 → Nat :=
  let c0_i32_11 : BitVec 32 := 0#32
  let c1_i32_12 : BitVec 32 := 1#32
  let arg12 : BitVec 32 := Scf.iv c0_i32_11 c1_i32_12 k0_t1
  let c256_i32_14 : BitVec 32 := 256#32
  let v40 : BitVec 32 := Scalar.muli arg12 c256_i32_14
  let v41 : BitVec 32 := v40
  let v234 : Index := Scalar.indexCast v41
  let c1408 : Index := 1408#32
  ![v234.toNat, 1408]
def k0_off17 (i : grid0.Coords) : Fin 1 → Nat :=
  let arg0 : BitVec 32 := BitVec.ofNat 32 (i 0).val
  let c1_i32 : BitVec 32 := 1#32
  let v4 : BitVec 32 := Scalar.subi arg0 c1_i32
  let c0_i32 : BitVec 32 := 0#32
  let v5 : BitVec 32 := Scalar.maxsi v4 c0_i32
  let v17 : Index := Scalar.indexCast v5
  ![v17.toNat]
def k0_off18 (v3 : BitVec 32) : Fin 1 → Nat :=
  let v23 : Index := Scalar.indexCast v3
  ![v23.toNat]
def k0_cond1 (i : grid0.Coords) (v7 : BitVec 32) : BitVec 1 :=
  let arg0 : BitVec 32 := BitVec.ofNat 32 (i 0).val
  let v8 : BitVec 1 := Scalar.cmpi .slt arg0 v7
  let v9 : BitVec 32 := Scalar.extui v8
  let c0_i32_1 : BitVec 32 := 0#32
  let v10 : BitVec 1 := Scalar.cmpi .ne v9 c0_i32_1
  v10

def k0_off19 (v3 : BitVec 32) : Fin 1 → Nat :=
  let c1_i32_4 : BitVec 32 := 1#32
  let v27 : BitVec 32 := Scalar.addi v3 c1_i32_4
  let v28 : Index := Scalar.indexCast v27
  ![v28.toNat]

def k0_chk1 (i : grid0.Coords) (v3 : BitVec 32) (v7 : BitVec 32) : Prop :=
  (∀ (k0_h1 : k0_cond1 i v7 = 1#1), ∀ a, (k0_off18 v3) a + S1.size a ≤ S17.size a) ∧
  (∀ (k0_h1 : k0_cond1 i v7 = 1#1), ∀ a, (k0_off19 v3) a + S1.size a ≤ S17.size a)
theorem k0_off18_inb : ∀ (i : grid0.Coords) (v3 : BitVec 32) (v7 : BitVec 32) (k0_hw1 : k0_chk1 i v3 v7), ∀ (k0_h1 : k0_cond1 i v7 = 1#1), ∀ a, (k0_off18 v3) a + S1.size a ≤ S17.size a := fun i v3 v7 k0_hw1 k0_h1 => k0_hw1.1 k0_h1
theorem k0_off19_inb : ∀ (i : grid0.Coords) (v3 : BitVec 32) (v7 : BitVec 32) (k0_hw1 : k0_chk1 i v3 v7), ∀ (k0_h1 : k0_cond1 i v7 = 1#1), ∀ a, (k0_off19 v3) a + S1.size a ≤ S17.size a := fun i v3 v7 k0_hw1 k0_h1 => k0_hw1.2 k0_h1

@[reducible] def k0_t2_loop : Scf.Loop 32 :=
  let c0_i32_6 : BitVec 32 := 0#32
  let c10_i32 : BitVec 32 := 10#32
  let v38 : BitVec 32 := Scalar.addi c0_i32_6 c10_i32
  let c1_i32_7 : BitVec 32 := 1#32
  ⟨c0_i32_6, v38, c1_i32_7⟩
def k0_mult2 (k0_t2 : Fin k0_t2_loop.trips) : BitVec 32 :=
  let c0_i32_6 : BitVec 32 := 0#32
  let c1_i32_7 : BitVec 32 := 1#32
  let arg12 : BitVec 32 := Scf.iv c0_i32_6 c1_i32_7 k0_t2
  let c512_i32 : BitVec 32 := 512#32
  let v39 : BitVec 32 := Scalar.muli arg12 c512_i32
  v39
def k0_off20 (k0_t2 : Fin k0_t2_loop.trips) : Fin 2 → Nat :=
  let c0_i32_6 : BitVec 32 := 0#32
  let c1_i32_7 : BitVec 32 := 1#32
  let arg12 : BitVec 32 := Scf.iv c0_i32_6 c1_i32_7 k0_t2
  let c512_i32 : BitVec 32 := 512#32
  let v39 : BitVec 32 := Scalar.muli arg12 c512_i32
  let v40 : BitVec 32 := v39
  let v42 : Index := Scalar.indexCast v40
  let c0_11 : Index := 0#32
  ![v42.toNat, 0]
def k0_off21 (k0_t2 : Fin k0_t2_loop.trips) : Fin 2 → Nat :=
  let c0_14 : Index := 0#32
  let c0_i32_6 : BitVec 32 := 0#32
  let c1_i32_7 : BitVec 32 := 1#32
  let arg12 : BitVec 32 := Scf.iv c0_i32_6 c1_i32_7 k0_t2
  let c512_i32 : BitVec 32 := 512#32
  let v39 : BitVec 32 := Scalar.muli arg12 c512_i32
  let v40 : BitVec 32 := v39
  let v49 : Index := Scalar.indexCast v40
  ![0, v49.toNat]
def cc0_transform_0 (k0_off1_inb : ∀ i : grid0.Coords, ∀ a, (k0_off1 i) a + S1.size a ≤ S111.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S111) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S111.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S111) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S111.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S111) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S111.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S111) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x5120x768 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x5120x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5120 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S24576x1536 : Shape := ⟨2, ![24576, 1536]⟩
abbrev S16 : Shape := ⟨1, ![16]⟩
abbrev S16x5120x768 : Shape := ⟨3, ![16, 5120, 768]⟩
abbrev S16x5120x48 : Shape := ⟨3, ![16, 5120, 48]⟩
abbrev S_ : Shape := ⟨0, ![]⟩
abbrev S24576 : Shape := ⟨1, ![24576]⟩
abbrev S24576x1 : Shape := ⟨2, ![24576, 1]⟩
abbrev S277 : Shape := ⟨1, ![277]⟩
abbrev S1x277 : Shape := ⟨2, ![1, 277]⟩
abbrev S24576x277 : Shape := ⟨2, ![24576, 277]⟩
abbrev S24576x768x2 : Shape := ⟨3, ![24576, 768, 2]⟩
abbrev S24576x768x1 : Shape := ⟨3, ![24576, 768, 1]⟩
abbrev S24576x768 : Shape := ⟨2, ![24576, 768]⟩
abbrev S16x5120x48x1 : Shape := ⟨4, ![16, 5120, 48, 1]⟩
abbrev S16x5120x48x16 : Shape := ⟨4, ![16, 5120, 48, 16]⟩
abbrev S16x768x5120 : Shape := ⟨3, ![16, 768, 5120]⟩
abbrev S16x5120x24576 : Shape := ⟨3, ![16, 5120, 24576]⟩
abbrev S16x1 : Shape := ⟨2, ![16, 1]⟩
abbrev S1x24576 : Shape := ⟨2, ![1, 24576]⟩
abbrev S16x24576 : Shape := ⟨2, ![16, 24576]⟩
abbrev S16x1x24576 : Shape := ⟨3, ![16, 1, 24576]⟩
abbrev S5120x24576 : Shape := ⟨2, ![5120, 24576]⟩
abbrev S24576x5120 : Shape := ⟨2, ![24576, 5120]⟩

abbrev nBuf : Space → Nat
  | .hbm => 140
  | .vmem => 3
  | .smem => 0
  | _ => 0

abbrev hbmTy0_0 (i : Nat) : BufTy := match i % 128 with
  | 0 => ⟨S24576x1536, .bf16⟩
  | 1 => ⟨S16, .i32⟩
  | 2 => ⟨S16x5120x768, .i8⟩
  | 3 => ⟨S16x5120x48, .f32⟩
  | 4 => ⟨S24576x1536, .f32⟩
  | 5 => ⟨S24576x1536, .f32⟩
  | 6 => ⟨S_, .f32⟩
  | 7 => ⟨S24576, .f32⟩
  | 8 => ⟨S24576x1, .f32⟩
  | 9 => ⟨S_, .f32⟩
  | 10 => ⟨S24576x1, .f32⟩
  | 11 => ⟨S24576x1, .f32⟩
  | 12 => ⟨S277, .f32⟩
  | 13 => ⟨S_, .f32⟩
  | 14 => ⟨S277, .f32⟩
  | 15 => ⟨S277, .f32⟩
  | 16 => ⟨S1x277, .f32⟩
  | 17 => ⟨S_, .f32⟩
  | 18 => ⟨S1x277, .f32⟩
  | 19 => ⟨S1x277, .f32⟩
  | 20 => ⟨S24576x277, .f32⟩
  | 21 => ⟨S24576x277, .f32⟩
  | 22 => ⟨S24576x277, .i1⟩
  | 23 => ⟨S_, .f32⟩
  | 24 => ⟨S_, .f32⟩
  | 25 => ⟨S24576x277, .f32⟩
  | 26 => ⟨S24576x277, .f32⟩
  | 27 => ⟨S24576x277, .f32⟩
  | 28 => ⟨S_, .f32⟩
  | 29 => ⟨S24576, .f32⟩
  | 30 => ⟨S24576x1, .f32⟩
  | 31 => ⟨S_, .f32⟩
  | 32 => ⟨S24576x1, .f32⟩
  | 33 => ⟨S24576x1, .i1⟩
  | 34 => ⟨S_, .f32⟩
  | 35 => ⟨S_, .f32⟩
  | 36 => ⟨S24576x1, .f32⟩
  | 37 => ⟨S24576x1, .f32⟩
  | 38 => ⟨S24576x1, .f32⟩
  | 39 => ⟨S_, .f32⟩
  | 40 => ⟨S24576x1, .f32⟩
  | 41 => ⟨S24576x1, .f32⟩
  | 42 => ⟨S24576x1536, .bf16⟩
  | 43 => ⟨S_, .f32⟩
  | 44 => ⟨S24576x1, .f32⟩
  | 45 => ⟨S24576x1, .f32⟩
  | 46 => ⟨S24576x768x2, .bf16⟩
  | 47 => ⟨S24576x768x1, .bf16⟩
  | 48 => ⟨S24576x768, .bf16⟩
  | 49 => ⟨S24576x768x1, .bf16⟩
  | 50 => ⟨S24576x768, .bf16⟩
  | 51 => ⟨S16x5120x768, .i32⟩
  | 52 => ⟨S16x5120x48, .bf16⟩
  | 53 => ⟨S16x5120x48x1, .bf16⟩
  | 54 => ⟨S_, .i32⟩
  | 55 => ⟨S16x5120x768, .i32⟩
  | 56 => ⟨S16x5120x768, .i32⟩
  | 57 => ⟨S_, .i32⟩
  | 58 => ⟨S16x5120x768, .i32⟩
  | 59 => ⟨S16x5120x768, .i1⟩
  | 60 => ⟨S_, .i32⟩
  | 61 => ⟨S16x5120x768, .i32⟩
  | 62 => ⟨S16x5120x768, .i32⟩
  | 63 => ⟨S16x5120x768, .i32⟩
  | 64 => ⟨S16x5120x768, .bf16⟩
  | 65 => ⟨S16x5120x48x16, .bf16⟩
  | 66 => ⟨S16x5120x48x16, .bf16⟩
  | 67 => ⟨S16x5120x48x16, .bf16⟩
  | 68 => ⟨S16x5120x768, .bf16⟩
  | 69 => ⟨S16x768x5120, .bf16⟩
  | 70 => ⟨S_, .i32⟩
  | 71 => ⟨S16x5120x768, .i32⟩
  | 72 => ⟨S16x5120x768, .i32⟩
  | 73 => ⟨S_, .i32⟩
  | 74 => ⟨S16x5120x768, .i32⟩
  | 75 => ⟨S16x5120x768, .i1⟩
  | 76 => ⟨S_, .i32⟩
  | 77 => ⟨S16x5120x768, .i32⟩
  | 78 => ⟨S16x5120x768, .i32⟩
  | 79 => ⟨S16x5120x768, .i32⟩
  | 80 => ⟨S16x5120x768, .bf16⟩
  | 81 => ⟨S16x5120x48x16, .bf16⟩
  | 82 => ⟨S16x5120x48x16, .bf16⟩
  | 83 => ⟨S16x5120x48x16, .bf16⟩
  | 84 => ⟨S16x5120x768, .bf16⟩
  | 85 => ⟨S16x768x5120, .bf16⟩
  | 86 => ⟨S16x5120x24576, .f32⟩
  | 87 => ⟨S_, .i32⟩
  | 88 => ⟨S_, .i32⟩
  | 89 => ⟨S16, .i32⟩
  | 90 => ⟨S16x1, .i32⟩
  | 91 => ⟨S24576, .i32⟩
  | 92 => ⟨S1x24576, .i32⟩
  | 93 => ⟨S16x1, .i32⟩
  | 94 => ⟨S16x1, .i32⟩
  | 95 => ⟨S16x24576, .i32⟩
  | 96 => ⟨S16x24576, .i32⟩
  | 97 => ⟨S16x24576, .i1⟩
  | 98 => ⟨S16x24576, .i32⟩
  | 99 => ⟨S16x24576, .i32⟩
  | 100 => ⟨S16x24576, .i1⟩
  | 101 => ⟨S16x24576, .i1⟩
  | 102 => ⟨S16x1x24576, .i1⟩
  | 103 => ⟨S_, .f32⟩
  | 104 => ⟨S_, .f32⟩
  | 105 => ⟨S16x5120x24576, .i1⟩
  | 106 => ⟨S16x5120x24576, .f32⟩
  | 107 => ⟨S16x5120x24576, .f32⟩
  | 108 => ⟨S_, .f32⟩
  | 109 => ⟨S5120x24576, .f32⟩
  | 110 => ⟨S24576x5120, .f32⟩
  | 111 => ⟨S16x5120x24576, .f32⟩
  | 112 => ⟨S_, .i32⟩
  | 113 => ⟨S_, .i32⟩
  | 114 => ⟨S16, .i32⟩
  | 115 => ⟨S16x1, .i32⟩
  | 116 => ⟨S24576, .i32⟩
  | 117 => ⟨S1x24576, .i32⟩
  | 118 => ⟨S16x1, .i32⟩
  | 119 => ⟨S16x1, .i32⟩
  | 120 => ⟨S16x24576, .i32⟩
  | 121 => ⟨S16x24576, .i32⟩
  | 122 => ⟨S16x24576, .i1⟩
  | 123 => ⟨S16x24576, .i32⟩
  | 124 => ⟨S16x24576, .i32⟩
  | 125 => ⟨S16x24576, .i1⟩
  | 126 => ⟨S16x24576, .i1⟩
  | 127 => ⟨S16x1x24576, .i1⟩
  | _ => ⟨S24576x1536, .bf16⟩

abbrev hbmTy0_1 (i : Nat) : BufTy := match i % 128 with
  | 0 => ⟨S_, .f32⟩
  | 1 => ⟨S_, .f32⟩
  | 2 => ⟨S16x5120x24576, .i1⟩
  | 3 => ⟨S16x5120x24576, .f32⟩
  | 4 => ⟨S16x5120x24576, .f32⟩
  | 5 => ⟨S_, .f32⟩
  | 6 => ⟨S5120x24576, .f32⟩
  | 7 => ⟨S24576x5120, .f32⟩
  | 8 => ⟨S24576x5120, .f32⟩
  | 9 => ⟨S24576x5120, .f32⟩
  | 10 => ⟨S24576x5120, .f32⟩
  | 11 => ⟨S24576x5120, .bf16⟩
  | _ => ⟨S24576x1536, .bf16⟩

abbrev hbmTy (i : Nat) : BufTy := match i / 128 with
  | 0 => hbmTy0_0 i
  | 1 => hbmTy0_1 i
  | _ => ⟨S24576x1536, .bf16⟩

abbrev bufTy : (tb : Table) → Fin (tcTables nBuf tb) → BufTy
  | .hbm, ⟨i, _⟩ => hbmTy i
  | .local _ .vmem, ⟨0, _⟩ => ⟨S24576x1536, .bf16⟩
  | .local _ .vmem, ⟨1, _⟩ => ⟨S24576x1, .f32⟩
  | .local _ .vmem, ⟨2, _⟩ => ⟨S24576x1536, .bf16⟩
  | _, _ => ⟨S24576x1536, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_call1_v0 : Ref sig .tc := ⟨.hbm, 35, rfl⟩
abbrev main_call1_v1 : Ref sig .tc := ⟨.hbm, 36, rfl⟩
abbrev main_v20 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c : Ref sig .tc := ⟨.hbm, 54, rfl⟩
abbrev main_v35 : Ref sig .tc := ⟨.hbm, 55, rfl⟩
abbrev main_v36 : Ref sig .tc := ⟨.hbm, 56, rfl⟩
abbrev main_c_9 : Ref sig .tc := ⟨.hbm, 57, rfl⟩
abbrev main_v37 : Ref sig .tc := ⟨.hbm, 58, rfl⟩
abbrev main_v38 : Ref sig .tc := ⟨.hbm, 59, rfl⟩
abbrev main_c_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_11 : Ref sig .tc := ⟨.hbm, 70, rfl⟩
abbrev main_v48 : Ref sig .tc := ⟨.hbm, 71, rfl⟩
abbrev main_v49 : Ref sig .tc := ⟨.hbm, 72, rfl⟩
abbrev main_c_12 : Ref sig .tc := ⟨.hbm, 73, rfl⟩
abbrev main_v50 : Ref sig .tc := ⟨.hbm, 74, rfl⟩
abbrev main_v51 : Ref sig .tc := ⟨.hbm, 75, rfl⟩
abbrev main_c_13 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call4_call0_c : Ref sig .tc := ⟨.hbm, 87, rfl⟩
abbrev main_call4_call0_v0 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_call5_v0 : Ref sig .tc := ⟨.hbm, 104, rfl⟩
abbrev main_call5_v1 : Ref sig .tc := ⟨.hbm, 105, rfl⟩
abbrev main_call5_v2 : Ref sig .tc := ⟨.hbm, 106, rfl⟩
abbrev main_v76 : Ref sig .tc := ⟨.hbm, 107, rfl⟩
abbrev main_cst_15 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_call6_call0_c : Ref sig .tc := ⟨.hbm, 112, rfl⟩
abbrev main_call6_call0_v0 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_16 : Ref sig .tc := ⟨.hbm, 128, rfl⟩
abbrev main_call7_v0 : Ref sig .tc := ⟨.hbm, 129, rfl⟩
abbrev main_call7_v1 : Ref sig .tc := ⟨.hbm, 130, rfl⟩
abbrev main_call7_v2 : Ref sig .tc := ⟨.hbm, 131, rfl⟩
abbrev main_v94 : Ref sig .tc := ⟨.hbm, 132, rfl⟩
abbrev main_cst_17 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S24576x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.My.BodyT.lean ====
module

public import proofs.«01_k».proof.Proof.Gen.KernelIdeal.Launch
public import proofs.«01_k».proof.Proof.Gen.KernelIdeal.Loops
public import Idealize.ShloMosaic.Lib.Pipeline.Regions
public import Idealize.ShloMosaic.Lib.Pipeline.DatRel

@[expose] public section

set_option maxRecDepth 8192

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (bd : Option Variants.none.V) (E : Set ℕ) (i : grid0.Coords)
variable (arg1 : Memref sig .tc .smem S111 .i32) (harg1 : arg1.IsWhole) (arg2 : Memref sig .tc .smem S111 .i32) (harg2 : arg2.IsWhole) (arg3 : Memref sig .tc .smem S17 .i32) (harg3 : arg3.IsWhole) (arg4 : Memref sig .tc .smem S1 .i32) (harg4 : arg4.IsWhole) (arg5 : Memref sig .tc .vmem S256x1536 .bf16) (harg5 : arg5.IsWhole) (arg6 : Memref sig .tc .vmem S1x5120x768 .i8) (harg6 : arg6.IsWhole) (arg7 : Memref sig .tc .vmem S1x5120x48 .f32) (harg7 : arg7.IsWhole) (arg8 : Memref sig .tc .vmem S256x5120 .bf16) (harg8 : arg8.IsWhole) (arg9 : Memref sig .tc .vmem S5120x1536 .bf16) (harg9 : arg9.IsWhole) (arg10 : Memref sig .tc .vmem S256x1536 .bf16) (harg10 : arg10.IsWhole) (arg11 : Memref sig .tc .vmem S256x1 .f32) (harg11 : arg11.IsWhole)
variable (X1 : BufTy.Contents (Elt F) arg1.view.ty) (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty) (X8 : BufTy.Contents (Elt F) arg8.view.ty)
    (X9 : BufTy.Contents (Elt F) arg9.view.ty) (X10 : BufTy.Contents (Elt F) arg10.view.ty) (X11 : BufTy.Contents (Elt F) arg11.view.ty)

abbrev w1 : BitVec 32 := View.readAt (Elt F) arg1.view (Rect.unit (s := S111) (k0_off1 i) S1.size (k0_off1_inb i)).toLoadRect X1 (Shape.Idx.first (s := S1) (numel1_S1.symm ▸ Nat.one_pos))
abbrev w3 : BitVec 32 := View.readAt (Elt F) arg2.view (Rect.unit (s := S111) (k0_off1 i) S1.size (k0_off1_inb i)).toLoadRect X2 (Shape.Idx.first (s := S1) (numel1_S1.symm ▸ Nat.one_pos))
abbrev w7 : BitVec 32 := View.readAt (Elt F) arg4.view (Rect.unit (s := S1) ![0] S1.size inb_S1_S1_0).toLoadRect X4 (Shape.Idx.first (s := S1) (numel1_S1.symm ▸ Nat.one_pos))
abbrev w12 : BitVec 32 := View.readAt (Elt F) arg2.view (Rect.unit (s := S111) (k0_off2 i) S1.size (k0_off2_inb i)).toLoadRect X2 (Shape.Idx.first (s := S1) (numel1_S1.symm ▸ Nat.one_pos))
abbrev w18 : BitVec 32 := View.readAt (Elt F) arg1.view (Rect.unit (s := S111) (k0_off17 i) S1.size (k0_off17_inb i)).toLoadRect X1 (Shape.Idx.first (s := S1) (numel1_S1.symm ▸ Nat.one_pos))

abbrev v43 : Memref sig .tc .vmem S5120x768 .i8 := (arg6.slice (Rect.unit (s := S1x5120x768) ![0, 0, 0] S1x5120x768.size inb_S1x5120x768_S1x5120x768_0_0_0) (fun _ => rfl)).squeeze S5120x768 squeezes_S1x5120x768_S5120x768
abbrev v56 : Memref sig .tc .vmem S5120x48 .f32 := (arg7.slice (Rect.unit (s := S1x5120x48) ![0, 0, 0] S1x5120x48.size inb_S1x5120x48_S1x5120x48_0_0_0) (fun _ => rfl)).squeeze S5120x48 squeezes_S1x5120x48_S5120x48

abbrev isFirst : BitVec 1 := Scalar.cmpi .eq (BitVec.ofNat 32 (i 0).val) 0#32
abbrev newOf (old new : BitVec 32) : BitVec 1 := Scalar.cmpi .ne (Scalar.extui (Scalar.ori (isFirst i) (Scalar.cmpi .ne old new)) : BitVec 32) 0#32

abbrev Held : sProp 𝕄G := iprop((arg1.view.loc (c : Thread nD τ) ↦[arg1.view.set]{fullShare.right} X1) ∗ (arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare.right} X4)
      ∗ (arg5.view.loc (c : Thread nD τ) ↦[arg5.view.set]{fullShare} X5) ∗ ((v43 arg6).view.loc (c : Thread nD τ) ↦[(v43 arg6).view.set]{fullShare} X6) ∗ ((v56 arg7).view.loc (c : Thread nD τ) ↦[(v56 arg7).view.set]{fullShare} X7) ∗ (arg8.view.loc (c : Thread nD τ) ↦[arg8.view.set]{fullShare} X8)
      ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11))

/-- The pieces the dequantising loop writes. -/
abbrev dqL : List (View.Piece (Elt F) S5120x1536 .bf16) :=
  pb_k0_t1 (F := F) Variants.none c bd i arg1 harg1 arg2 harg2 arg3 harg3 arg4 harg4 arg5 harg5 arg6 harg6 arg7 harg7 arg8 harg8 arg9 harg9 arg10 harg10 arg11 harg11 (v43 arg6) rfl (v56 arg7) rfl X6 X7 (Scf.trips k0_t1_loop.lb k0_t1_loop.ub k0_t1_loop.st)

/-- The pieces the output loop writes. -/
abbrev outL (v1 v24 v29 : BitVec 32) : List (View.Piece (Elt F) S256x5120 .bf16) :=
  pb_k0_t2 (F := F) Variants.none c bd i arg1 harg1 arg2 harg2 arg3 harg3 arg4 harg4 arg5 harg5 arg6 harg6 arg7 harg7 arg8 harg8 arg9 harg9 arg10 harg10 arg11 harg11 v1 v24 v29 X9 X10 X11 X8 (Scf.trips k0_t2_loop.lb k0_t2_loop.ub k0_t2_loop.st)

abbrev w24 (v3 : BitVec 32) (h : ∀ a, (k0_off18 v3) a + S1.size a ≤ S17.size a) : BitVec 32 := View.readAt (Elt F) arg3.view (Rect.unit (s := S17) (k0_off18 v3) S1.size h).toLoadRect X3 (Shape.Idx.first (s := S1) (numel1_S1.symm ▸ Nat.one_pos))
abbrev w29 (v3 : BitVec 32) (h : ∀ a, (k0_off19 v3) a + S1.size a ≤ S17.size a) : BitVec 32 := View.readAt (Elt F) arg3.view (Rect.unit (s := S17) (k0_off19 v3) S1.size h).toLoadRect X3 (Shape.Idx.first (s := S1) (numel1_S1.symm ▸ Nat.one_pos))

set_option maxHeartbeats 2000000 in
/-- A point that does no work. -/
theorem body_N (hchk : k0_chk1 i (w3 (F := F) i arg2 X2) (w7 (F := F) arg4 X4))
    (hc : ¬ k0_cond1 i (w7 (F := F) arg4 X4) = 1#1) :
    (Held (F := F) c arg1 arg2 arg3 arg4 arg5 arg6 arg7 arg8 arg9 arg10 arg11 X1 X2 X3 X4 X5 X6 X7 X8 X9 X10 X11) ⊢ wp frame (wpE (defs₀ (F := F)) Variants.none (c : Thread nD τ) bd) E
        (cc0_int4_dgrad (F := F) i arg1 harg1 arg2 harg2 arg3 harg3 arg4 harg4 arg5 harg5 arg6 harg6 arg7 harg7 arg8 harg8 arg9 harg9 arg10 harg10 arg11 harg11)
        (fun _ => Held (F := F) c arg1 arg2 arg3 arg4 arg5 arg6 arg7 arg8 arg9 arg10 arg11 X1 X2 X3 X4 X5 X6 X7 X8 X9 X10 X11) := by
  iintro ⟨H1, H2, H3, H4, H5, H6, H7, H8, H9, H10, H11⟩
  sl_unfold [cc0_int4_dgrad]
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 2000000 in
/-- A point of a new expert and a new tile. The pieces the quantiser writes are found by the run. -/
def body_DQ
    (hchk : k0_chk1 i (w3 (F := F) i arg2 X2) (w7 (F := F) arg4 X4))
    (hc : k0_cond1 i (w7 (F := F) arg4 X4) = 1#1)
    (hd : newOf i (w12 (F := F) i arg2 X2) (w3 (F := F) i arg2 X2) = 1#1)
    (hq : newOf i (w18 (F := F) i arg1 X1) (w1 (F := F) i arg1 X1) = 1#1)
    :
    { L : List (View.Piece (Elt F) S256x1536 .bf16) × List (View.Piece (Elt F) S256x1 .f32) //
      ∀ (E : Set ℕ), (Held (F := F) c arg1 arg2 arg3 arg4 arg5 arg6 arg7 arg8 arg9 arg10 arg11 X1 X2 X3 X4 X5 X6 X7 X8 X9 X10 X11) ⊢ wp frame (wpE (defs₀ (F := F)) Variants.none (c : Thread nD τ) bd) E
        (cc0_int4_dgrad (F := F) i arg1 harg1 arg2 harg2 arg3 harg3 arg4 harg4 arg5 harg5 arg6 harg6 arg7 harg7 arg8 harg8 arg9 harg9 arg10 harg10 arg11 harg11)
        (fun _ => Held (F := F) c arg1 arg2 arg3 arg4 arg5 arg6 arg7 arg8 arg9 arg10 arg11 X1 X2 X3 X4 X5 X6 X7 (arg8.view.writes (Elt F) X8 (outL (F := F) c bd i arg1 harg1 arg2 harg2 arg3 harg3 arg4 harg4 arg5 harg5 arg6 harg6 arg7 harg7 arg8 harg8 arg9 harg9 arg10 harg10 arg11 harg11 X8 (arg9.view.writes (Elt F) X9 (dqL (F := F) c bd i arg1 harg1 arg2 harg2 arg3 harg3 arg4 harg4 arg5 harg5 arg6 harg6 arg7 harg7 arg8 harg8 arg9 harg9 arg10 harg10 arg11 harg11 X6 X7)) (arg10.view.writes (Elt F) arg10.view.junk L.1) (arg11.view.writes (Elt F) arg11.view.junk L.2) (w1 (F := F) i arg1 X1) (w24 (F := F) arg3 X3 (w3 (F := F) i arg2 X2) (hchk.1 hc)) (w29 (F := F) arg3 X3 (w3 (F := F) i arg2 X2) (hchk.2 hc)))) (arg9.view.writes (Elt F) X9 (dqL (F := F) c bd i arg1 harg1 arg2 harg2 arg3 harg3 arg4 harg4 arg5 harg5 arg6 harg6 arg7 harg7 arg8 harg8 arg9 harg9 arg10 harg10 arg11 harg11 X6 X7)) (arg10.view.writes (Elt F) arg10.view.junk L.1) (arg11.view.writes (Elt F) arg11.view.junk L.2)) } := by
  refine ⟨⟨?_, ?_⟩, fun E => ?_⟩
  rotate_left 2
  iintro ⟨H1, H2, H3, H4, H5, H6, H7, H8, H9, H10, H11⟩
  sl_unfold [cc0_int4_dgrad]
  sl_exec
  sl_step
  sl_close

end Cert.KernelIdeal.Gen
end
-- ==== Proof.My.BodyW.lean ====
module

public import proofs.«01_k».proof.Proof.My.BodyT

@[expose] public section

set_option maxRecDepth 8192

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (bd : Option Variants.none.V) (E : Set ℕ) (i : grid0.Coords)
variable (arg1 : Memref sig .tc .smem S111 .i32) (harg1 : arg1.IsWhole) (arg2 : Memref sig .tc .smem S111 .i32) (harg2 : arg2.IsWhole) (arg3 : Memref sig .tc .smem S17 .i32) (harg3 : arg3.IsWhole) (arg4 : Memref sig .tc .smem S1 .i32) (harg4 : arg4.IsWhole) (arg5 : Memref sig .tc .vmem S256x1536 .bf16) (harg5 : arg5.IsWhole) (arg6 : Memref sig .tc .vmem S1x5120x768 .i8) (harg6 : arg6.IsWhole) (arg7 : Memref sig .tc .vmem S1x5120x48 .f32) (harg7 : arg7.IsWhole) (arg8 : Memref sig .tc .vmem S256x5120 .bf16) (harg8 : arg8.IsWhole) (arg9 : Memref sig .tc .vmem S5120x1536 .bf16) (harg9 : arg9.IsWhole) (arg10 : Memref sig .tc .vmem S256x1536 .bf16) (harg10 : arg10.IsWhole) (arg11 : Memref sig .tc .vmem S256x1 .f32) (harg11 : arg11.IsWhole)
variable (X1 : BufTy.Contents (Elt F) arg1.view.ty) (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty) (X8 : BufTy.Contents (Elt F) arg8.view.ty)
    (X9 : BufTy.Contents (Elt F) arg9.view.ty) (X10 : BufTy.Contents (Elt F) arg10.view.ty) (X11 : BufTy.Contents (Elt F) arg11.view.ty)

/-- One block of codes: the lanes `ix` of two blocks side by side, on a sixteenth of their scale. -/
def gath (l r : FVec F S256x128 .f32) (ix : IVec S256x128 32) : FVec F S256x128 .bf16 :=
  have v307 : IVec S256x128 32 := broadcast S256x128 0#32
  have v308 : IVec S256x128 1 := cmpi .slt ix v307
  have v309 : IVec S256x128 32 := broadcast S256x128 128#32
  have v310 : IVec S256x128 32 := addi ix v309
  have v311 : IVec S256x128 32 := select v308 v310 ix
  have v312 : IVec S256x128x1 32 := shapeCast S256x128x1 v311 shapeCasts_S256x128_S256x128x1
  have v313 : IVec S256x128 32 := shapeCast S256x128 v312 shapeCasts_S256x128x1_S256x128
  have v315 : FVec F S256x128 .f32 := select k0_pay37 (dynamicGather 1 l v313) (dynamicGather 1 r v313)
  have v316 : FVec F S256x128 .fp8e5m2 := truncf .fp8e5m2 v315 bitsLt_fp8e5m2_f32
  have v317 : FVec F S256x128 .bf16 := extf .bf16 v316 bitsLt_fp8e5m2_bf16
  have v319 : FVec F S256x128 .bf16 := mulf v317 (broadcast S256x128 (Scalar.ofBits .bf16 0x3D80#16))
  shapeCast S256x128 v319 shapeCasts_S256x128_S256x128

/-- The twelve blocks of codes of a tile, the last written first. -/
def qB (v : Vec F S256x1536 .bf16) : List (View.Piece (Elt F) S256x1536 .bf16) :=
  let q := k0_pay36 (k0_pay32 v) (k0_pay35 v)
  [⟨Rect.unit ![0, 1408] S256x128.size inb_S256x1536_S256x128_0_1408, gath (extractStridedSlice S256x128 ![0, 1280] q slices_S256x1536_o0_1280_S256x128) (extractStridedSlice S256x128 ![0, 1408] q slices_S256x1536_o0_1408_S256x128) k0_pay39⟩,
    ⟨Rect.unit ![0, 640] S256x128.size inb_S256x1536_S256x128_0_640, gath (extractStridedSlice S256x128 ![0, 1280] q slices_S256x1536_o0_1280_S256x128) (extractStridedSlice S256x128 ![0, 1408] q slices_S256x1536_o0_1408_S256x128) k0_pay38⟩,
    ⟨Rect.unit ![0, 1280] S256x128.size inb_S256x1536_S256x128_0_1280, gath (extractStridedSlice S256x128 ![0, 1024] q slices_S256x1536_o0_1024_S256x128) (extractStridedSlice S256x128 ![0, 1152] q slices_S256x1536_o0_1152_S256x128) k0_pay39⟩,
    ⟨Rect.unit ![0, 512] S256x128.size inb_S256x1536_S256x128_0_512, gath (extractStridedSlice S256x128 ![0, 1024] q slices_S256x1536_o0_1024_S256x128) (extractStridedSlice S256x128 ![0, 1152] q slices_S256x1536_o0_1152_S256x128) k0_pay38⟩,
    ⟨Rect.unit ![0, 1152] S256x128.size inb_S256x1536_S256x128_0_1152, gath (extractStridedSlice S256x128 ![0, 768] q slices_S256x1536_o0_768_S256x128) (extractStridedSlice S256x128 ![0, 896] q slices_S256x1536_o0_896_S256x128) k0_pay39⟩,
    ⟨Rect.unit ![0, 384] S256x128.size inb_S256x1536_S256x128_0_384, gath (extractStridedSlice S256x128 ![0, 768] q slices_S256x1536_o0_768_S256x128) (extractStridedSlice S256x128 ![0, 896] q slices_S256x1536_o0_896_S256x128) k0_pay38⟩,
    ⟨Rect.unit ![0, 1024] S256x128.size inb_S256x1536_S256x128_0_1024, gath (extractStridedSlice S256x128 ![0, 512] q slices_S256x1536_o0_512_S256x128) (extractStridedSlice S256x128 ![0, 640] q slices_S256x1536_o0_640_S256x128) k0_pay39⟩,
    ⟨Rect.unit ![0, 256] S256x128.size inb_S256x1536_S256x128_0_256, gath (extractStridedSlice S256x128 ![0, 512] q slices_S256x1536_o0_512_S256x128) (extractStridedSlice S256x128 ![0, 640] q slices_S256x1536_o0_640_S256x128) k0_pay38⟩,
    ⟨Rect.unit ![0, 896] S256x128.size inb_S256x1536_S256x128_0_896, gath (extractStridedSlice S256x128 ![0, 256] q slices_S256x1536_o0_256_S256x128) (extractStridedSlice S256x128 ![0, 384] q slices_S256x1536_o0_384_S256x128) k0_pay39⟩,
    ⟨Rect.unit ![0, 128] S256x128.size inb_S256x1536_S256x128_0_128, gath (extractStridedSlice S256x128 ![0, 256] q slices_S256x1536_o0_256_S256x128) (extractStridedSlice S256x128 ![0, 384] q slices_S256x1536_o0_384_S256x128) k0_pay38⟩,
    ⟨Rect.unit ![0, 768] S256x128.size inb_S256x1536_S256x128_0_768, gath (extractStridedSlice S256x128 ![0, 0] q slices_S256x1536_o0_0_S256x128) (extractStridedSlice S256x128 ![0, 128] q slices_S256x1536_o0_128_S256x128) k0_pay39⟩,
    ⟨Rect.unit ![0, 0] S256x128.size inb_S256x1536_S256x128_0_0, gath (extractStridedSlice S256x128 ![0, 0] q slices_S256x1536_o0_0_S256x128) (extractStridedSlice S256x128 ![0, 128] q slices_S256x1536_o0_128_S256x128) k0_pay38⟩]

/-- The pieces the quantiser writes of codes, of the tile it reads. -/
def qL10 : List (View.Piece (Elt F) S256x1536 .bf16) := qB (View.readAt (Elt F) arg5.view (Rect.unit (s := S256x1536) ![0, 0] S256x1536.size inb_S256x1536_S256x1536_0_0).toLoadRect X5)

/-- The piece the quantiser writes of scales. -/
def qL11 : List (View.Piece (Elt F) S256x1 .f32) :=
  [⟨Rect.unit ![0, 0] S256x1.size inb_S256x1_S256x1_0_0, k0_pay34 (View.readAt (Elt F) arg5.view (Rect.unit (s := S256x1536) ![0, 0] S256x1536.size inb_S256x1536_S256x1536_0_0).toLoadRect X5)⟩]

theorem body_DQ_L
    (hchk : k0_chk1 i (w3 (F := F) i arg2 X2) (w7 (F := F) arg4 X4))
    (hc : k0_cond1 i (w7 (F := F) arg4 X4) = 1#1)
    (hd : newOf i (w12 (F := F) i arg2 X2) (w3 (F := F) i arg2 X2) = 1#1)
    (hq : newOf i (w18 (F := F) i arg1 X1) (w1 (F := F) i arg1 X1) = 1#1)
 :
    (body_DQ (F := F) c bd i arg1 harg1 arg2 harg2 arg3 harg3 arg4 harg4 arg5 harg5 arg6 harg6 arg7 harg7 arg8 harg8 arg9 harg9 arg10 harg10 arg11 harg11 X1 X2 X3 X4 X5 X6 X7 X8 X9 X10 X11 hchk hc hd hq).1 = (qL10 arg5 X5, qL11 arg5 X5) := rfl

set_option maxHeartbeats 2000000 in
/-- A point of a new tile and the expert before it. -/
def body_Q
    (hchk : k0_chk1 i (w3 (F := F) i arg2 X2) (w7 (F := F) arg4 X4))
    (hc : k0_cond1 i (w7 (F := F) arg4 X4) = 1#1)
    (hd : ¬ newOf i (w12 (F := F) i arg2 X2) (w3 (F := F) i arg2 X2) = 1#1)
    (hq : newOf i (w18 (F := F) i arg1 X1) (w1 (F := F) i arg1 X1) = 1#1)
 :
    { L : List (View.Piece (Elt F) S256x1536 .bf16) × List (View.Piece (Elt F) S256x1 .f32) //
      ∀ (E : Set ℕ), (Held (F := F) c arg1 arg2 arg3 arg4 arg5 arg6 arg7 arg8 arg9 arg10 arg11 X1 X2 X3 X4 X5 X6 X7 X8 X9 X10 X11) ⊢ wp frame (wpE (defs₀ (F := F)) Variants.none (c : Thread nD τ) bd) E
        (cc0_int4_dgrad (F := F) i arg1 harg1 arg2 harg2 arg3 harg3 arg4 harg4 arg5 harg5 arg6 harg6 arg7 harg7 arg8 harg8 arg9 harg9 arg10 harg10 arg11 harg11)
        (fun _ => Held (F := F) c arg1 arg2 arg3 arg4 arg5 arg6 arg7 arg8 arg9 arg10 arg11 X1 X2 X3 X4 X5 X6 X7 (arg8.view.writes (Elt F) X8 (outL (F := F) c bd i arg1 harg1 arg2 harg2 arg3 harg3 arg4 harg4 arg5 harg5 arg6 harg6 arg7 harg7 arg8 harg8 arg9 harg9 arg10 harg10 arg11 harg11 X8 X9 (arg10.view.writes (Elt F) arg10.view.junk L.1) (arg11.view.writes (Elt F) arg11.view.junk L.2) (w1 (F := F) i arg1 X1) (w24 (F := F) arg3 X3 (w3 (F := F) i arg2 X2) (hchk.1 hc)) (w29 (F := F) arg3 X3 (w3 (F := F) i arg2 X2) (hchk.2 hc)))) X9 (arg10.view.writes (Elt F) arg10.view.junk L.1) (arg11.view.writes (Elt F) arg11.view.junk L.2)) } := by
  refine ⟨⟨?_, ?_⟩, fun E => ?_⟩
  rotate_left 2
  iintro ⟨H1, H2, H3, H4, H5, H6, H7, H8, H9, H10, H11⟩
  sl_unfold [cc0_int4_dgrad]
  sl_exec
  sl_step
  sl_close

theorem body_Q_L
    (hchk : k0_chk1 i (w3 (F := F) i arg2 X2) (w7 (F := F) arg4 X4))
    (hc : k0_cond1 i (w7 (F := F) arg4 X4) = 1#1)
    (hd : ¬ newOf i (w12 (F := F) i arg2 X2) (w3 (F := F) i arg2 X2) = 1#1)
    (hq : newOf i (w18 (F := F) i arg1 X1) (w1 (F := F) i arg1 X1) = 1#1)
 :
    (body_Q (F := F) c bd i arg1 harg1 arg2 harg2 arg3 harg3 arg4 harg4 arg5 harg5 arg6 harg6 arg7 harg7 arg8 harg8 arg9 harg9 arg10 harg10 arg11 harg11 X1 X2 X3 X4 X5 X6 X7 X8 X9 X10 X11 hchk hc hd hq).1 = (qL10 arg5 X5, qL11 arg5 X5) := rfl

set_option maxHeartbeats 2000000 in
/-- A point of a new expert and the tile before it. -/
theorem body_D
    (hchk : k0_chk1 i (w3 (F := F) i arg2 X2) (w7 (F := F) arg4 X4))
    (hc : k0_cond1 i (w7 (F := F) arg4 X4) = 1#1)
    (hd : newOf i (w12 (F := F) i arg2 X2) (w3 (F := F) i arg2 X2) = 1#1)
    (hq : ¬ newOf i (w18 (F := F) i arg1 X1) (w1 (F := F) i arg1 X1) = 1#1)
 :
      (Held (F := F) c arg1 arg2 arg3 arg4 arg5 arg6 arg7 arg8 arg9 arg10 arg11 X1 X2 X3 X4 X5 X6 X7 X8 X9 X10 X11) ⊢ wp frame (wpE (defs₀ (F := F)) Variants.none (c : Thread nD τ) bd) E
        (cc0_int4_dgrad (F := F) i arg1 harg1 arg2 harg2 arg3 harg3 arg4 harg4 arg5 harg5 arg6 harg6 arg7 harg7 arg8 harg8 arg9 harg9 arg10 harg10 arg11 harg11)
        (fun _ => Held (F := F) c arg1 arg2 arg3 arg4 arg5 arg6 arg7 arg8 arg9 arg10 arg11 X1 X2 X3 X4 X5 X6 X7 (arg8.view.writes (Elt F) X8 (outL (F := F) c bd i arg1 harg1 arg2 harg2 arg3 harg3 arg4 harg4 arg5 harg5 arg6 harg6 arg7 harg7 arg8 harg8 arg9 harg9 arg10 harg10 arg11 harg11 X8 (arg9.view.writes (Elt F) X9 (dqL (F := F) c bd i arg1 harg1 arg2 harg2 arg3 harg3 arg4 harg4 arg5 harg5 arg6 harg6 arg7 harg7 arg8 harg8 arg9 harg9 arg10 harg10 arg11 harg11 X6 X7)) X10 X11 (w1 (F := F) i arg1 X1) (w24 (F := F) arg3 X3 (w3 (F := F) i arg2 X2) (hchk.1 hc)) (w29 (F := F) arg3 X3 (w3 (F := F) i arg2 X2) (hchk.2 hc)))) (arg9.view.writes (Elt F) X9 (dqL (F := F) c bd i arg1 harg1 arg2 harg2 arg3 harg3 arg4 harg4 arg5 harg5 arg6 harg6 arg7 harg7 arg8 harg8 arg9 harg9 arg10 harg10 arg11 harg11 X6 X7)) X10 X11) := by
  iintro ⟨H1, H2, H3, H4, H5, H6, H7, H8, H9, H10, H11⟩
  sl_unfold [cc0_int4_dgrad]
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 2000000 in
/-- A point of the expert and the tile before it. -/
theorem body_0
    (hchk : k0_chk1 i (w3 (F := F) i arg2 X2) (w7 (F := F) arg4 X4))
    (hc : k0_cond1 i (w7 (F := F) arg4 X4) = 1#1)
    (hd : ¬ newOf i (w12 (F := F) i arg2 X2) (w3 (F := F) i arg2 X2) = 1#1)
    (hq : ¬ newOf i (w18 (F := F) i arg1 X1) (w1 (F := F) i arg1 X1) = 1#1)
 :
      (Held (F := F) c arg1 arg2 arg3 arg4 arg5 arg6 arg7 arg8 arg9 arg10 arg11 X1 X2 X3 X4 X5 X6 X7 X8 X9 X10 X11) ⊢ wp frame (wpE (defs₀ (F := F)) Variants.none (c : Thread nD τ) bd) E
        (cc0_int4_dgrad (F := F) i arg1 harg1 arg2 harg2 arg3 harg3 arg4 harg4 arg5 harg5 arg6 harg6 arg7 harg7 arg8 harg8 arg9 harg9 arg10 harg10 arg11 harg11)
        (fun _ => Held (F := F) c arg1 arg2 arg3 arg4 arg5 arg6 arg7 arg8 arg9 arg10 arg11 X1 X2 X3 X4 X5 X6 X7 (arg8.view.writes (Elt F) X8 (outL (F := F) c bd i arg1 harg1 arg2 harg2 arg3 harg3 arg4 harg4 arg5 harg5 arg6 harg6 arg7 harg7 arg8 harg8 arg9 harg9 arg10 harg10 arg11 harg11 X8 X9 X10 X11 (w1 (F := F) i arg1 X1) (w24 (F := F) arg3 X3 (w3 (F := F) i arg2 X2) (hchk.1 hc)) (w29 (F := F) arg3 X3 (w3 (F := F) i arg2 X2) (hchk.2 hc)))) X9 X10 X11) := by
  iintro ⟨H1, H2, H3, H4, H5, H6, H7, H8, H9, H10, H11⟩
  sl_unfold [cc0_int4_dgrad]
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The weights after a point that works. -/
def next9 : BufTy.Contents (Elt F) arg9.view.ty :=
  open Classical in if newOf i (w12 (F := F) i arg2 X2) (w3 (F := F) i arg2 X2) = 1#1 then (arg9.view.writes (Elt F) X9 (dqL (F := F) c bd i arg1 harg1 arg2 harg2 arg3 harg3 arg4 harg4 arg5 harg5 arg6 harg6 arg7 harg7 arg8 harg8 arg9 harg9 arg10 harg10 arg11 harg11 X6 X7)) else X9

/-- The codes after a point that works. -/
def next10 : BufTy.Contents (Elt F) arg10.view.ty :=
  open Classical in if newOf i (w18 (F := F) i arg1 X1) (w1 (F := F) i arg1 X1) = 1#1 then arg10.view.writes (Elt F) arg10.view.junk (qL10 arg5 X5) else X10

/-- The scales after a point that works. -/
def next11 : BufTy.Contents (Elt F) arg11.view.ty :=
  open Classical in if newOf i (w18 (F := F) i arg1 X1) (w1 (F := F) i arg1 X1) = 1#1 then arg11.view.writes (Elt F) arg11.view.junk (qL11 arg5 X5) else X11

/-- A point that works. -/
theorem body_W
    (hchk : k0_chk1 i (w3 (F := F) i arg2 X2) (w7 (F := F) arg4 X4))
    (hc : k0_cond1 i (w7 (F := F) arg4 X4) = 1#1)
 :
      (Held (F := F) c arg1 arg2 arg3 arg4 arg5 arg6 arg7 arg8 arg9 arg10 arg11 X1 X2 X3 X4 X5 X6 X7 X8 X9 X10 X11) ⊢ wp frame (wpE (defs₀ (F := F)) Variants.none (c : Thread nD τ) bd) E
        (cc0_int4_dgrad (F := F) i arg1 harg1 arg2 harg2 arg3 harg3 arg4 harg4 arg5 harg5 arg6 harg6 arg7 harg7 arg8 harg8 arg9 harg9 arg10 harg10 arg11 harg11)
        (fun _ => Held (F := F) c arg1 arg2 arg3 arg4 arg5 arg6 arg7 arg8 arg9 arg10 arg11 X1 X2 X3 X4 X5 X6 X7 (arg8.view.writes (Elt F) X8 (outL (F := F) c bd i arg1 harg1 arg2 harg2 arg3 harg3 arg4 harg4 arg5 harg5 arg6 harg6 arg7 harg7 arg8 harg8 arg9 harg9 arg10 harg10 arg11 harg11 X8 (next9 (F := F) c bd i arg1 harg1 arg2 harg2 arg3 harg3 arg4 harg4 arg5 harg5 arg6 harg6 arg7 harg7 arg8 harg8 arg9 harg9 arg10 harg10 arg11 harg11 X2 X6 X7 X9) (next10 (F := F) i arg1 arg5 arg10 X1 X5 X10) (next11 (F := F) i arg1 arg5 arg11 X1 X5 X11) (w1 (F := F) i arg1 X1) (w24 (F := F) arg3 X3 (w3 (F := F) i arg2 X2) (hchk.1 hc)) (w29 (F := F) arg3 X3 (w3 (F := F) i arg2 X2) (hchk.2 hc)))) (next9 (F := F) c bd i arg1 harg1 arg2 harg2 arg3 harg3 arg4 harg4 arg5 harg5 arg6 harg6 arg7 harg7 arg8 harg8 arg9 harg9 arg10 harg10 arg11 harg11 X2 X6 X7 X9) (next10 (F := F) i arg1 arg5 arg10 X1 X5 X10) (next11 (F := F) i arg1 arg5 arg11 X1 X5 X11)) := by
  by_cases hd : newOf i (w12 (F := F) i arg2 X2) (w3 (F := F) i arg2 X2) = 1#1 <;>
    by_cases hq : newOf i (w18 (F := F) i arg1 X1) (w1 (F := F) i arg1 X1) = 1#1 <;>
    simp only [next9, next10, next11, hd, hq, if_true, if_false]
  · exact (body_DQ (F := F) c bd i arg1 harg1 arg2 harg2 arg3 harg3 arg4 harg4 arg5 harg5 arg6 harg6 arg7 harg7 arg8 harg8 arg9 harg9 arg10 harg10 arg11 harg11 X1 X2 X3 X4 X5 X6 X7 X8 X9 X10 X11 hchk hc hd hq).2 E
  · exact body_D (F := F) c bd E i arg1 harg1 arg2 harg2 arg3 harg3 arg4 harg4 arg5 harg5 arg6 harg6 arg7 harg7 arg8 harg8 arg9 harg9 arg10 harg10 arg11 harg11 X1 X2 X3 X4 X5 X6 X7 X8 X9 X10 X11 hchk hc hd hq
  · exact (body_Q (F := F) c bd i arg1 harg1 arg2 harg2 arg3 harg3 arg4 harg4 arg5 harg5 arg6 harg6 arg7 harg7 arg8 harg8 arg9 harg9 arg10 harg10 arg11 harg11 X1 X2 X3 X4 X5 X6 X7 X8 X9 X10 X11 hchk hc hd hq).2 E
  · exact body_0 (F := F) c bd E i arg1 harg1 arg2 harg2 arg3 harg3 arg4 harg4 arg5 harg5 arg6 harg6 arg7 harg7 arg8 harg8 arg9 harg9 arg10 harg10 arg11 harg11 X1 X2 X3 X4 X5 X6 X7 X8 X9 X10 X11 hchk hc hd hq

end Cert.KernelIdeal.Gen
end
-- ==== Proof.My.Words.lean ====
module

public import proofs.«01_k».proof.Proof.My.BodyW

@[expose] public section

set_option maxRecDepth 8192

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ## The words the kernel's body reads off the prefetched tables -/

/-- Entry `k` of a table of `n` words, zero outside it. -/
def wd {n : ℕ} (X : (⟨1, ![n]⟩ : Shape).Idx → BitVec 32) (k : ℕ) : BitVec 32 :=
  if h : k < n then X (fun a => ⟨k, by obtain rfl : a = 0 := Subsingleton.elim _ _; exact h⟩) else 0#32

theorem wd_of_idx {n : ℕ} (X : (⟨1, ![n]⟩ : Shape).Idx → BitVec 32) (x : (⟨1, ![n]⟩ : Shape).Idx) (k : ℕ) (hk : (x 0).val = k) :
    X x = wd X k := by
  have h : k < n := hk ▸ (x 0).isLt
  unfold wd
  rw [dif_pos h]
  congr 1
  funext a
  obtain rfl : a = 0 := Subsingleton.elim _ _
  exact Fin.ext hk

theorem toNat_coord (i : grid0.Coords) : (BitVec.ofNat 32 (i 0).val).toNat = (i 0).val := by
  have h : (i 0).val < 111 := (i 0).isLt
  simp only [BitVec.toNat_ofNat]
  omega

theorem off1_eq (i : grid0.Coords) : k0_off1 i = ![(i 0).val] := by
  unfold k0_off1
  dsimp only [Scalar.indexCast]
  rw [toNat_coord]

theorem prev_word : ∀ k : Fin 111, (Scalar.maxsi (Scalar.subi (BitVec.ofNat 32 k.val) 1#32) 0#32).toNat = k.val - 1 := by decide

theorem off2_eq (i : grid0.Coords) : k0_off2 i = ![(i 0).val - 1] := by
  unfold k0_off2
  dsimp only [Scalar.indexCast]
  exact congrArg (fun x => ![x]) (prev_word (i 0))

theorem off17_eq (i : grid0.Coords) : k0_off17 i = ![(i 0).val - 1] := off2_eq i

theorem read_word {n : ℕ} (X : (⟨1, ![n]⟩ : Shape).Idx → BitVec 32) (off : Fin 1 → ℕ) (k : ℕ) (ho : off = ![k])
    (h : ∀ a, off a + S1.size a ≤ (⟨1, ![n]⟩ : Shape).size a) (x : S1.Idx) :
    X ((Rect.unit (s := (⟨1, ![n]⟩ : Shape)) off S1.size h).toLoadRect.idx x) = wd X k := by
  subst ho
  refine wd_of_idx X _ k ?_
  have hx : (x 0).val = 0 := Nat.lt_one_iff.mp (x 0).isLt
  show k + 1 * (x 0).val = k
  omega

variable (i : grid0.Coords)

theorem w1_eq (X1 : S111.Idx → BitVec 32) : w1 (F := F) i (Memref.whole main_v45) X1 = wd X1 (i 0).val :=
  read_word X1 _ _ (off1_eq i) (k0_off1_inb i) _

theorem w3_eq (X2 : S111.Idx → BitVec 32) : w3 (F := F) i (Memref.whole main_v28) X2 = wd X2 (i 0).val :=
  read_word X2 _ _ (off1_eq i) (k0_off1_inb i) _

theorem w12_eq (X2 : S111.Idx → BitVec 32) : w12 (F := F) i (Memref.whole main_v28) X2 = wd X2 ((i 0).val - 1) :=
  read_word X2 _ _ (off2_eq i) (k0_off2_inb i) _

theorem w18_eq (X1 : S111.Idx → BitVec 32) : w18 (F := F) i (Memref.whole main_v45) X1 = wd X1 ((i 0).val - 1) :=
  read_word X1 _ _ (off17_eq i) (k0_off17_inb i) _

theorem w7_eq (X4 : S1.Idx → BitVec 32) : w7 (F := F) (Memref.whole main_v46) X4 = wd X4 0 :=
  read_word X4 _ 0 rfl inb_S1_S1_0 _

theorem w24_eq (X3 : S17.Idx → BitVec 32) (v3 : BitVec 32) (h) : w24 (F := F) (Memref.whole main_v2) X3 v3 h = wd X3 v3.toNat :=
  read_word X3 _ _ rfl h _

theorem add_one_toNat (v3 : BitVec 32) (hv : v3.toNat < 16) : (v3 + 1#32).toNat = v3.toNat + 1 := by
  rw [BitVec.toNat_add]
  simp only [BitVec.toNat_ofNat]
  omega

theorem w29_eq (X3 : S17.Idx → BitVec 32) (v3 : BitVec 32) (hv : v3.toNat < 16) (h) :
    w29 (F := F) (Memref.whole main_v2) X3 v3 h = wd X3 (v3.toNat + 1) :=
  read_word X3 _ _ (congrArg (fun x => ![x]) (add_one_toNat v3 hv)) h _

theorem bool_word (b : Bool) : BitVec.ofBool ((BitVec.ofBool b).setWidth 32 != 0#32) = 1#1 ↔ b = true := by
  revert b; decide

theorem bool_or (a b : Bool) : IntOp.ori (BitVec.ofBool a) (BitVec.ofBool b) = BitVec.ofBool (a || b) := by
  revert a b; decide

/-- The condition a point works under: its place is below the number of visits. -/
theorem cond1_iff (v7 : BitVec 32) (h7 : v7.toNat ≤ 111) : k0_cond1 i v7 = 1#1 ↔ (i 0).val < v7.toNat := by
  have hi := toNat_coord i
  have hl : (i 0).val < 111 := (i 0).isLt
  have key : (BitVec.ofNat 32 (i 0).val).slt v7 = decide ((i 0).val < v7.toNat) := by
    rw [BitVec.slt_eq_decide, BitVec.toInt_eq_toNat_of_lt (by omega), BitVec.toInt_eq_toNat_of_lt (by omega), hi]
    simp
  unfold k0_cond1
  simp only [Scalar.cmpi, Scalar.extui, IntOp.cmpi, key]
  exact bool_word _ |>.trans decide_eq_true_iff

/-- The kernel's guard on a refill: the first point, or a table word that moved. -/
theorem newOf_iff (old new : BitVec 32) : newOf i old new = 1#1 ↔ (i 0).val = 0 ∨ old ≠ new := by
  have hi := toNat_coord i
  have e0 : (BitVec.ofNat 32 (i 0).val = 0#32) ↔ (i 0).val = 0 := by
    constructor
    · intro h; rw [h] at hi; simpa using hi.symm
    · intro h; rw [h]
  unfold newOf isFirst
  simp only [Scalar.cmpi, Scalar.extui, Scalar.ori, IntOp.cmpi, bool_or]
  rw [bool_word, Bool.or_eq_true, beq_iff_eq, bne_iff_ne, e0]

/-- The two starts the body reads at an expert are in their table. -/
theorem chk1_of_lt (v3 v7 : BitVec 32) (hv : v3.toNat < 16) : k0_chk1 i v3 v7 := by
  refine ⟨fun _ a => ?_, fun _ a => ?_⟩
  · obtain rfl : a = 0 := Subsingleton.elim _ _
    show v3.toNat + 1 ≤ 17
    omega
  · obtain rfl : a = 0 := Subsingleton.elim _ _
    show (v3 + 1#32).toNat + 1 ≤ 17
    rw [add_one_toNat v3 hv]
    omega

end Cert.KernelIdeal.Gen
end
-- ==== Proof.My.Point.lean ====
module

public import proofs.«01_k».proof.Proof.My.Words

@[expose] public section

set_option maxRecDepth 8192

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What one proof of the kernel's run carries about values: a reading of the three scratch buffers (the
    dequantised weights, the codes, the row scales) and of one element of the output block, as relations to
    the blocks they are computed from, with the proof that the kernel's stores establish each. A frame takes
    the relations that always hold. -/
structure Laws (F : FTy → Type) [FloatOps F] where
  PW : Vec F S1x5120x768 .i8 → Vec F S1x5120x48 .f32 → Vec F S5120x1536 .bf16 → Prop
  PC : Vec F S256x1536 .bf16 → Vec F S256x1536 .bf16 → Prop
  PS : Vec F S256x1536 .bf16 → Vec F S256x1 .f32 → Prop
  RV : Vec F S256x1536 .bf16 → Vec F S1x5120x768 .i8 → Vec F S1x5120x48 .f32 → S256x5120.Idx → Elt F .bf16 → Prop
  lawD : ∀ (c : Dev nD) (bd : Option Variants.none.V) (i : grid0.Coords) (arg1 : Memref sig .tc .smem S111 .i32) (harg1 : arg1.IsWhole) (arg2 : Memref sig .tc .smem S111 .i32) (harg2 : arg2.IsWhole) (arg3 : Memref sig .tc .smem S17 .i32) (harg3 : arg3.IsWhole) (arg4 : Memref sig .tc .smem S1 .i32) (harg4 : arg4.IsWhole) (arg5 : Memref sig .tc .vmem S256x1536 .bf16) (harg5 : arg5.IsWhole) (arg6 : Memref sig .tc .vmem S1x5120x768 .i8) (harg6 : arg6.IsWhole) (arg7 : Memref sig .tc .vmem S1x5120x48 .f32) (harg7 : arg7.IsWhole) (arg8 : Memref sig .tc .vmem S256x5120 .bf16) (harg8 : arg8.IsWhole) (arg9 : Memref sig .tc .vmem S5120x1536 .bf16) (harg9 : arg9.IsWhole) (arg10 : Memref sig .tc .vmem S256x1536 .bf16) (harg10 : arg10.IsWhole) (arg11 : Memref sig .tc .vmem S256x1 .f32) (harg11 : arg11.IsWhole)
    (X6 : BufTy.Contents (Elt F) arg6.view.ty) (X7 : BufTy.Contents (Elt F) arg7.view.ty) (X9 : BufTy.Contents (Elt F) arg9.view.ty),
    PW (arg6.view.read (Elt F) X6) (arg7.view.read (Elt F) X7) (arg9.view.read (Elt F) (arg9.view.writes (Elt F) X9 (dqL (F := F) c bd i arg1 harg1 arg2 harg2 arg3 harg3 arg4 harg4 arg5 harg5 arg6 harg6 arg7 harg7 arg8 harg8 arg9 harg9 arg10 harg10 arg11 harg11 X6 X7)))
  lawC : ∀ (arg5 : Memref sig .tc .vmem S256x1536 .bf16) (arg10 : Memref sig .tc .vmem S256x1536 .bf16)
    (X5 : BufTy.Contents (Elt F) arg5.view.ty) (X10 : BufTy.Contents (Elt F) arg10.view.ty),
    PC (arg5.view.read (Elt F) X5) (arg10.view.read (Elt F) (arg10.view.writes (Elt F) X10 (qL10 arg5 X5)))
  lawS : ∀ (arg5 : Memref sig .tc .vmem S256x1536 .bf16) (arg11 : Memref sig .tc .vmem S256x1 .f32)
    (X5 : BufTy.Contents (Elt F) arg5.view.ty) (X11 : BufTy.Contents (Elt F) arg11.view.ty),
    PS (arg5.view.read (Elt F) X5) (arg11.view.read (Elt F) (arg11.view.writes (Elt F) X11 (qL11 arg5 X5)))
  lawO : ∀ (c : Dev nD) (bd : Option Variants.none.V) (i : grid0.Coords) (arg1 : Memref sig .tc .smem S111 .i32) (harg1 : arg1.IsWhole) (arg2 : Memref sig .tc .smem S111 .i32) (harg2 : arg2.IsWhole) (arg3 : Memref sig .tc .smem S17 .i32) (harg3 : arg3.IsWhole) (arg4 : Memref sig .tc .smem S1 .i32) (harg4 : arg4.IsWhole) (arg5 : Memref sig .tc .vmem S256x1536 .bf16) (harg5 : arg5.IsWhole) (arg6 : Memref sig .tc .vmem S1x5120x768 .i8) (harg6 : arg6.IsWhole) (arg7 : Memref sig .tc .vmem S1x5120x48 .f32) (harg7 : arg7.IsWhole) (arg8 : Memref sig .tc .vmem S256x5120 .bf16) (harg8 : arg8.IsWhole) (arg9 : Memref sig .tc .vmem S5120x1536 .bf16) (harg9 : arg9.IsWhole) (arg10 : Memref sig .tc .vmem S256x1536 .bf16) (harg10 : arg10.IsWhole) (arg11 : Memref sig .tc .vmem S256x1 .f32) (harg11 : arg11.IsWhole)
    (X8 : BufTy.Contents (Elt F) arg8.view.ty) (X9 : BufTy.Contents (Elt F) arg9.view.ty) (X10 : BufTy.Contents (Elt F) arg10.view.ty) (X11 : BufTy.Contents (Elt F) arg11.view.ty)
    (v1 v24 v29 : BitVec 32) (Y5 : Vec F S256x1536 .bf16) (Y6 : Vec F S1x5120x768 .i8) (Y7 : Vec F S1x5120x48 .f32),
    v1.toNat < 96 → v24.toNat ≤ 24576 → v29.toNat ≤ 24576 →
    PW Y6 Y7 (arg9.view.read (Elt F) X9) → PC Y5 (arg10.view.read (Elt F) X10) → PS Y5 (arg11.view.read (Elt F) X11) →
    ∀ y : S256x5120.Idx,
      (v24.toNat ≤ v1.toNat * 256 + (y 0).val ∧ v1.toNat * 256 + (y 0).val < v29.toNat →
        RV Y5 Y6 Y7 y (arg8.view.read (Elt F) (arg8.view.writes (Elt F) X8 (outL (F := F) c bd i arg1 harg1 arg2 harg2 arg3 harg3 arg4 harg4 arg5 harg5 arg6 harg6 arg7 harg7 arg8 harg8 arg9 harg9 arg10 harg10 arg11 harg11 X8 X9 X10 X11 v1 v24 v29)) y))
      ∧ (¬ (v24.toNat ≤ v1.toNat * 256 + (y 0).val ∧ v1.toNat * 256 + (y 0).val < v29.toNat) →
        ∀ Y6' Y7', RV Y5 Y6' Y7' y (arg8.view.read (Elt F) X8 y) →
          RV Y5 Y6' Y7' y (arg8.view.read (Elt F) (arg8.view.writes (Elt F) X8 (outL (F := F) c bd i arg1 harg1 arg2 harg2 arg3 harg3 arg4 harg4 arg5 harg5 arg6 harg6 arg7 harg7 arg8 harg8 arg9 harg9 arg10 harg10 arg11 harg11 X8 X9 X10 X11 v1 v24 v29)) y))

/-- The laws of a frame: nothing is said of any value. -/
def Laws.trivial (F : FTy → Type) [FloatOps F] : Laws F where
  PW _ _ _ := True
  PC _ _ := True
  PS _ _ := True
  RV _ _ _ _ _ := True
  lawD := by intros; exact True.intro
  lawC := by intros; exact True.intro
  lawS := by intros; exact True.intro
  lawO := by intros; exact ⟨fun _ => True.intro, fun _ _ _ _ => True.intro⟩

variable (Λ : Laws F)

/-- What the output block may hold after a point, from what it held before: at a point that works, the rows of
    the point's tile and expert hold values and the other rows keep theirs. -/
def Step (wk : Prop) (tile lo hi : ℕ) (Y5 : Vec F S256x1536 .bf16) (Y6 : Vec F S1x5120x768 .i8) (Y7 : Vec F S1x5120x48 .f32)
    (Y X : Vec F S256x5120 .bf16) : Prop :=
  (¬ wk → X = Y) ∧ (wk → ∀ y : S256x5120.Idx,
    (lo ≤ tile * 256 + (y 0).val ∧ tile * 256 + (y 0).val < hi → Λ.RV Y5 Y6 Y7 y (X y))
    ∧ (¬ (lo ≤ tile * 256 + (y 0).val ∧ tile * 256 + (y 0).val < hi) → ∀ Y6' Y7', Λ.RV Y5 Y6' Y7' y (Y y) → Λ.RV Y5 Y6' Y7' y (X y)))

/-- The three scratch buffers hold what they are for. -/
def Filled (Y5 : Vec F S256x1536 .bf16) (Y6 : Vec F S1x5120x768 .i8) (Y7 : Vec F S1x5120x48 .f32)
    (X9 : Vec F S5120x1536 .bf16) (X10 : Vec F S256x1536 .bf16) (X11 : Vec F S256x1 .f32) : Prop :=
  Λ.PW Y6 Y7 X9 ∧ Λ.PC Y5 X10 ∧ Λ.PS Y5 X11

variable (c : Dev nD) (bd : Option Variants.none.V) (E : Set ℕ) (i : grid0.Coords)
variable (arg5 : Memref sig .tc .vmem S256x1536 .bf16) (harg5 : arg5.IsWhole) (arg6 : Memref sig .tc .vmem S1x5120x768 .i8) (harg6 : arg6.IsWhole) (arg7 : Memref sig .tc .vmem S1x5120x48 .f32) (harg7 : arg7.IsWhole) (arg8 : Memref sig .tc .vmem S256x5120 .bf16) (harg8 : arg8.IsWhole)

theorem rect_full3 (n m : ℕ) (h : ∀ a, (![0, 0, 0] : Fin 3 → ℕ) a + (![1, n, m] : Fin 3 → ℕ) a ≤ (⟨3, ![1, n, m]⟩ : Shape).size a) :
    (Rect.unit (s := (⟨3, ![1, n, m]⟩ : Shape)) ![0, 0, 0] ![1, n, m] h).set = Finset.univ := by
  apply Finset.eq_univ_iff_forall.mpr
  intro x
  rw [Rect.mem_set_unit]
  intro a
  constructor
  · fin_cases a <;> exact Nat.zero_le _
  · have := (x a).isLt
    fin_cases a <;> simpa using this

theorem set_v43 : (v43 arg6).view.set = arg6.view.set := by
  show ((arg6.view.slice _).reshape _ _).set = _
  rw [View.set_reshape, View.set_slice, rect_full3]
  rfl

theorem set_v56 : (v56 arg7).view.set = arg7.view.set := by
  show ((arg7.view.slice _).reshape _ _).set = _
  rw [View.set_reshape, View.set_slice, rect_full3]
  rfl

/-- The prefetched tables as the body holds them. -/
abbrev Tabs (X1 X2 : S111.Idx → BitVec 32) (X3 : S17.Idx → BitVec 32) (X4 : S1.Idx → BitVec 32) : sProp 𝕄G :=
  iprop(((c : Thread nD τ).loc main_v45 ↦{fullShare.right} X1) ∗ ((c : Thread nD τ).loc main_v28 ↦{fullShare.right} X2)
    ∗ ((c : Thread nD τ).loc main_v2 ↦{fullShare.right} X3) ∗ ((c : Thread nD τ).loc main_v46 ↦{fullShare.right} X4))

/-- The scratch buffers at contents. -/
abbrev Scr (X9 : Vec F S5120x1536 .bf16) (X10 : Vec F S256x1536 .bf16) (X11 : Vec F S256x1 .f32) : sProp 𝕄G :=
  iprop(((c : Thread nD τ).loc cc0_scratch0 ↦{fullShare} X9) ∗ ((c : Thread nD τ).loc cc0_scratch1 ↦{fullShare} X10)
    ∗ ((c : Thread nD τ).loc cc0_scratch2 ↦{fullShare} X11))

/-- The buffers in the run's form are the buffers the kernel's triples hold. -/
theorem held_eq (X1 X2 : S111.Idx → BitVec 32) (X3 : S17.Idx → BitVec 32) (X4 : S1.Idx → BitVec 32)
    (X5 : BufTy.Contents (Elt F) arg5.view.ty) (X6 : BufTy.Contents (Elt F) arg6.view.ty) (X7 : BufTy.Contents (Elt F) arg7.view.ty) (X8 : BufTy.Contents (Elt F) arg8.view.ty)
    (X9 : Vec F S5120x1536 .bf16) (X10 : Vec F S256x1536 .bf16) (X11 : Vec F S256x1 .f32) :
    (Held (F := F) c (Memref.whole main_v45) (Memref.whole main_v28) (Memref.whole main_v2) (Memref.whole main_v46) arg5 arg6 arg7 arg8 (Memref.whole cc0_scratch0) (Memref.whole cc0_scratch1) (Memref.whole cc0_scratch2) X1 X2 X3 X4 X5 X6 X7 X8 X9 X10 X11)
    = iprop(((c : Thread nD τ).loc main_v45 ↦{fullShare.right} X1) ∗ ((c : Thread nD τ).loc main_v28 ↦{fullShare.right} X2)
    ∗ ((c : Thread nD τ).loc main_v2 ↦{fullShare.right} X3) ∗ ((c : Thread nD τ).loc main_v46 ↦{fullShare.right} X4)
    ∗ (arg5.view.loc (c : Thread nD τ) ↦[arg5.view.set]{fullShare} X5) ∗ (arg6.view.loc (c : Thread nD τ) ↦[arg6.view.set]{fullShare} X6)
    ∗ (arg7.view.loc (c : Thread nD τ) ↦[arg7.view.set]{fullShare} X7) ∗ (arg8.view.loc (c : Thread nD τ) ↦[arg8.view.set]{fullShare} X8)
    ∗ ((c : Thread nD τ).loc cc0_scratch0 ↦{fullShare} X9) ∗ ((c : Thread nD τ).loc cc0_scratch1 ↦{fullShare} X10)
    ∗ ((c : Thread nD τ).loc cc0_scratch2 ↦{fullShare} X11)) := by
  unfold Held
  rw [set_v43, set_v56]
  simp only [Memref.view_whole, View.set_whole]

/-- What a point leaves, in the run's form. -/
abbrev Left (X1 X2 : S111.Idx → BitVec 32) (X3 : S17.Idx → BitVec 32) (X4 : S1.Idx → BitVec 32)
    (Y5 : Vec F S256x1536 .bf16) (Y6 : Vec F S1x5120x768 .i8) (Y7 : Vec F S1x5120x48 .f32) (Y8 : Vec F S256x5120 .bf16) : sProp 𝕄G :=
  iprop(Tabs (F := F) c X1 X2 X3 X4 ∗ owns (c : Thread nD τ) arg5 fullShare Y5 ∗ owns (c : Thread nD τ) arg6 fullShare Y6
        ∗ owns (c : Thread nD τ) arg7 fullShare Y7
        ∗ (∃ Y8', ⌜Step Λ ((i 0).val < (wd X4 0).toNat) (wd X1 (i 0).val).toNat (wd X3 (wd X2 (i 0).val).toNat).toNat (wd X3 ((wd X2 (i 0).val).toNat + 1)).toNat Y5 Y6 Y7 Y8 Y8'⌝ ∗ owns (c : Thread nD τ) arg8 fullShare Y8')
        ∗ ∃ X9' X10' X11', ⌜(i 0).val < (wd X4 0).toNat → Filled Λ Y5 Y6 Y7 X9' X10' X11'⌝ ∗ Scr (F := F) c X9' X10' X11')

theorem left_of_held (X1 X2 : S111.Idx → BitVec 32) (X3 : S17.Idx → BitVec 32) (X4 : S1.Idx → BitVec 32)
    (X5 : BufTy.Contents (Elt F) arg5.view.ty) (X6 : BufTy.Contents (Elt F) arg6.view.ty) (X7 : BufTy.Contents (Elt F) arg7.view.ty) (X8 : BufTy.Contents (Elt F) arg8.view.ty)
    (Y8 : Vec F S256x5120 .bf16)
    (X9 : Vec F S5120x1536 .bf16) (X10 : Vec F S256x1536 .bf16) (X11 : Vec F S256x1 .f32)
    (hs : Step Λ ((i 0).val < (wd X4 0).toNat) (wd X1 (i 0).val).toNat (wd X3 (wd X2 (i 0).val).toNat).toNat (wd X3 ((wd X2 (i 0).val).toNat + 1)).toNat
      (arg5.view.read (Elt F) X5) (arg6.view.read (Elt F) X6) (arg7.view.read (Elt F) X7) Y8 (arg8.view.read (Elt F) X8))
    (hf : (i 0).val < (wd X4 0).toNat → Filled Λ (arg5.view.read (Elt F) X5) (arg6.view.read (Elt F) X6) (arg7.view.read (Elt F) X7) ((Memref.whole cc0_scratch0).view.read (Elt F) X9) ((Memref.whole cc0_scratch1).view.read (Elt F) X10) ((Memref.whole cc0_scratch2).view.read (Elt F) X11)) :
    (Held (F := F) c (Memref.whole main_v45) (Memref.whole main_v28) (Memref.whole main_v2) (Memref.whole main_v46) arg5 arg6 arg7 arg8 (Memref.whole cc0_scratch0) (Memref.whole cc0_scratch1) (Memref.whole cc0_scratch2) X1 X2 X3 X4 X5 X6 X7 X8 X9 X10 X11)
      ⊢ Left Λ c i arg5 arg6 arg7 arg8 X1 X2 X3 X4 (arg5.view.read (Elt F) X5) (arg6.view.read (Elt F) X6) (arg7.view.read (Elt F) X7) Y8 := by
  rw [held_eq]
  unfold Left Tabs Scr owns
  iintro ⟨H1, H2, H3, H4, H5, H6, H7, H8, H9, H10, H11⟩
  isplitl [H1 H2 H3 H4]
  · isplitl [H1]; · iexact H1
    isplitl [H2]; · iexact H2
    isplitl [H3]; · iexact H3
    iexact H4
  isplitl [H5]
  · iexists X5; isplitr; · ipureintro; rfl
    iexact H5
  isplitl [H6]
  · iexists X6; isplitr; · ipureintro; rfl
    iexact H6
  isplitl [H7]
  · iexists X7; isplitr; · ipureintro; rfl
    iexact H7
  isplitl [H8]
  · iexists arg8.view.read (Elt F) X8; isplitr; · ipureintro; exact hs
    iexists X8; isplitr; · ipureintro; rfl
    iexact H8
  iexists X9, X10, X11
  isplitr; · ipureintro; exact hf
  isplitl [H9]; · iexact H9
  isplitl [H10]; · iexact H10
  iexact H11

set_option maxHeartbeats 1000000 in
/-- One point of the grid, over the blocks it is handed. -/
theorem point (X1 X2 : S111.Idx → BitVec 32) (X3 : S17.Idx → BitVec 32) (X4 : S1.Idx → BitVec 32)
    (Y5 : Vec F S256x1536 .bf16) (Y6 : Vec F S1x5120x768 .i8) (Y7 : Vec F S1x5120x48 .f32) (Y8 : Vec F S256x5120 .bf16)
    (X9 : Vec F S5120x1536 .bf16) (X10 : Vec F S256x1536 .bf16) (X11 : Vec F S256x1 .f32)
    (h4 : (wd X4 0).toNat ≤ 111) (hT : (wd X1 (i 0).val).toNat < 96) (hE : (wd X2 (i 0).val).toNat < 16)
    (hS : ∀ e ≤ 16, (wd X3 e).toNat ≤ 24576)
    (hW : (i 0).val < (wd X4 0).toNat → (i 0).val ≠ 0 → wd X2 ((i 0).val - 1) = wd X2 (i 0).val → Λ.PW Y6 Y7 X9)
    (hC : (i 0).val < (wd X4 0).toNat → (i 0).val ≠ 0 → wd X1 ((i 0).val - 1) = wd X1 (i 0).val → Λ.PC Y5 X10 ∧ Λ.PS Y5 X11) :
    iprop(Tabs (F := F) c X1 X2 X3 X4 ∗ owns (c : Thread nD τ) arg5 fullShare Y5 ∗ owns (c : Thread nD τ) arg6 fullShare Y6
        ∗ owns (c : Thread nD τ) arg7 fullShare Y7 ∗ owns (c : Thread nD τ) arg8 fullShare Y8 ∗ Scr (F := F) c X9 X10 X11)
      ⊢ (wp frame (wpE (defs₀ (F := F)) Variants.none (c : Thread nD τ) bd) E (cc0_int4_dgrad (F := F) i (Memref.whole main_v45) (Memref.isWhole_whole _) (Memref.whole main_v28) (Memref.isWhole_whole _) (Memref.whole main_v2) (Memref.isWhole_whole _) (Memref.whole main_v46) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _))
        (fun _ => Left Λ c i arg5 arg6 arg7 arg8 X1 X2 X3 X4 Y5 Y6 Y7 Y8) : sProp 𝕄G) := by
  unfold owns
  iintro ⟨⟨H1, H2, H3, H4⟩, ⟨%X5, %h5, H5⟩, ⟨%X6, %h6, H6⟩, ⟨%X7, %h7, H7⟩, ⟨%X8, %h8, H8⟩, ⟨H9, H10, H11⟩⟩
  have hchk : k0_chk1 i (w3 (F := F) i (Memref.whole main_v28) X2) (w7 (F := F) (Memref.whole main_v46) X4) := by
    rw [w3_eq]
    exact chk1_of_lt i _ _ hE
  subst h5 h6 h7 h8
  have filled : (i 0).val < (wd X4 0).toNat → Filled Λ (arg5.view.read (Elt F) X5) (arg6.view.read (Elt F) X6) (arg7.view.read (Elt F) X7)
      ((Memref.whole cc0_scratch0).view.read (Elt F) (next9 (F := F) c bd i (Memref.whole main_v45) (Memref.isWhole_whole _) (Memref.whole main_v28) (Memref.isWhole_whole _) (Memref.whole main_v2) (Memref.isWhole_whole _) (Memref.whole main_v46) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _) X2 X6 X7 X9)) ((Memref.whole cc0_scratch1).view.read (Elt F) (next10 (F := F) i (Memref.whole main_v45) arg5 (Memref.whole cc0_scratch1) X1 X5 X10)) ((Memref.whole cc0_scratch2).view.read (Elt F) (next11 (F := F) i (Memref.whole main_v45) arg5 (Memref.whole cc0_scratch2) X1 X5 X11)) := by
    intro hw
    refine ⟨?_, ?_, ?_⟩
    · unfold next9
      split
      · exact Λ.lawD c bd i (Memref.whole main_v45) (Memref.isWhole_whole _) (Memref.whole main_v28) (Memref.isWhole_whole _) (Memref.whole main_v2) (Memref.isWhole_whole _) (Memref.whole main_v46) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _) X6 X7 X9
      · rename_i hn
        rw [newOf_iff, w12_eq, w3_eq, not_or, not_not] at hn
        exact hW hw hn.1 hn.2
    · unfold next10
      split
      · exact Λ.lawC arg5 (Memref.whole cc0_scratch1) X5 _
      · rename_i hn
        rw [newOf_iff, w18_eq, w1_eq, not_or, not_not] at hn
        exact (hC hw hn.1 hn.2).1
    · unfold next11
      split
      · exact Λ.lawS arg5 (Memref.whole cc0_scratch2) X5 _
      · rename_i hn
        rw [newOf_iff, w18_eq, w1_eq, not_or, not_not] at hn
        exact (hC hw hn.1 hn.2).2
  have key : (Held (F := F) c (Memref.whole main_v45) (Memref.whole main_v28) (Memref.whole main_v2) (Memref.whole main_v46) arg5 arg6 arg7 arg8 (Memref.whole cc0_scratch0) (Memref.whole cc0_scratch1) (Memref.whole cc0_scratch2) X1 X2 X3 X4 X5 X6 X7 X8 X9 X10 X11)
      ⊢ (wp frame (wpE (defs₀ (F := F)) Variants.none (c : Thread nD τ) bd) E (cc0_int4_dgrad (F := F) i (Memref.whole main_v45) (Memref.isWhole_whole _) (Memref.whole main_v28) (Memref.isWhole_whole _) (Memref.whole main_v2) (Memref.isWhole_whole _) (Memref.whole main_v46) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _))
        (fun _ => Left Λ c i arg5 arg6 arg7 arg8 X1 X2 X3 X4 (arg5.view.read (Elt F) X5) (arg6.view.read (Elt F) X6) (arg7.view.read (Elt F) X7) (arg8.view.read (Elt F) X8)) : sProp 𝕄G) := by
    by_cases hw : (i 0).val < (wd X4 0).toNat
    · have hc : k0_cond1 i (w7 (F := F) (Memref.whole main_v46) X4) = 1#1 := by rw [w7_eq]; exact (cond1_iff i _ h4).mpr hw
      refine (body_W (F := F) c bd E i (Memref.whole main_v45) (Memref.isWhole_whole _) (Memref.whole main_v28) (Memref.isWhole_whole _) (Memref.whole main_v2) (Memref.isWhole_whole _) (Memref.whole main_v46) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _) X1 X2 X3 X4 X5 X6 X7 X8 X9 X10 X11 hchk hc).trans
        (wp_mono _ _ _ fun _ => ?_)
      refine left_of_held Λ c i arg5 arg6 arg7 arg8 X1 X2 X3 X4 X5 X6 X7 _ (arg8.view.read (Elt F) X8) _ _ _ ?_ ?_
      · refine ⟨fun h => absurd hw h, fun _ y => ?_⟩
        have hf := filled hw
        have hE' : (w3 (F := F) i (Memref.whole main_v28) X2).toNat < 16 := by rw [w3_eq]; exact hE
        have hO := fun h h' => Λ.lawO c bd i (Memref.whole main_v45) (Memref.isWhole_whole _) (Memref.whole main_v28) (Memref.isWhole_whole _) (Memref.whole main_v2) (Memref.isWhole_whole _) (Memref.whole main_v46) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _) X8 (next9 (F := F) c bd i (Memref.whole main_v45) (Memref.isWhole_whole _) (Memref.whole main_v28) (Memref.isWhole_whole _) (Memref.whole main_v2) (Memref.isWhole_whole _) (Memref.whole main_v46) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _) X2 X6 X7 X9) (next10 (F := F) i (Memref.whole main_v45) arg5 (Memref.whole cc0_scratch1) X1 X5 X10) (next11 (F := F) i (Memref.whole main_v45) arg5 (Memref.whole cc0_scratch2) X1 X5 X11)
          (w1 (F := F) i (Memref.whole main_v45) X1) (w24 (F := F) (Memref.whole main_v2) X3 (w3 (F := F) i (Memref.whole main_v28) X2) h) (w29 (F := F) (Memref.whole main_v2) X3 (w3 (F := F) i (Memref.whole main_v28) X2) h')
          (arg5.view.read (Elt F) X5) (arg6.view.read (Elt F) X6) (arg7.view.read (Elt F) X7)
          (by rw [w1_eq]; exact hT) (by rw [w24_eq]; exact hS _ (by omega)) (by rw [w29_eq _ _ hE']; exact hS _ (by omega)) hf.1 hf.2.1 hf.2.2 y
        rw [← w3_eq (F := F) i X2, ← w24_eq (F := F) X3 _ (hchk.1 hc), ← w29_eq (F := F) X3 _ hE' (hchk.2 hc), ← w1_eq (F := F) i X1]
        exact hO _ _
      · intro _
        exact filled hw
    · have hc : ¬ k0_cond1 i (w7 (F := F) (Memref.whole main_v46) X4) = 1#1 := by rw [w7_eq]; exact fun h => hw ((cond1_iff i _ h4).mp h)
      exact (body_N (F := F) c bd E i (Memref.whole main_v45) (Memref.isWhole_whole _) (Memref.whole main_v28) (Memref.isWhole_whole _) (Memref.whole main_v2) (Memref.isWhole_whole _) (Memref.whole main_v46) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _) X1 X2 X3 X4 X5 X6 X7 X8 X9 X10 X11 hchk hc).trans
        (wp_mono _ _ _ fun _ => left_of_held Λ c i arg5 arg6 arg7 arg8 X1 X2 X3 X4 X5 X6 X7 X8 (arg8.view.read (Elt F) X8) X9 X10 X11
          ⟨fun _ => rfl, fun h => absurd h hw⟩ (fun h => absurd h hw))
  rw [held_eq] at key
  iapply key
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.KernelIdeal.Gen
end
-- ==== Proof.My.Run.lean ====
module

public import proofs.«01_k».proof.Proof.My.Point

public import Idealize.ShloMosaic.Lib.Pipeline.FrameBody

@[expose] public section

set_option maxRecDepth 8192

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open Idealize.ShloMosaic.Pipeline (RDat Cfg ΦA ΦT prefHeld)

/-- The host's operations before the kernel, one list to a stretch. -/
abbrev opss : List (List (HloOp τ sig (Elt F))) :=
  [hostOps0, hostOps0_1, hostOps0_2, hostOps0_3, hostOps0_4, hostOps0_5, hostOps0_6, hostOps0_7, hostOps0_8, hostOps0_9]

variable (m : (ℓ : Loc nD τ sig) → Buf (Elt F) ℓ) (g : Dev nD → PrngReg)

/-- A core's buffers when the kernel is called: what the host's operations leave. -/
def Vk (c : Dev nD) (b : Ref sig .tc) : Buf (Elt F) ((c : Thread nD τ).loc b) :=
  StableHlo.after (opss (F := F)).flatten (fun b => m (c, b)) b

variable (pf : pre0.Contents (Elt F)) (hok : ok0 pf)

/-- The tables as the pipeline is run at. -/
abbrev adm : (p : Fin 1) → (pcfgs (F := F) p).Adm := fun _ => ⟨pf, hok⟩

/-- The pipeline at its tables. -/
abbrev cfgK : Cfg sig Λ₀ := Pipeline.pin (pcfgs (F := F)) (adm pf hok) 0

theorem N_eq : (cfgK pf hok).N = 111 := N_0

theorem coord_eq (t : Fin (cfgK pf hok).N) : ((cfgK pf hok).grid.coords t 0).val = t.val := by
  have h : t.val < 111 := t.isLt.trans_eq (N_eq pf hok)
  show t.val / grid0.stride 0 % 111 = t.val
  have hs : grid0.stride 0 = 1 := by decide
  rw [hs, Nat.div_one, Nat.mod_eq_of_lt h]

/-- The words of the four tables. -/
abbrev tT (k : ℕ) : BitVec 32 := wd (n := 111) (pf 0) k
abbrev tE (k : ℕ) : BitVec 32 := wd (n := 111) (pf 1) k
abbrev tS (k : ℕ) : BitVec 32 := wd (n := 17) (pf 2) k
abbrev tN : BitVec 32 := wd (n := 1) (pf 3) 0

/-- What the run asks of the tables: every word is a number of a tile, an expert, a row or a visit. -/
structure TabOK : Prop where
  hN : (tN pf).toNat ≤ 111
  hT : ∀ k < 111, (tT pf k).toNat < 96
  hE : ∀ k < 111, (tE pf k).toNat < 16
  hS : ∀ e ≤ 16, (tS pf e).toNat ≤ 24576

/-- Window `w`'s block at a point. -/
def blkK (c : Dev nD) (w : Fin 4) (t : Fin (cfgK pf hok).N) : ((cfgK pf hok).win w).block.Idx → Elt F ((cfgK pf hok).win w).elt :=
  ((cfgK pf hok).win w).fill ((cfgK pf hok).grid.coords t) (fun _ => Classical.arbitrary _)
    (((cfgK pf hok).win w).blk t |>.view.read (Elt F) (Vk m c (Pipeline.arrRef spec0 w)))

variable (Λ : Laws F)

/-- The run's proof data. -/
def rdat (c : Dev nD) : RDat τ (Elt F) Unit ℕ (UR sig nD τ) ℕ (cfgK pf hok) c where
  A w := Vk m c (Pipeline.arrRef spec0 w)
  after w t Y X := match w, Y, X with
    | 0, Y, X => X = Y
    | 1, Y, X => X = Y
    | 2, Y, X => X = Y
    | 3, Y, X => Step Λ (t.val < (tN pf).toNat) (tT pf t.val).toNat (tS pf (tE pf t.val).toNat).toNat (tS pf ((tE pf t.val).toNat + 1)).toNat
        (blkK m pf hok c 0 t) (blkK m pf hok c 1 t) (blkK m pf hok c 2 t) Y X
  Φ t := iprop((∃ X9 X10 X11, ⌜∀ t' : Fin (cfgK pf hok).N, t'.val + 1 = t.val → t'.val < (tN pf).toNat →
      Filled Λ (blkK m pf hok c 0 t') (blkK m pf hok c 1 t') (blkK m pf hok c 2 t') X9 X10 X11⌝ ∗ Scr (F := F) c X9 X10 X11)
      ∗ (∃ r, prngReg c r) ∗ ΦT pre0 pf c)
  q _ := fullShare
  owed _ := 0

theorem rdat_in (c : Dev nD) (w : Fin 4) (hw : w ≠ 3) (t : Fin (cfgK pf hok).N) (Y) (hY : (rdat m pf hok Λ c).Finds w t Y) :
    Y = blkK m pf hok c w t := by
  have hio : ((cfgK pf hok).win w).isOut = false := by fin_cases w <;> first | rfl | exact absurd rfl hw
  obtain ⟨d, hd⟩ := (rdat m pf hok Λ c).finds_in_eq_fetched w hio (fun _ _ _ => by fin_cases w <;> rfl)
    (fun t Y X h => by fin_cases w <;> first | exact h | exact absurd rfl hw) t Y hY
  rw [hd]
  unfold blkK RDat.fetched RDat.blockOf
  funext j
  have hm : ((cfgK pf hok).win w).moved ((cfgK pf hok).grid.coords t) j = true :=
    (((cfgK pf hok).win w).moved_iff _ j).mpr fun a => (j a).isLt
  unfold Pipeline.Window.fill
  rw [dif_pos hm, dif_pos hm]
  rfl

theorem blk_congr (c : Dev nD) (w : Fin 4) (t t' : Fin (cfgK pf hok).N) (h : ((cfgK pf hok).win w).index t = ((cfgK pf hok).win w).index t') :
    blkK m pf hok c w t = blkK m pf hok c w t' :=
  (rdat m pf hok (Laws.trivial F) c).fetched_congr w h rfl _

theorem tab_at (i : grid0.Coords) (X : S111.Idx → BitVec 32) (h : ∀ a, k0_off1 i a + S1.size a ≤ S111.size a) (x : S1.Idx) :
    X ((Rect.unit (s := S111) (k0_off1 i) S1.size h).emb x) = wd X (i 0).val :=
  read_word X _ _ (off1_eq i) h x

theorem index0 (t : Fin (cfgK pf hok).N) : ((cfgK pf hok).win 0).index t = ![(tT pf t.val).toNat, 0] := by
  have e := tab_at ((cfgK pf hok).grid.coords t) (pf 0) (k0_off1_inb _) (Shape.Idx.first (s := S1) (numel1_S1.symm ▸ Nat.one_pos))
  rw [coord_eq] at e
  exact congrArg (fun x : BitVec 32 => ![x.toNat, 0]) e

theorem index1 (t : Fin (cfgK pf hok).N) : ((cfgK pf hok).win 1).index t = ![(tE pf t.val).toNat, 0, 0] := by
  have e := tab_at ((cfgK pf hok).grid.coords t) (pf 1) (k0_off1_inb _) (Shape.Idx.first (s := S1) (numel1_S1.symm ▸ Nat.one_pos))
  rw [coord_eq] at e
  exact congrArg (fun x : BitVec 32 => ![x.toNat, 0, 0]) e

theorem index2 (t : Fin (cfgK pf hok).N) : ((cfgK pf hok).win 2).index t = ![(tE pf t.val).toNat, 0, 0] := by
  have e := tab_at ((cfgK pf hok).grid.coords t) (pf 1) (k0_off1_inb _) (Shape.Idx.first (s := S1) (numel1_S1.symm ▸ Nat.one_pos))
  rw [coord_eq] at e
  exact congrArg (fun x : BitVec 32 => ![x.toNat, 0, 0]) e

theorem index3 (t : Fin (cfgK pf hok).N) : ((cfgK pf hok).win 3).index t = ![(tT pf t.val).toNat, 0] := by
  have e := tab_at ((cfgK pf hok).grid.coords t) (pf 0) (k0_off1_inb _) (Shape.Idx.first (s := S1) (numel1_S1.symm ▸ Nat.one_pos))
  rw [coord_eq] at e
  exact congrArg (fun x : BitVec 32 => ![x.toNat, 0]) e

/-- The kernel at a point, on the point's staging buffers. -/
theorem prog_eq (t : Fin (cfgK pf hok).N) :
    (defs₀ (F := F)) .tc (cfgK pf hok).body ((cfgK pf hok).bodyArgs t ((cfgK pf hok).slots t))
      = cc0_int4_dgrad ((cfgK pf hok).grid.coords t) (Memref.whole main_v45) (Memref.isWhole_whole _) (Memref.whole main_v28) (Memref.isWhole_whole _) (Memref.whole main_v2) (Memref.isWhole_whole _) (Memref.whole main_v46) (Memref.isWhole_whole _)
        (spec0_0.stage ((cfgK pf hok).slots t 0)) (hstage0_0 (((cfgK pf hok).slots t 0).cast nbuf0_0)) (spec0_1.stage ((cfgK pf hok).slots t 1)) (hstage0_1 (((cfgK pf hok).slots t 1).cast nbuf0_1)) (spec0_2.stage ((cfgK pf hok).slots t 2)) (hstage0_2 (((cfgK pf hok).slots t 2).cast nbuf0_2)) (spec0_3.stage ((cfgK pf hok).slots t 3)) (hstage0_3 (((cfgK pf hok).slots t 3).cast nbuf0_3)) (Memref.whole cc0_scratch0) (Memref.isWhole_whole _) (Memref.whole cc0_scratch1) (Memref.isWhole_whole _) (Memref.whole cc0_scratch2) (Memref.isWhole_whole _) := by
  unfold defs₀
  rw [Defs.onTc_tc]

/-- The tables as the pipeline holds them are the four tables. -/
theorem tabs_eq (c : Dev nD) : (ΦT pre0 pf c : sProp 𝕄G) = Tabs (F := F) c (pf 0) (pf 1) (pf 2) (pf 3) := by
  unfold Pipeline.ΦT Pipeline.prefHeld
  exact bigSep_W0 _

variable {pf} in
theorem point_at (c : Dev nD) (t : Fin (cfgK pf hok).N) (ht : TabOK pf) (Y : (w : Fin 4) → ((cfgK pf hok).win w).block.Idx → Elt F ((cfgK pf hok).win w).elt)
    (hY : ∀ w : Fin 4, (rdat m pf hok Λ c).Finds w t (Y w)) (X9 X10 X11)
    (hX : ∀ t' : Fin (cfgK pf hok).N, t'.val + 1 = t.val → t'.val < (tN pf).toNat →
      Filled Λ (blkK m pf hok c 0 t') (blkK m pf hok c 1 t') (blkK m pf hok c 2 t') X9 X10 X11) :
    iprop(Tabs (F := F) c (pf 0) (pf 1) (pf 2) (pf 3) ∗ owns (c : Thread nD τ) (spec0_0.stage ((cfgK pf hok).slots t 0)) fullShare (Y 0) ∗ owns (c : Thread nD τ) (spec0_1.stage ((cfgK pf hok).slots t 1)) fullShare (Y 1)
        ∗ owns (c : Thread nD τ) (spec0_2.stage ((cfgK pf hok).slots t 2)) fullShare (Y 2) ∗ owns (c : Thread nD τ) (spec0_3.stage ((cfgK pf hok).slots t 3)) fullShare (Y 3) ∗ Scr (F := F) c X9 X10 X11)
      ⊢ (wp frame (wpE (defs₀ (F := F)) Variants.none (c : Thread nD τ) none) Set.univ ((defs₀ (F := F)) .tc (cfgK pf hok).body ((cfgK pf hok).bodyArgs t ((cfgK pf hok).slots t)))
        (fun _ => Left Λ c ((cfgK pf hok).grid.coords t) (spec0_0.stage ((cfgK pf hok).slots t 0)) (spec0_1.stage ((cfgK pf hok).slots t 1)) (spec0_2.stage ((cfgK pf hok).slots t 2)) (spec0_3.stage ((cfgK pf hok).slots t 3)) (pf 0) (pf 1) (pf 2) (pf 3) (Y 0) (Y 1) (Y 2) (Y 3)) : sProp 𝕄G) := by
  have hlt : t.val < 111 := t.isLt.trans_eq (N_eq pf hok)
  have hc := coord_eq pf hok t
  have back : ∀ n : ℕ, t.val ≠ 0 → n = t.val - 1 → ∃ t' : Fin (cfgK pf hok).N, t'.val = n ∧ t'.val + 1 = t.val := fun n h0 hn =>
    ⟨⟨t.val - 1, by have := t.isLt; omega⟩, hn.symm, by show t.val - 1 + 1 = t.val; omega⟩
  rw [prog_eq]
  refine point Λ c none Set.univ _ _ _ _ _ _ _ _ _ (pf 0) (pf 1) (pf 2) (pf 3) (Y 0) (Y 1) (Y 2) (Y 3) X9 X10 X11 ht.hN ?_ ?_ ht.hS ?_ ?_
  · rw [hc]; exact ht.hT _ hlt
  · rw [hc]; exact ht.hE _ hlt
  · rw [hc]; intro hw h0 he
    obtain ⟨t', h1, h2⟩ := back _ h0 rfl
    have e : tE pf t'.val = tE pf t.val := by rw [h1]; exact he
    have f := (hX t' h2 (by have : t.val < (tN pf).toNat := hw
                            omega)).1
    rw [blk_congr m pf hok c 1 t' t (by rw [index1, index1, e]), blk_congr m pf hok c 2 t' t (by rw [index2, index2, e])] at f
    rw [rdat_in m pf hok Λ c 1 (by decide) t _ (hY 1), rdat_in m pf hok Λ c 2 (by decide) t _ (hY 2)]
    exact f
  · rw [hc]; intro hw h0 he
    obtain ⟨t', h1, h2⟩ := back _ h0 rfl
    have e : tT pf t'.val = tT pf t.val := by rw [h1]; exact he
    have f := (hX t' h2 (by have : t.val < (tN pf).toNat := hw
                            omega)).2
    rw [blk_congr m pf hok c 0 t' t (by rw [index0, index0, e])] at f
    rw [rdat_in m pf hok Λ c 0 (by decide) t _ (hY 0)]
    exact f

variable {pf} in
/-- What the kernel leaves at a point is what the run's data say of the next. -/
theorem finish (c : Dev nD) (t : Fin (cfgK pf hok).N) (ht : TabOK pf) (Y : (w : Fin 4) → ((cfgK pf hok).win w).block.Idx → Elt F ((cfgK pf hok).win w).elt)
    (hY : ∀ w : Fin 4, (rdat m pf hok Λ c).Finds w t (Y w)) :
    iprop(Left Λ c ((cfgK pf hok).grid.coords t) (spec0_0.stage ((cfgK pf hok).slots t 0)) (spec0_1.stage ((cfgK pf hok).slots t 1)) (spec0_2.stage ((cfgK pf hok).slots t 2)) (spec0_3.stage ((cfgK pf hok).slots t 3)) (pf 0) (pf 1) (pf 2) (pf 3) (Y 0) (Y 1) (Y 2) (Y 3)
        ∗ (∃ r, prngReg c r) ∗ (rdat m pf hok Λ c).owesAt () t.castSucc)
      ⊢ (iprop(((∃ X9 X10 X11, ⌜∀ t' : Fin (cfgK pf hok).N, t'.val + 1 = t.val + 1 → t'.val < (tN pf).toNat →
            Filled Λ (blkK m pf hok c 0 t') (blkK m pf hok c 1 t') (blkK m pf hok c 2 t') X9 X10 X11⌝ ∗ Scr (F := F) c X9 X10 X11)
          ∗ (∃ r, prngReg c r) ∗ Tabs (F := F) c (pf 0) (pf 1) (pf 2) (pf 3))
        ∗ (rdat m pf hok Λ c).owesAt () t.castSucc
        ∗ (∃ X, ⌜(rdat m pf hok Λ c).after 0 t (Y 0) X⌝ ∗ owns (c : Thread nD τ) (spec0_0.stage ((cfgK pf hok).slots t 0)) fullShare X)
        ∗ (∃ X, ⌜(rdat m pf hok Λ c).after 1 t (Y 1) X⌝ ∗ owns (c : Thread nD τ) (spec0_1.stage ((cfgK pf hok).slots t 1)) fullShare X)
        ∗ (∃ X, ⌜(rdat m pf hok Λ c).after 2 t (Y 2) X⌝ ∗ owns (c : Thread nD τ) (spec0_2.stage ((cfgK pf hok).slots t 2)) fullShare X)
        ∗ (∃ X, ⌜(rdat m pf hok Λ c).after 3 t (Y 3) X⌝ ∗ owns (c : Thread nD τ) (spec0_3.stage ((cfgK pf hok).slots t 3)) fullShare X)) : sProp 𝕄G) := by
  have hc := coord_eq pf hok t
  have y0 := rdat_in m pf hok Λ c 0 (by decide) t _ (hY 0)
  have y1 := rdat_in m pf hok Λ c 1 (by decide) t _ (hY 1)
  have y2 := rdat_in m pf hok Λ c 2 (by decide) t _ (hY 2)
  unfold Left
  rw [hc]
  iintro ⟨⟨HT, H0, H1, H2, ⟨%X, %hs, H3⟩, ⟨%X9, %X10, %X11, %hf, HS⟩⟩, Hr, HW⟩
  isplitl [HT Hr HS]
  · isplitl [HS]
    · iexists X9; iexists X10; iexists X11
      isplitr
      · ipureintro
        intro t' h1 h2
        have e : t' = t := Fin.ext (by omega)
        subst e
        rw [← y0, ← y1, ← y2]
        exact hf h2
      · iexact HS
    isplitl [Hr]; · iexact Hr
    iexact HT
  isplitl [HW]; · iexact HW
  isplitl [H0]
  · iexists Y 0; isplitr; · ipureintro; rfl
    iexact H0
  isplitl [H1]
  · iexists Y 1; isplitr; · ipureintro; rfl
    iexact H1
  isplitl [H2]
  · iexists Y 2; isplitr; · ipureintro; rfl
    iexact H2
  iexists X
  isplitr
  · ipureintro
    show Step Λ _ _ _ _ (blkK m pf hok c 0 t) (blkK m pf hok c 1 t) (blkK m pf hok c 2 t) (Y 3) X
    rw [← y0, ← y1, ← y2]
    exact hs
  iexact H3

variable {pf} in
set_option backward.isDefEq.respectTransparency.types false in
theorem body_obligation (ht : TabOK pf) (c : Dev nD) : (rdat m pf hok Λ c).BodyObligation (defs₀ (F := F)) Variants.none () Set.univ := fun t Y hY => by
  rw [bigSep_W0, bigSep_W0]
  rw [show (rdat m pf hok Λ c).Φ t.castSucc = iprop((∃ X9 X10 X11, ⌜∀ t' : Fin (cfgK pf hok).N, t'.val + 1 = t.val → t'.val < (tN pf).toNat →
      Filled Λ (blkK m pf hok c 0 t') (blkK m pf hok c 1 t') (blkK m pf hok c 2 t') X9 X10 X11⌝ ∗ Scr (F := F) c X9 X10 X11)
      ∗ (∃ r, prngReg c r) ∗ ΦT pre0 pf c) from rfl,
    show (rdat m pf hok Λ c).Φ t.succ = iprop((∃ X9 X10 X11, ⌜∀ t' : Fin (cfgK pf hok).N, t'.val + 1 = t.val + 1 → t'.val < (tN pf).toNat →
      Filled Λ (blkK m pf hok c 0 t') (blkK m pf hok c 1 t') (blkK m pf hok c 2 t') X9 X10 X11⌝ ∗ Scr (F := F) c X9 X10 X11)
      ∗ (∃ r, prngReg c r) ∗ ΦT pre0 pf c) from rfl, tabs_eq]
  rw [show (rdat m pf hok Λ c).owesAt () t.succ = (rdat m pf hok Λ c).owesAt () t.castSucc from rfl]
  iintro ⟨⟨⟨%X9, %X10, %X11, %hX, HS⟩, Hr, HT⟩, HW, H0, H1, H2, H3⟩
  iapply (wp_mono frame (wpE (defs₀ (F := F)) Variants.none (c : Thread nD τ) none) Set.univ (fun _ => finish m hok Λ c t ht Y hY))
  iapply (wp_frame_r frame (wpE (defs₀ (F := F)) Variants.none (c : Thread nD τ) none) Set.univ)
  isplitl [HS HT H0 H1 H2 H3]
  · iapply (point_at m hok Λ c t ht Y hY X9 X10 X11 hX)
    isplitl [HT]; · iexact HT
    isplitl [H0]; · iexact H0
    isplitl [H1]; · iexact H1
    isplitl [H2]; · iexact H2
    isplitl [H3]; · iexact H3
    iexact HS
  · isplitl [Hr]; · iexact Hr
    iexact HW

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub⟩

theorem opss_fresh : (opss (F := F)).Forall fun ops => ops.Forall fun op => op.fresh = ∅ := by
  refine ⟨?_, ?_, ?_, ?_, ?_, ?_, ?_, ?_, ?_, ?_⟩ <;> (repeat' apply And.intro) <;> rfl

variable {pf} in
/-- The run: from tables that name tiles, experts and rows, the program ends with the output array where the points'
    steps lead, and every other buffer as the host's operations left it. -/
theorem run (ht : TabOK pf) (hV : ∀ (c : Dev nD) k, Vk m c (pre0.ref k) = pf k) :
    θ_run defs (onTc (τ := τ) (main (F := F))) (s₀ m g)
      (fun r => RDat.FramePost (cfgK pf hok) (rdat m pf hok Λ) (Vk m) r ∧ r.2.sem = fun _ => 0) :=
  RDat.θ_run_frameP_track (pcfgs (F := F)) (adm pf hok) 0 launch0 (defs₀ (F := F)) Variants.none (rdat m pf hok Λ) m g main
    (hbody := fun c => body_obligation m hok Λ ht c)
    (hshare := fun c w => by fin_cases w <;> rfl)
    (howed := fun _ _ => rfl) (V := Vk m)
    (hmain := Pipeline.hmainP_prefixes (pcfgs (F := F)) 0 (defs₀ (F := F)) Variants.none m main opss opss_sub opss_fresh (fun c => main_chain c))
    (hA := fun _ _ => rfl) (hpf := hV)
    (Q' := fun r => RDat.FramePost (cfgK pf hok) (rdat m pf hok Λ) (Vk m) r ∧ r.2.sem = fun _ => 0) (hQ' := fun _ h => h)
    (hin := fun c => by
      show iprop(ΦA spec0 c ∗ ΦT pre0 pf c) ⊢ (iprop((∃ X9 X10 X11, ⌜∀ t' : Fin (cfgK pf hok).N, t'.val + 1 = 0 → t'.val < (tN pf).toNat →
          Filled Λ (blkK m pf hok c 0 t') (blkK m pf hok c 1 t') (blkK m pf hok c 2 t') X9 X10 X11⌝ ∗ Scr (F := F) c X9 X10 X11)
          ∗ (∃ r, prngReg c r) ∗ ΦT pre0 pf c) : sProp 𝕄G)
      unfold ΦA
      rw [scopedRest0_eq]
      iintro ⟨⟨⟨⟨%X9, H9⟩, ⟨%X10, H10⟩, ⟨%X11, H11⟩⟩, Hr⟩, HT⟩
      isplitl [H9 H10 H11]
      · iexists X9; iexists X10; iexists X11
        isplitr
        · ipureintro; intro t' h; omega
        isplitl [H9]; · iexact H9
        isplitl [H10]; · iexact H10
        iexact H11
      isplitl [Hr]; · iexact Hr
      iexact HT)
    (hout := fun c => by
      show (iprop((∃ X9 X10 X11, ⌜∀ t' : Fin (cfgK pf hok).N, t'.val + 1 = (cfgK pf hok).N → t'.val < (tN pf).toNat →
          Filled Λ (blkK m pf hok c 0 t') (blkK m pf hok c 1 t') (blkK m pf hok c 2 t') X9 X10 X11⌝ ∗ Scr (F := F) c X9 X10 X11)
          ∗ (∃ r, prngReg c r) ∗ ΦT pre0 pf c) : sProp 𝕄G) ⊢ ΦA spec0 c
      unfold ΦA
      rw [scopedRest0_eq]
      iintro ⟨⟨%X9, %X10, %X11, %hX, H9, H10, H11⟩, Hr, HT⟩
      isplitr [Hr]
      · isplitl [H9]; · iexists X9; iexact H9
        isplitl [H10]; · iexists X10; iexact H10
        iexists X11; iexact H11
      iexact Hr)

end Cert.KernelIdeal.Gen
end
-- ==== Proof.My.Sched.lean ====
module

public import Idealize.ShloMosaic.Lib.Routing.Ops

@[expose] public section

/-!
The schedule of the visits, over natural numbers: from the experts' row counts, the order in which the tiles of rows
are visited and the expert each visit is for.
-/

namespace Cert.Sched

variable (f : ℕ → ℕ)

/-- The first row of expert `e`: the sum of the counts before it. -/
def S (e : ℕ) : ℕ := ((List.range e).map f).sum
/-- The tile the expert's first row lies in. -/
def Fr (k : ℕ) : ℕ := S f k / 256
/-- The number of visits the expert needs. -/
def C (k : ℕ) : ℕ := if 0 < f k then (S f (k + 1) + 255) / 256 - S f k / 256 else 0
/-- The visits of the experts before `e`. -/
def Vv (e : ℕ) : ℕ := ((List.range e).map (C f)).sum
/-- The visit a point makes: the last visit again after the last. -/
def nn (i : ℕ) : ℕ := min i (Vv f 16 - 1)
/-- The expert of a point. -/
def Ex (i : ℕ) : ℕ := Nat.count (fun e => Vv f (e + 1) ≤ nn f i) 16
/-- The tile of a point. -/
def Ti (i : ℕ) : ℕ := Fr f (Ex f i) + nn f i - Vv f (Ex f i)

theorem S_succ (e : ℕ) : S f (e + 1) = S f e + f e := by simp [S, List.range_succ]
theorem Vv_succ (e : ℕ) : Vv f (e + 1) = Vv f e + C f e := by simp [Vv, List.range_succ]
theorem S_zero : S f 0 = 0 := rfl
theorem Vv_zero : Vv f 0 = 0 := rfl

theorem S_mono : Monotone (S f) := monotone_nat_of_le_succ fun e => by rw [S_succ]; omega
theorem Vv_mono : Monotone (Vv f) := monotone_nat_of_le_succ fun e => by rw [Vv_succ]; omega

/-- Experts without a visit have no row. -/
theorem S_eq_of_Vv (a b : ℕ) (hab : a ≤ b) (h : Vv f a = Vv f b) : S f a = S f b := by
  induction b, hab using Nat.le_induction with
  | base => rfl
  | succ b hb ih =>
    have h1 := Vv_succ f b
    have h2 := Vv_mono f hb
    have h3 : Vv f a = Vv f b := by omega
    have h4 : C f b = 0 := by omega
    rw [ih h3, S_succ]
    have h5 := S_succ f b
    unfold C at h4
    split at h4
    · omega
    · omega

theorem count_spec (p : ℕ → Prop) [DecidablePred p] (hp : ∀ a b, a ≤ b → p b → p a) (n : ℕ) :
    Nat.count p n ≤ n ∧ (∀ e < Nat.count p n, p e) ∧ (Nat.count p n < n → ¬ p (Nat.count p n)) := by
  induction n with
  | zero => simp
  | succ n ih =>
    obtain ⟨h1, h2, h3⟩ := ih
    rw [Nat.count_succ]
    by_cases hn : p n
    · have : Nat.count p n = n := by
        by_contra hne
        exact h3 (by omega) (hp _ n h1 hn)
      rw [if_pos hn, this]
      exact ⟨le_rfl, fun e he => hp e n (by omega) hn, fun h => absurd h (lt_irrefl _)⟩
    · rw [if_neg hn, Nat.add_zero]
      refine ⟨by omega, h2, fun _ => ?_⟩
      rcases Nat.lt_or_ge (Nat.count p n) n with h | h
      · exact h3 h
      · have : Nat.count p n = n := by omega
        rw [this]; exact hn

/-- What the schedule of visits comes to. -/
structure OK (T E S : ℕ → ℕ) (NV : ℕ) : Prop where
  pos : 0 < NV
  le : NV ≤ 111
  hT : ∀ i < 111, T i < 96
  hE : ∀ i < 111, E i < 16
  hS : ∀ e ≤ 16, S e ≤ 24576
  T0 : T 0 = 0
  S0 : S (E 0) = 0
  step : ∀ i, i + 1 < NV → (T (i + 1) = T i ∧ S (E (i + 1)) = S (E i + 1))
    ∨ (T (i + 1) = T i + 1 ∧ (T i + 1) * 256 ≤ S (E i + 1) ∧ S (E (i + 1)) ≤ (T i + 1) * 256)
  last : T (NV - 1) = 95 ∧ S (E (NV - 1) + 1) = 24576
  tail : ∀ i, NV ≤ i → T i = T (NV - 1) ∧ E i = E (NV - 1)

section
variable (hsum : S f 16 = 24576)
include hsum

theorem pos : 0 < Vv f 16 := by
  by_contra h
  have := S_eq_of_Vv f 0 16 (by omega) (by rw [Vv_zero]; omega)
  rw [S_zero] at this
  omega

theorem S_le (e : ℕ) (he : e ≤ 16) : S f e ≤ 24576 := hsum ▸ S_mono f he

omit hsum in
theorem Vv_le (e : ℕ) : Vv f e ≤ (S f e + 255) / 256 + (e - 1) := by
  induction e with
  | zero => simp [Vv_zero]
  | succ e ih =>
    have h1 := Vv_succ f e
    have h2 := S_succ f e
    rcases Nat.eq_zero_or_pos e with he | he
    · subst he
      rw [Vv_zero] at h1
      unfold C at h1
      rw [S_zero] at h1 h2
      split at h1 <;> omega
    · unfold C at h1
      split at h1 <;> omega

theorem spec (i : ℕ) : Ex f i < 16 ∧ Vv f (Ex f i) ≤ nn f i ∧ nn f i < Vv f (Ex f i + 1) := by
  have hp := pos f hsum
  have hn : nn f i < Vv f 16 := by unfold nn; omega
  obtain ⟨h1, h2, h3⟩ := count_spec (fun e => Vv f (e + 1) ≤ nn f i)
    (fun a b hab hb => le_trans (Vv_mono f (by omega : a + 1 ≤ b + 1)) hb) 16
  change Ex f i ≤ 16 at h1
  change ∀ e < Ex f i, _ at h2
  change Ex f i < 16 → ¬ Vv f (Ex f i + 1) ≤ nn f i at h3
  have hlt : Ex f i < 16 := by
    rcases Nat.lt_or_ge (Ex f i) 16 with h | h
    · exact h
    · have h15 : Vv f 16 ≤ nn f i := h2 15 (by omega)
      omega
  refine ⟨hlt, ?_, by have := h3 hlt; omega⟩
  rcases Nat.eq_zero_or_pos (Ex f i) with h | h
  · rw [h, Vv_zero]; omega
  · have := h2 (Ex f i - 1) (by omega)
    rwa [Nat.sub_add_cancel h] at this

/-- Where a visit lies among the tiles of its expert. -/
theorem tile (i : ℕ) : 0 < f (Ex f i) ∧ Ti f i = S f (Ex f i) / 256 + (nn f i - Vv f (Ex f i))
    ∧ Vv f (Ex f i + 1) = Vv f (Ex f i) + ((S f (Ex f i + 1) + 255) / 256 - S f (Ex f i) / 256)
    ∧ S f (Ex f i + 1) ≤ 24576 ∧ S f (Ex f i + 1) = S f (Ex f i) + f (Ex f i) := by
  obtain ⟨h1, h2, h3⟩ := spec f hsum i
  have h4 := Vv_succ f (Ex f i)
  have hC : C f (Ex f i) ≠ 0 := by omega
  have hf : 0 < f (Ex f i) := by
    by_contra h
    exact hC (by unfold C; rw [if_neg h])
  refine ⟨hf, by unfold Ti Fr; omega, ?_, S_le f hsum _ (by omega), S_succ f _⟩
  rw [h4, C, if_pos hf]

theorem ok : OK (Ti f) (Ex f) (S f) (Vv f 16) := by
  have hp := pos f hsum
  refine ⟨hp, ?_, ?_, ?_, S_le f hsum, ?_, ?_, ?_, ?_, ?_⟩
  · have := Vv_le f 16
    rw [hsum] at this
    omega
  · intro i _
    have h := tile f hsum i
    have h' := spec f hsum i
    omega
  · intro i _
    exact (spec f hsum i).1
  · have h := tile f hsum 0
    have h' := spec f hsum 0
    have hn : nn f 0 = 0 := by unfold nn; omega
    have hs := S_eq_of_Vv f 0 (Ex f 0) (by omega) (by rw [Vv_zero]; omega)
    rw [S_zero] at hs
    omega
  · have h' := spec f hsum 0
    have hn : nn f 0 = 0 := by unfold nn; omega
    have hs := S_eq_of_Vv f 0 (Ex f 0) (by omega) (by rw [Vv_zero]; omega)
    rw [S_zero] at hs
    omega
  · intro i hi
    have a := tile f hsum i
    have a' := spec f hsum i
    have b := tile f hsum (i + 1)
    have b' := spec f hsum (i + 1)
    have n1 : nn f i = i := by unfold nn; omega
    have n2 : nn f (i + 1) = i + 1 := by unfold nn; omega
    rw [n1] at a a'
    rw [n2] at b b'
    rcases Nat.lt_or_ge (i + 1) (Vv f (Ex f i + 1)) with h | h
    · have hE : Ex f (i + 1) = Ex f i := by
        rcases Nat.lt_trichotomy (Ex f (i + 1)) (Ex f i) with hh | hh | hh
        · have := Vv_mono f (by omega : Ex f (i + 1) + 1 ≤ Ex f i)
          omega
        · exact hh
        · have := Vv_mono f (by omega : Ex f i + 1 ≤ Ex f (i + 1))
          omega
      right
      rw [hE] at b b' ⊢
      omega
    · have hle : Ex f i + 1 ≤ Ex f (i + 1) := by
        by_contra hh
        have := Vv_mono f (by omega : Ex f (i + 1) + 1 ≤ Ex f i + 1)
        omega
      have hS := S_eq_of_Vv f _ _ hle (by have := Vv_mono f hle; omega)
      rw [← hS] at b ⊢
      have hV : Vv f (Ex f (i + 1)) = i + 1 := by have := Vv_mono f hle; omega
      omega
  · have a := tile f hsum (Vv f 16 - 1)
    have a' := spec f hsum (Vv f 16 - 1)
    have n1 : nn f (Vv f 16 - 1) = Vv f 16 - 1 := by unfold nn; omega
    rw [n1] at a a'
    have hm := Vv_mono f (by omega : Ex f (Vv f 16 - 1) + 1 ≤ 16)
    have hS := S_eq_of_Vv f (Ex f (Vv f 16 - 1) + 1) 16 (by omega) (by omega)
    rw [hsum] at hS
    refine ⟨by omega, hS⟩
  · intro i hi
    have h : nn f i = nn f (Vv f 16 - 1) := by unfold nn; omega
    unfold Ti Ex
    rw [h]
    exact ⟨rfl, rfl⟩

end

end Cert.Sched
-- ==== Proof.My.Tables.lean ====
module

public import proofs.«01_k».proof.Proof.My.Run

public import proofs.«01_k».proof.Proof.My.Sched
public import Idealize.ShloMosaic.Lib.StableHlo.ReadAt
public import Idealize.ShloMosaic.Lib.Routing.Ops
public import Idealize.ShloMosaic.Lib.Routing.OpsSet
public import Idealize.ShloMosaic.Lib.Routing.OpsSearch

@[expose] public section

set_option maxRecDepth 8192

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open Idealize.ShloMosaic.Routing
open Idealize.ShloMosaic.StableHlo (after)
open Cert.Sched (S Fr C Vv nn Ex Ti)

/-- jnp's running sum of sixteen words. -/
theorem csum (x : S16.Idx → BitVec 32) (f : ℕ → ℕ) (hx : ∀ k < 16, wd (n := 16) x k = BitVec.ofNat 32 (f k)) (i : S16.Idx) :
    Host.reduceWindow IntOp.addi ![16] ![1] ![15] ![0] x (broadcastInDim S_ ![] bcast_S_S_ (constantI S_ 32 0#32)) reduceWindows_S16_S16_w16s1p15_0 h_S_ i
      = BitVec.ofNat 32 ((List.range ((i 0).val + 1)).map f).sum := by
  have h := cumsum1 (N := 16) (Nm1 := 15) rfl x f (fun i => (wd_of_idx x (ValueIdx.ix1 i) i.val rfl).trans (hx _ i.isLt))
    (broadcastInDim S_ ![] bcast_S_S_ (constantI S_ 32 0#32)) rfl reduceWindows_S16_S16_w16s1p15_0 h_S_ (i 0)
  have hi : ValueIdx.ix1 (i 0) = i := by funext a; match a with | ⟨0, _⟩ => rfl
  exact (congrArg _ hi.symm).trans h

/-- jnp's floor division by 256 as it prints, on a word that holds a natural. -/
theorem floordiv (x : BitVec 32) (a : ℕ) (ha : a < 2 ^ 31) (hx : x = BitVec.ofNat 32 a) :
    Scalar.select
      (IntOp.andi
        (IntOp.cmpi CmpIPredicate.ne (if x = 0 then 0 else if BitVec.msb x = true then -1 else 1)
          (if (256#32 : BitVec 32) = 0 then 0 else if BitVec.msb (256#32 : BitVec 32) = true then -1 else 1 : BitVec 32))
        (IntOp.cmpi CmpIPredicate.ne (IntOp.remsi ArithUnit.host x 256#32) 0#32))
      (IntOp.subi (IntOp.divsi ArithUnit.host x 256#32) 1#32)
      (IntOp.divsi ArithUnit.host x 256#32) = BitVec.ofNat 32 (a / 256) := by
  exact pyDiv0_ap (fun _ => x) (fun _ => 256#32) (a := a) (b := 256) hx rfl ha (by norm_num) (by norm_num)

theorem wd_idx (X : S16.Idx → BitVec 32) (i : S16.Idx) : X i = wd (n := 16) X (i 0).val := wd_of_idx X i _ rfl

theorem wd_ext {n : ℕ} (X : (⟨1, ![n]⟩ : Shape).Idx → BitVec 32) (g : ℕ → BitVec 32) (h : ∀ i, X i = g (i 0).val) (k : ℕ) (hk : k < n) : wd X k = g k := by
  have := wd_of_idx X (ValueIdx.ix1 ⟨k, hk⟩) k rfl
  rw [← this, h]
  rfl

theorem sgt_iff (a b : ℕ) (ha : a < 2 ^ 31) (hb : b < 2 ^ 31) : IntOp.cmpi CmpIPredicate.sgt (BitVec.ofNat 32 a) (BitVec.ofNat 32 b) = 1#1 ↔ b < a := by
  show BitVec.ofBool ((BitVec.ofNat 32 b).slt (BitVec.ofNat 32 a)) = 1#1 ↔ _
  rw [slt_ofNat32 hb ha]
  by_cases h : b < a <;> simp [h]
theorem slt_iff (a b : ℕ) (ha : a < 2 ^ 31) (hb : b < 2 ^ 31) : IntOp.cmpi CmpIPredicate.slt (BitVec.ofNat 32 a) (BitVec.ofNat 32 b) = 1#1 ↔ a < b := by
  show BitVec.ofBool ((BitVec.ofNat 32 a).slt (BitVec.ofNat 32 b)) = 1#1 ↔ _
  rw [slt_ofNat32 ha hb]
  by_cases h : a < b <;> simp [h]
theorem sge_iff (a b : ℕ) (ha : a < 2 ^ 31) (hb : b < 2 ^ 31) : IntOp.cmpi CmpIPredicate.sge (BitVec.ofNat 32 a) (BitVec.ofNat 32 b) = 1#1 ↔ b ≤ a := by
  show BitVec.ofBool ((BitVec.ofNat 32 b).sle (BitVec.ofNat 32 a)) = 1#1 ↔ _
  rw [BitVec.sle_eq_not_slt, slt_ofNat32 ha hb]
  by_cases h : a < b
  · simp [h]
  · simp [h]; omega

section Stages
variable (V : Valuation τ sig (Elt F)) (f : ℕ → ℕ)

theorem stage_v1 (hf : ∀ k < 16, wd (n := 16) (V main_arg1) k = BitVec.ofNat 32 (f k)) (i : S16.Idx) :
    after (hostOps0 ++ hostOps0_1) V main_v1 i = BitVec.ofNat 32 (S f ((i 0).val + 1)) := by
  after_reads_at
  exact csum _ f hf i

theorem stage_v0 (i : S1.Idx) : after (hostOps0 ++ hostOps0_1) V main_v0 i = 0#32 := by
  after_reads_at

theorem stage_v2 (h0 : ∀ i : S1.Idx, V main_v0 i = 0#32) (h1 : ∀ i : S16.Idx, V main_v1 i = BitVec.ofNat 32 (S f ((i 0).val + 1))) (i : S17.Idx) :
    after hostOps0_2 V main_v2 i = BitVec.ofNat 32 (S f (i 0).val) := by
  after_reads_at
  by_cases h : (i 0).val < 1
  · refine (dif_pos h).trans ((h0 _).trans ?_)
    have : (i 0).val = 0 := by omega
    rw [this]
    rfl
  · refine (dif_neg h).trans ((h1 _).trans ?_)
    show BitVec.ofNat 32 (S f ((i 0).val - 1 + 1)) = _
    rw [Nat.sub_add_cancel (by omega)]
theorem stage_v3 (h0 : ∀ i : S1.Idx, V main_v0 i = 0#32) (h1 : ∀ i : S16.Idx, V main_v1 i = BitVec.ofNat 32 (S f ((i 0).val + 1))) (i : S16.Idx) :
    after hostOps0_2 V main_v3 i = BitVec.ofNat 32 (S f (i 0).val) := by
  after_reads_at
  by_cases h : (i 0).val < 1
  · refine (dif_pos h).trans ((h0 _).trans ?_)
    have : (i 0).val = 0 := by omega
    rw [this]
    rfl
  · refine (dif_neg h).trans ((h1 _).trans ?_)
    show BitVec.ofNat 32 (S f ((i 0).val - 1 + 1)) = _
    rw [Nat.sub_add_cancel (by omega)]
theorem stage_c0 (i : S_.Idx) : after hostOps0_2 V main_c_0 i = 256#32 := by
  after_reads_at
theorem stage_v4 (hS : ∀ e ≤ 16, S f e ≤ 24576) (h0 : ∀ i : S_.Idx, V main_c_0 i = 256#32) (h1 : ∀ i : S16.Idx, V main_v3 i = BitVec.ofNat 32 (S f (i 0).val)) (i : S16.Idx) :
    after hostOps0_3 V main_v4 i = BitVec.ofNat 32 (Fr f (i 0).val) := by
  after_reads_at
  simp only [id, h0]
  exact floordiv _ _ (by have := hS (i 0).val (i 0).isLt.le; omega) (h1 i)
theorem stage_v10 (hS : ∀ e ≤ 16, S f e ≤ 24576) (h1 : ∀ i : S17.Idx, V main_v2 i = BitVec.ofNat 32 (S f (i 0).val)) (i : S16.Idx) :
    after (hostOps0_4 ++ hostOps0_5) V main_v10 i = BitVec.ofNat 32 ((S f ((i 0).val + 1) + 255) / 256) := by
  after_reads_at
  refine floordiv _ _ (by have := hS ((i 0).val + 1) (i 0).isLt; omega) ?_
  have e := h1 (Idealize.ShloMosaic.ix1 ⟨1 + (i 0).val, by have := (i 0).isLt; change (i 0).val < 16 at this; omega⟩)
  unfold IntOp.subi IntOp.addi
  refine (congrArg (fun w : BitVec 32 => w + 256#32 - 1#32) e).trans ?_
  show BitVec.ofNat 32 (S f (1 + (i 0).val)) + 256#32 - 1#32 = _
  rw [Nat.add_comm 1]
  apply BitVec.eq_of_toNat_eq
  have := hS ((i 0).val + 1) (i 0).isLt
  simp only [BitVec.toNat_sub, BitVec.toNat_add, BitVec.toNat_ofNat]
  omega
theorem stage_v14 (hf : ∀ k < 16, wd (n := 16) (V main_arg1) k = BitVec.ofNat 32 (f k)) (hS : ∀ e ≤ 16, S f e ≤ 24576)
    (h4 : ∀ i : S16.Idx, V main_v4 i = BitVec.ofNat 32 (Fr f (i 0).val))
    (h10 : ∀ i : S16.Idx, V main_v10 i = BitVec.ofNat 32 ((S f ((i 0).val + 1) + 255) / 256)) (i : S16.Idx) :
    after (hostOps0_6 ++ hostOps0_7) V main_v14 i = BitVec.ofNat 32 (C f (i 0).val) := by
  after_reads_at
  have hi : (i 0).val < 16 := (i 0).isLt
  have e1 := (wd_idx (V main_arg1) i).trans (hf (i 0).val hi)
  have s0 := hS (i 0).val hi.le
  have s1 := hS ((i 0).val + 1) hi
  have s2 := Cert.Sched.S_succ f (i 0).val
  have hsgt : IntOp.cmpi CmpIPredicate.sgt (V main_arg1 i) 0#32 = 1#1 ↔ 0 < f (i 0).val := by
    refine (iff_of_eq (congrArg (fun w : BitVec 32 => IntOp.cmpi CmpIPredicate.sgt w 0#32 = 1#1) e1)).trans ?_
    exact sgt_iff _ 0 (by omega) (by norm_num)
  unfold C Scalar.select
  by_cases hf : 0 < f (i 0).val
  · rw [if_pos hf]
    refine (if_pos (hsgt.mpr hf)).trans ?_
    refine (congrArg₂ (fun a b : BitVec 32 => a - b) (h10 i) (h4 i)).trans ?_
    apply BitVec.eq_of_toNat_eq
    simp only [BitVec.toNat_sub, BitVec.toNat_ofNat, Fr]
    omega
  · rw [if_neg hf]
    exact if_neg (fun hh => hf (hsgt.mp hh))
theorem stage_v15 (h14 : ∀ i : S16.Idx, V main_v14 i = BitVec.ofNat 32 (C f (i 0).val)) (i : S16.Idx) :
    after (hostOps0_8) V main_v15 i = BitVec.ofNat 32 (Vv f ((i 0).val + 1)) := by
  after_reads_at
  exact csum _ (C f) (wd_ext _ _ h14) i

theorem stage_v46 (h15 : ∀ i : S16.Idx, V main_v15 i = BitVec.ofNat 32 (Vv f ((i 0).val + 1))) (i : S1.Idx) :
    after (hostOps0_9) V main_v46 i = BitVec.ofNat 32 (Vv f 16) := by
  after_reads_at
  exact h15 _

/-- The visit of each point, as the host computes it. -/
def vis (x : S16.Idx → BitVec 32) : S111.Idx → BitVec 32 :=
  minsi (iotaInDim S111 32 0) (broadcastInDim S111 ![] bcast_S_S111 (subi (shapeCast S_ (extractStridedSlice S1 ![15] x slices_S16_S1_15) shapeCasts_S1_S_) (constantI S_ 32 1#32)))
/-- The expert of each point, as the host computes it. -/
def exn (x : S16.Idx → BitVec 32) : S111.Idx → BitVec 32 :=
  Host.reduce IntOp.addi (extui 32 (cmpi CmpIPredicate.sge (broadcastInDim S111x16 ![0, 1] bcast_S111x1_S111x16_0_1 (broadcastInDim S111x1 ![0] bcast_S111_S111x1_0 (vis x)))
    (broadcastInDim S111x16 ![0, 1] bcast_S1x16_S111x16_0_1 (broadcastInDim S1x16 ![1] bcast_S16_S1x16_1 x))) natLt_1_32) (constantI S_ 32 0#32) reducesTo_S111x16_S111_d1 h_S_
/-- The gathers' indices: the expert, wrapped as jnp wraps an index. -/
def gix (x : S16.Idx → BitVec 32) : S111x1.Idx → BitVec 32 :=
  broadcastInDim S111x1 ![0] bcast_S111_S111x1_0 (select (cmpi CmpIPredicate.slt (exn x) (broadcastInDim S111 ![] bcast_S_S111 (constantI S_ 32 0#32)))
    (addi (exn x) (broadcastInDim S111 ![] bcast_S_S111 (constantI S_ 32 16#32))) (exn x))

theorem term_v28 : after hostOps0_9 V main_v28 = exn (V main_v15) := by
  after_reads_simp
  rfl
theorem term_v45 : after hostOps0_9 V main_v45 = subi (addi (Host.gather gather_S16_S111x1_S111_n_0_n_n_0_1_1 (V main_v4) (gix (V main_v15))) (vis (V main_v15)))
    (Host.gather gather_S16_S111x1_S111_n_0_n_n_0_1_1 (subi (V main_v15) (V main_v14)) (gix (V main_v15))) := by
  after_reads_simp
  rfl

theorem vis_at (hp : 0 < Vv f 16 ∧ Vv f 16 ≤ 111) (x : S16.Idx → BitVec 32) (h : ∀ i, x i = BitVec.ofNat 32 (Vv f ((i 0).val + 1))) (i : S111.Idx) : vis x i = BitVec.ofNat 32 (nn f (i 0).val) := by
  unfold vis
  pointwise
  have hi : (i 0).val < 111 := (i 0).isLt
  rw [h]
  have e : IntOp.subi (BitVec.ofNat 32 (Vv f 16)) 1#32 = BitVec.ofNat 32 (Vv f 16 - 1) := by
    unfold IntOp.subi
    apply BitVec.eq_of_toNat_eq
    simp only [BitVec.toNat_sub, BitVec.toNat_ofNat]
    omega
  refine (congrArg (IntOp.minsi (BitVec.ofNat 32 (i 0).val)) e).trans ?_
  unfold IntOp.minsi nn
  rw [slt_ofNat32 (by omega) (by omega)]
  by_cases hlt : (i 0).val < Vv f 16 - 1
  · rw [if_pos (by simpa using hlt), Nat.min_eq_left hlt.le]
  · rw [if_neg (by simpa using hlt), Nat.min_eq_right (by omega)]
theorem exn_at (hok : Cert.Sched.OK (Ti f) (Ex f) (S f) (Vv f 16)) (x : S16.Idx → BitVec 32) (h : ∀ i, x i = BitVec.ofNat 32 (Vv f ((i 0).val + 1))) (i : S111.Idx) : exn x i = BitVec.ofNat 32 (Ex f (i 0).val) := by
  have hc := reduce_count (n := 111) (m := 16) (by norm_num) (cmpi CmpIPredicate.sge (broadcastInDim S111x16 ![0, 1] bcast_S111x1_S111x16_0_1 (broadcastInDim S111x1 ![0] bcast_S111_S111x1_0 (vis x)))
    (broadcastInDim S111x16 ![0, 1] bcast_S1x16_S111x16_0_1 (broadcastInDim S1x16 ![1] bcast_S16_S1x16_1 x))) natLt_1_32 reducesTo_S111x16_S111_d1 h_S_ (i 0) (fun e => Vv f (e + 1) ≤ nn f (i 0).val) (fun q => by
      have e1 := bcRows bcast_S111_S111x1_0 bcast_S111x1_S111x16_0_1 (vis x) (i 0) q
      have e2 := bcCols bcast_S16_S1x16_1 bcast_S1x16_S111x16_0_1 x (i 0) q
      have hle := Cert.Sched.Vv_mono f (by have := q.isLt; omega : q.val + 1 ≤ 16)
      have hle2 : Vv f 16 ≤ 111 := hok.le
      refine (iff_of_eq (congrArg₂ (fun a b : BitVec 32 => IntOp.cmpi CmpIPredicate.sge a b = 1#1) (e1.trans (vis_at f ⟨hok.pos, hok.le⟩ x h _)) (e2.trans (h _)))).trans ?_
      exact sge_iff _ _ (by show min _ _ < _; omega) (by show Vv f (q.val + 1) < _; omega))
  have hi : ValueIdx.ix1 (i 0) = i := by funext a; match a with | ⟨0, _⟩ => rfl
  exact (congrArg (exn x) hi.symm).trans hc
theorem gix_at (hok : Cert.Sched.OK (Ti f) (Ex f) (S f) (Vv f 16)) (x : S16.Idx → BitVec 32) (h : ∀ i, x i = BitVec.ofNat 32 (Vv f ((i 0).val + 1))) (i : S111x1.Idx) : gix x i = BitVec.ofNat 32 (Ex f (i 0).val) := by
  unfold gix
  pointwise
  rw [exn_at f hok x h]
  have := hok.hE (i 0).val (i 0).isLt
  refine if_neg (fun hh => ?_)
  have := (slt_iff _ 0 (by show Ex f (i 0).val < _; omega) (by norm_num)).mp hh
  omega

theorem stage_v28 (hok : Cert.Sched.OK (Ti f) (Ex f) (S f) (Vv f 16)) (h15 : ∀ i : S16.Idx, V main_v15 i = BitVec.ofNat 32 (Vv f ((i 0).val + 1))) (i : S111.Idx) :
    after (hostOps0_9) V main_v28 i = BitVec.ofNat 32 (Ex f (i 0).val) := by
  rw [term_v28]
  exact exn_at f hok _ h15 i
theorem stage_v45 (hsum : S f 16 = 24576) (h15 : ∀ i : S16.Idx, V main_v15 i = BitVec.ofNat 32 (Vv f ((i 0).val + 1)))
    (h14 : ∀ i : S16.Idx, V main_v14 i = BitVec.ofNat 32 (C f (i 0).val)) (h4 : ∀ i : S16.Idx, V main_v4 i = BitVec.ofNat 32 (Fr f (i 0).val)) (i : S111.Idx) :
    after (hostOps0_9) V main_v45 i = BitVec.ofNat 32 (Ti f (i 0).val) := by
  have hok := Cert.Sched.ok f hsum
  have hi : ValueIdx.ix1 (i 0) = i := by funext a; match a with | ⟨0, _⟩ => rfl
  have hlt := hok.hE (i 0).val (i 0).isLt
  have g1 := gather_take1 (N := 16) (n := 111) gather_S16_S111x1_S111_n_0_n_n_0_1_1 rfl rfl rfl rfl (V main_v4) (gix (V main_v15)) (i 0) ⟨Ex f (i 0).val, hlt⟩ (gix_at f hok _ h15 _) (by norm_num)
  have g2 := gather_take1 (N := 16) (n := 111) gather_S16_S111x1_S111_n_0_n_n_0_1_1 rfl rfl rfl rfl (subi (V main_v15) (V main_v14)) (gix (V main_v15)) (i 0) ⟨Ex f (i 0).val, hlt⟩ (gix_at f hok _ h15 _) (by norm_num)
  replace g1 := (congrArg (Host.gather gather_S16_S111x1_S111_n_0_n_n_0_1_1 (V main_v4) (gix (V main_v15))) hi.symm).trans g1
  replace g2 := (congrArg (Host.gather gather_S16_S111x1_S111_n_0_n_n_0_1_1 (subi (V main_v15) (V main_v14)) (gix (V main_v15))) hi.symm).trans g2
  have hv := vis_at f ⟨hok.pos, hok.le⟩ (V main_v15) h15 i
  rw [term_v45]
  have e2 : subi (V main_v15) (V main_v14) (ValueIdx.ix1 (n := 16) ⟨Ex f (i 0).val, hlt⟩) = BitVec.ofNat 32 (Vv f (Ex f (i 0).val + 1)) - BitVec.ofNat 32 (C f (Ex f (i 0).val)) :=
    congrArg₂ (fun a b : BitVec 32 => a - b) (h15 _) (h14 _)
  refine (congrArg₂ (fun a b : BitVec 32 => a - b) (congrArg₂ (fun a b : BitVec 32 => a + b) (g1.trans (h4 _)) hv) (g2.trans e2)).trans ?_
  have hsp := Cert.Sched.spec f hsum (i 0).val
  have hsuc := Cert.Sched.Vv_succ f (Ex f (i 0).val)
  have hb : Fr f (Ex f (i 0).val) ≤ 24576 := by unfold Fr; have := hok.hS _ hlt.le; omega
  have hb2 : Vv f (Ex f (i 0).val + 1) ≤ 111 := (Cert.Sched.Vv_mono f (by omega : Ex f (i 0).val + 1 ≤ 16)).trans hok.le
  show BitVec.ofNat 32 (Fr f (Ex f (i 0).val)) + BitVec.ofNat 32 (nn f (i 0).val) - (BitVec.ofNat 32 (Vv f (Ex f (i 0).val + 1)) - BitVec.ofNat 32 (C f (Ex f (i 0).val))) = _
  apply BitVec.eq_of_toNat_eq
  simp only [BitVec.toNat_sub, BitVec.toNat_add, BitVec.toNat_ofNat, Ti]
  omega

/-- The host's operations write none of the arguments. -/
theorem after_arg0 : after (opss (F := F)).flatten V main_arg0 = V main_arg0 := by unfold opss; simp only [List.flatten_cons, List.flatten_nil]; after_reads_simp
theorem after_arg1 : after (opss (F := F)).flatten V main_arg1 = V main_arg1 := by unfold opss; simp only [List.flatten_cons, List.flatten_nil]; after_reads_simp
theorem after_arg2 : after (opss (F := F)).flatten V main_arg2 = V main_arg2 := by unfold opss; simp only [List.flatten_cons, List.flatten_nil]; after_reads_simp
theorem after_arg3 : after (opss (F := F)).flatten V main_arg3 = V main_arg3 := by unfold opss; simp only [List.flatten_cons, List.flatten_nil]; after_reads_simp

/-- The tables the host leaves, from row counts that sum to the number of rows. -/
structure TabsAre (W : Valuation τ sig (Elt F)) : Prop where
  h2 : ∀ i : S17.Idx, W main_v2 i = BitVec.ofNat 32 (S f (i 0).val)
  h28 : ∀ i : S111.Idx, W main_v28 i = BitVec.ofNat 32 (Ex f (i 0).val)
  h45 : ∀ i : S111.Idx, W main_v45 i = BitVec.ofNat 32 (Ti f (i 0).val)
  h46 : ∀ i : S1.Idx, W main_v46 i = BitVec.ofNat 32 (Vv f 16)

theorem tabs_after (hf : ∀ k < 16, wd (n := 16) (V main_arg1) k = BitVec.ofNat 32 (f k)) (hsum : S f 16 = 24576) :
    TabsAre f (after (opss (F := F)).flatten V) := by
  have hok := Cert.Sched.ok f hsum
  have hsplit : after (opss (F := F)).flatten V = after hostOps0_9 (after hostOps0_8 (after (hostOps0_6 ++ hostOps0_7) (after (hostOps0_4 ++ hostOps0_5)
      (after hostOps0_3 (after hostOps0_2 (after (hostOps0 ++ hostOps0_1) V)))))) := by
    rw [← StableHlo.after_append, ← StableHlo.after_append, ← StableHlo.after_append, ← StableHlo.after_append, ← StableHlo.after_append, ← StableHlo.after_append]
    rfl
  rw [hsplit]
  generalize hA : after (hostOps0 ++ hostOps0_1) V = A
  have a0 := stage_v0 V
  have a1 := stage_v1 V f hf
  have ag : A main_arg1 = V main_arg1 := by rw [← hA]; after_reads_simp
  rw [hA] at a0 a1
  generalize hB : after hostOps0_2 A = B
  have b2 := stage_v2 A f a0 a1
  have b3 := stage_v3 A f a0 a1
  have bc := stage_c0 A
  have bg : B main_arg1 = A main_arg1 := by rw [← hB]; after_reads_simp
  rw [hB] at b2 b3 bc
  generalize hC : after hostOps0_3 B = D
  have d4 := stage_v4 B f hok.hS bc b3
  have d2 : D main_v2 = B main_v2 := by rw [← hC]; after_reads_simp
  have dg : D main_arg1 = B main_arg1 := by rw [← hC]; after_reads_simp
  rw [hC] at d4
  rw [← d2] at b2
  generalize hE : after (hostOps0_4 ++ hostOps0_5) D = E
  have e10 := stage_v10 D f hok.hS b2
  have e2 : E main_v2 = D main_v2 := by rw [← hE]; after_reads_simp
  have e4 : E main_v4 = D main_v4 := by rw [← hE]; after_reads_simp
  have eg : E main_arg1 = D main_arg1 := by rw [← hE]; after_reads_simp
  rw [hE] at e10
  rw [← e2] at b2
  rw [← e4] at d4
  have fg : ∀ k < 16, wd (n := 16) (E main_arg1) k = BitVec.ofNat 32 (f k) := by rw [eg, dg, bg, ag]; exact hf
  generalize hG : after (hostOps0_6 ++ hostOps0_7) E = G
  have g14 := stage_v14 E f fg hok.hS d4 e10
  have g2 : G main_v2 = E main_v2 := by rw [← hG]; after_reads_simp
  have g4 : G main_v4 = E main_v4 := by rw [← hG]; after_reads_simp
  rw [hG] at g14
  rw [← g2] at b2
  rw [← g4] at d4
  generalize hH : after hostOps0_8 G = H
  have h15 := stage_v15 G f g14
  have h2 : H main_v2 = G main_v2 := by rw [← hH]; after_reads_simp
  have h4 : H main_v4 = G main_v4 := by rw [← hH]; after_reads_simp
  have h14 : H main_v14 = G main_v14 := by rw [← hH]; after_reads_simp
  rw [hH] at h15
  rw [← h2] at b2
  rw [← h4] at d4
  rw [← h14] at g14
  refine ⟨?_, stage_v28 H f hok h15, stage_v45 H f hsum h15 g14 d4, stage_v46 H f h15⟩
  have k2 : after hostOps0_9 H main_v2 = H main_v2 := by after_reads_simp
  rw [k2]
  exact b2

end Stages

end Cert.KernelIdeal.Gen
end
-- ==== Proof.My.Counts.lean ====
/- The preconditions read: sixteen row counts between 0 and 24576 that sum to 24576. -/
module

public import proofs.«01_k».proof.Proof.My.Sched
public import proofs.«01_k».proof.Proof.Gen.Pre_every_token_has_an_expert
public import Idealize.ShloMosaic.Lib.ReduceAll
public import Idealize.ShloMosaic.Lib.Routing.Ops
public import Idealize.ShloMosaic.Lib.StableHlo.ReadAt

@[expose] public section

noncomputable section

namespace Cert.Counts

open Idealize.ShloMosaic Idealize.ShloMosaic.Routing

/-- Row counts as numbers: what an array of sixteen words holds, and their sum. -/
structure Are (x : IVec (⟨1, ![16]⟩ : Shape) 32) (f : ℕ → ℕ) : Prop where
  at_ : ∀ i : (⟨1, ![16]⟩ : Shape).Idx, x i = BitVec.ofNat 32 (f (i 0).val)
  sum : Cert.Sched.S f 16 = 24576

/-- A word signed between 0 and 24576 is a number up to 24576. -/
theorem word (a : BitVec 32) (h : IntOp.andi (IntOp.cmpi .sge a 0#32) (IntOp.cmpi .sle a 24576#32) = 1#1) : a.toNat ≤ 24576 := by
  have h1 : IntOp.cmpi .sge a 0#32 = 1#1 ∧ IntOp.cmpi .sle a 24576#32 = 1#1 := by
    revert h
    generalize IntOp.cmpi .sge a 0#32 = p
    generalize IntOp.cmpi .sle a 24576#32 = q
    revert p q
    decide
  have h2 := IntOp.cmpi_sge.1 h1.1
  have h3 := IntOp.cmpi_sle.1 h1.2
  have e0 : (0#32 : BitVec 32).toInt = 0 := by decide
  have e1 : (24576#32 : BitVec 32).toInt = 24576 := by decide
  rw [e0] at h2
  rw [e1] at h3
  rw [BitVec.toInt_eq_toNat_cond] at h2 h3
  have := a.isLt
  split at h2 <;> split at h3 <;> omega

theorem sum_le (f : ℕ → ℕ) (hb : ∀ k, f k ≤ 24576) (n : ℕ) : ((List.range n).map f).sum ≤ 24576 * n := by
  induction n with
  | zero => exact Nat.le_refl _
  | succ n ih =>
    rw [List.range_succ, List.map_append, List.sum_append, List.map_cons, List.map_nil, List.sum_cons, List.sum_nil]
    have := hb n
    omega

/-- The counts from what the two reductions say. -/
theorem of (x : IVec (⟨1, ![16]⟩ : Shape) 32) (y : IVec (⟨1, ![16]⟩ : Shape) 1)
    (hy : ∀ i, y i = IntOp.andi (IntOp.cmpi .sge (x i) 0#32) (IntOp.cmpi .sle (x i) 24576#32))
    (hr : (⟨1, ![16]⟩ : Shape).ReducesTo [0] (⟨0, ![]⟩ : Shape)) (hu : 0 < (⟨0, ![]⟩ : Shape).numel)
    (h1 : Host.reduce IntOp.andi y (constantI (⟨0, ![]⟩ : Shape) 1 1#1) hr hu ix0 = 1#1)
    (h2 : IntOp.cmpi .eq (Host.reduce IntOp.addi x (constantI (⟨0, ![]⟩ : Shape) 32 0#32) hr hu ix0) 24576#32 = 1#1) :
    ∃ f, Are x f := by
  have hle : ∀ i, (x i).toNat ≤ 24576 := fun i => word _ ((hy i).symm.trans (Host.reduce_andi_all _ _ _ _ ix0 h1 i))
  let f : ℕ → ℕ := fun k => if h : k < 16 then (x (ix1 ⟨k, h⟩)).toNat else 0
  have hf : ∀ i : Fin 16, x (ix1 i) = BitVec.ofNat 32 (f i.val) := fun i => by
    show _ = BitVec.ofNat 32 (if h : i.val < 16 then (x (ix1 ⟨i.val, h⟩)).toNat else 0)
    rw [dif_pos i.isLt, BitVec.ofNat_toNat, BitVec.setWidth_eq]
  have hb : ∀ k, f k ≤ 24576 := fun k => by
    show (if h : k < 16 then (x (ix1 ⟨k, h⟩)).toNat else 0) ≤ _
    split
    · exact hle _
    · omega
  refine ⟨f, fun i => ?_, ?_⟩
  · have hi : ix1 (i 0) = i := by funext a; fin_cases a; rfl
    exact (congrArg x hi.symm).trans (hf (i 0))
  · have h3 := Routing.reduce_sum x f hf hr hu
    have h4 : Host.reduce IntOp.addi x (constantI (⟨0, ![]⟩ : Shape) 32 0#32) hr hu ix0 = 24576#32 := IntOp.cmpi_eq.1 h2
    have h5 := congrArg BitVec.toNat (h3.symm.trans h4)
    have h6 : ((List.range 16).map f).sum ≤ 24576 * 16 := sum_le f hb 16
    rw [BitVec.toNat_ofNat, Nat.mod_eq_of_lt (by omega)] at h5
    have e24 : (24576#32 : BitVec 32).toNat = 24576 := by decide
    rw [e24] at h5
    exact h5

variable {F : FTy → Type} [FloatOps F]

open Cert.Pre_every_token_has_an_expert in
theorem of_every (a0 : FVec F S24576x1536 .bf16) (a1 : IVec S16 32) (a2 : IVec S16x5120x768 8) (a3 : FVec F S16x5120x48 .f32)
    (h : (fn a0 a1 a2 a3).1 = (fun _ => 1#1) ∧ (fn a0 a1 a2 a3).2 = (fun _ => 1#1)) : ∃ f, Are a1 f :=
  of a1 _ (fun _ => rfl) _ _ (congrFun h.1 ix0) (congrFun h.2 ix0)

end Cert.Counts
end
-- ==== Proof.My.Frame.lean ====
/- The kernel's program runs on the tables its host computes, and leaves its arguments as they were. -/
module

public import proofs.«01_k».proof.Proof.My.Tables
public import proofs.«01_k».proof.Proof.My.Counts
public import Idealize.ShloMosaic.Lib.Affine

@[expose] public section

set_option maxRecDepth 8192

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (RDat Cfg ΦA ΦT prefHeld)

variable {F : FTy → Type} [FloatOps F]
variable (m : (ℓ : Loc nD τ sig) → Buf (Elt F) ℓ) (g : Dev nD → PrngReg)

/-- The tables the host hands the kernel. -/
def pfK : pre0.Contents (Elt F) := fun k => Vk m 0 (pre0.ref k)

/-- The row counts of the one device. -/
abbrev sizesAt : IVec (⟨1, ![16]⟩ : Shape) 32 := m ((0 : Dev nD), main_arg1)

variable {m} {f : ℕ → ℕ} (hf : Cert.Counts.Are (sizesAt m) f)
include hf

theorem tabsAre : TabsAre (F := F) f (StableHlo.after (opss (F := F)).flatten (fun b => m ((0 : Dev nD), b))) :=
  tabs_after (fun b => m ((0 : Dev nD), b)) f (fun k hk => wd_ext (sizesAt m) (fun k => BitVec.ofNat 32 (f k)) hf.at_ k hk) hf.sum

theorem tT_eq (k : ℕ) (hk : k < 111) : tT (pfK m) k = BitVec.ofNat 32 (Cert.Sched.Ti f k) :=
  wd_ext _ (fun k => BitVec.ofNat 32 (Cert.Sched.Ti f k)) (tabsAre hf).h45 k hk
theorem tE_eq (k : ℕ) (hk : k < 111) : tE (pfK m) k = BitVec.ofNat 32 (Cert.Sched.Ex f k) :=
  wd_ext _ (fun k => BitVec.ofNat 32 (Cert.Sched.Ex f k)) (tabsAre hf).h28 k hk
theorem tS_eq (k : ℕ) (hk : k < 17) : tS (pfK m) k = BitVec.ofNat 32 (Cert.Sched.S f k) :=
  wd_ext _ (fun k => BitVec.ofNat 32 (Cert.Sched.S f k)) (tabsAre hf).h2 k hk
theorem tN_eq : tN (pfK m) = BitVec.ofNat 32 (Cert.Sched.Vv f 16) :=
  wd_ext _ (fun _ => BitVec.ofNat 32 (Cert.Sched.Vv f 16)) (tabsAre hf).h46 0 (by decide)

theorem tT_nat (k : ℕ) (hk : k < 111) : (tT (pfK m) k).toNat = Cert.Sched.Ti f k := by
  have := (Cert.Sched.ok f hf.sum).hT k hk
  rw [tT_eq hf k hk, BitVec.toNat_ofNat, Nat.mod_eq_of_lt (by omega)]
theorem tE_nat (k : ℕ) (hk : k < 111) : (tE (pfK m) k).toNat = Cert.Sched.Ex f k := by
  have := (Cert.Sched.ok f hf.sum).hE k hk
  rw [tE_eq hf k hk, BitVec.toNat_ofNat, Nat.mod_eq_of_lt (by omega)]
theorem tS_nat (k : ℕ) (hk : k < 17) : (tS (pfK m) k).toNat = Cert.Sched.S f k := by
  have := (Cert.Sched.ok f hf.sum).hS k (by omega)
  rw [tS_eq hf k hk, BitVec.toNat_ofNat, Nat.mod_eq_of_lt (by omega)]
theorem tN_nat : (tN (pfK m)).toNat = Cert.Sched.Vv f 16 := by
  have := (Cert.Sched.ok f hf.sum).le
  rw [tN_eq hf, BitVec.toNat_ofNat, Nat.mod_eq_of_lt (by omega)]

theorem tabOK : TabOK (pfK m) where
  hN := by rw [tN_nat hf]; exact (Cert.Sched.ok f hf.sum).le
  hT := fun k hk => by rw [tT_nat hf k hk]; exact (Cert.Sched.ok f hf.sum).hT k hk
  hE := fun k hk => by rw [tE_nat hf k hk]; exact (Cert.Sched.ok f hf.sum).hE k hk
  hS := fun e he => by rw [tS_nat hf e (by omega)]; exact (Cert.Sched.ok f hf.sum).hS e he

omit hf in
theorem blk2 {b0 b1 n0 : ℕ} (x : BitVec 32) (v : Fin 2 → ℕ) (e : v = ![x.toNat, 0]) (h : (x.toNat + 1) * b0 ≤ n0) :
    ∀ a, (v a + 1) * (![b0, b1] : Fin 2 → ℕ) a ≤ (![n0, b1] : Fin 2 → ℕ) a := by
  subst e
  intro a
  fin_cases a
  · exact h
  · show (0 + 1) * b1 ≤ b1
    omega
omit hf in
theorem blk3 {b0 b1 b2 n0 : ℕ} (x : BitVec 32) (v : Fin 3 → ℕ) (e : v = ![x.toNat, 0, 0]) (h : (x.toNat + 1) * b0 ≤ n0) :
    ∀ a, (v a + 1) * (![b0, b1, b2] : Fin 3 → ℕ) a ≤ (![n0, b1, b2] : Fin 3 → ℕ) a := by
  subst e
  intro a
  fin_cases a
  · exact h
  · show (0 + 1) * b1 ≤ b1
    omega
  · show (0 + 1) * b2 ≤ b2
    omega

/-- Every block the tables name lies in its array. -/
theorem okK : ok0 (pfK m) := by
  have ht := tabOK hf
  have coord : ∀ i : grid0.Coords, (i 0).val < 111 := fun i => (i 0).isLt
  have eT : ∀ i : grid0.Coords, ![(pfK m 0 ((Rect.unit (s := S111) (k0_off1 i) S1.size (k0_off1_inb i)).emb (Shape.Idx.first (s := S1) (numel1_S1.symm ▸ Nat.one_pos)))).toNat, 0] = ![(tT (pfK m) (i 0).val).toNat, 0] := fun i =>
    congrArg (fun x : BitVec 32 => ![x.toNat, 0]) (tab_at i (pfK m 0) (k0_off1_inb i) _)
  have eE : ∀ i : grid0.Coords, ![(pfK m 1 ((Rect.unit (s := S111) (k0_off1 i) S1.size (k0_off1_inb i)).emb (Shape.Idx.first (s := S1) (numel1_S1.symm ▸ Nat.one_pos)))).toNat, 0, 0] = ![(tE (pfK m) (i 0).val).toNat, 0, 0] := fun i =>
    congrArg (fun x : BitVec 32 => ![x.toNat, 0, 0]) (tab_at i (pfK m 1) (k0_off1_inb i) _)
  refine ⟨fun i => ⟨blk2 _ _ (eT i) ?_, .inr (Affine.block_words_dvd (by decide) (by decide))⟩,
    fun i => ⟨blk3 _ _ (eE i) ?_, .inr (Affine.block_words_dvd (by decide) (by decide))⟩,
    fun i => ⟨blk3 _ _ (eE i) ?_, .inl rfl⟩,
    fun i => ⟨blk2 _ _ (eT i) ?_, .inr (Affine.block_words_dvd (by decide) (by decide))⟩⟩
  · have := ht.hT _ (coord i); omega
  · have := ht.hE _ (coord i); omega
  · have := ht.hE _ (coord i); omega
  · have := ht.hT _ (coord i); omega

/-- The kernel's program runs to its end; what it leaves is what the proof data says. -/
theorem runK (Λ : Laws F) : θ_run defs (onTc (τ := τ) (main (F := F))) ⟨m, fun _ => 0, g⟩
    (fun r => RDat.FramePost (cfgK (pfK m) (okK hf)) (rdat m (pfK m) (okK hf) Λ) (Vk m) r ∧ r.2.sem = fun _ => 0) :=
  run m g (okK hf) Λ (tabOK hf) (fun c k => by obtain rfl : c = 0 := Subsingleton.elim _ _; rfl)

omit hf in
theorem rdat_A0 (m : (ℓ : Loc nD τ sig) → Buf (Elt F) ℓ) (pf : pre0.Contents (Elt F)) (hok : ok0 pf) (Λ : Laws F) (c : Dev nD) : (rdat m pf hok Λ c).A 0 = Vk m c main_arg0 := rfl
omit hf in
theorem rdat_A1 (m : (ℓ : Loc nD τ sig) → Buf (Elt F) ℓ) (pf : pre0.Contents (Elt F)) (hok : ok0 pf) (Λ : Laws F) (c : Dev nD) : (rdat m pf hok Λ c).A 1 = Vk m c main_arg2 := rfl
omit hf in
theorem rdat_A2 (m : (ℓ : Loc nD τ sig) → Buf (Elt F) ℓ) (pf : pre0.Contents (Elt F)) (hok : ok0 pf) (Λ : Laws F) (c : Dev nD) : (rdat m pf hok Λ c).A 2 = Vk m c main_arg3 := rfl
omit hf in
theorem arrs_ne : ∀ w : Fin 4, (spec0 w).arr.view.ref ≠ main_arg1 := by decide
omit hf in
theorem Vk_arg0 (c : Dev nD) : Vk m c main_arg0 = m ((c.tc : Thread nD τ).loc main_arg0) := after_arg0 (fun b => m (c, b))
omit hf in
theorem Vk_arg1 (c : Dev nD) : Vk m c main_arg1 = m ((c.tc : Thread nD τ).loc main_arg1) := after_arg1 (fun b => m (c, b))
omit hf in
theorem Vk_arg2 (c : Dev nD) : Vk m c main_arg2 = m ((c.tc : Thread nD τ).loc main_arg2) := after_arg2 (fun b => m (c, b))
omit hf in
theorem Vk_arg3 (c : Dev nD) : Vk m c main_arg3 = m ((c.tc : Thread nD τ).loc main_arg3) := after_arg3 (fun b => m (c, b))

theorem kept0 (Λ : Laws F) (r : PUnit × MemSt nD τ sig (Elt F)) (h : RDat.FramePost (cfgK (pfK m) (okK hf)) (rdat m (pfK m) (okK hf) Λ) (Vk m) r) (c : Dev nD) :
    r.2.mem ((c.tc : Thread nD τ).loc main_arg0) = m ((c.tc : Thread nD τ).loc main_arg0) := by
  have e := RDat.FramePost.arr_in h c 0 rfl
  exact e.trans ((rdat_A0 m (pfK m) (okK hf) Λ c).trans (Vk_arg0 (m := m) c))
theorem kept2 (Λ : Laws F) (r : PUnit × MemSt nD τ sig (Elt F)) (h : RDat.FramePost (cfgK (pfK m) (okK hf)) (rdat m (pfK m) (okK hf) Λ) (Vk m) r) (c : Dev nD) :
    r.2.mem ((c.tc : Thread nD τ).loc main_arg2) = m ((c.tc : Thread nD τ).loc main_arg2) := by
  have e := RDat.FramePost.arr_in h c 1 rfl
  exact e.trans ((rdat_A1 m (pfK m) (okK hf) Λ c).trans (Vk_arg2 (m := m) c))
theorem kept3 (Λ : Laws F) (r : PUnit × MemSt nD τ sig (Elt F)) (h : RDat.FramePost (cfgK (pfK m) (okK hf)) (rdat m (pfK m) (okK hf) Λ) (Vk m) r) (c : Dev nD) :
    r.2.mem ((c.tc : Thread nD τ).loc main_arg3) = m ((c.tc : Thread nD τ).loc main_arg3) := by
  have e := RDat.FramePost.arr_in h c 2 rfl
  exact e.trans ((rdat_A2 m (pfK m) (okK hf) Λ c).trans (Vk_arg3 (m := m) c))
theorem kept1 (Λ : Laws F) (r : PUnit × MemSt nD τ sig (Elt F)) (h : RDat.FramePost (cfgK (pfK m) (okK hf)) (rdat m (pfK m) (okK hf) Λ) (Vk m) r) (c : Dev nD) :
    r.2.mem ((c.tc : Thread nD τ).loc main_arg1) = m ((c.tc : Thread nD τ).loc main_arg1) :=
  ((h c).2 main_arg1 (Pipeline.mem_restRefs_of main_arg1 (by decide) arrs_ne)).trans (Vk_arg1 (m := m) c)

/-- What the arguments hold at the end. -/
theorem kept (Λ : Laws F) (r : PUnit × MemSt nD τ sig (Elt F)) (h : RDat.FramePost (cfgK (pfK m) (okK hf)) (rdat m (pfK m) (okK hf) Λ) (Vk m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨kept0 hf Λ r h c, kept1 hf Λ r h c, kept2 hf Λ r h c, kept3 hf Λ r h c⟩

/-- The frame: the arguments end unchanged and every semaphore at zero. -/
theorem frameK : θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => kept hf (Laws.trivial F) r h.1 c, h.2⟩) (runK g hf (Laws.trivial F))

end Cert.KernelIdeal.Gen
end
-- ==== Proof.Bits.BodyT.lean ====
module

public import proofs.«01_k».proof.Proof.Gen.Kernel.Launch
public import proofs.«01_k».proof.Proof.Gen.Kernel.Loops
public import Idealize.ShloMosaic.Lib.Pipeline.Regions
public import Idealize.ShloMosaic.Lib.Pipeline.DatRel

@[expose] public section

set_option maxRecDepth 8192

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (bd : Option Variants.none.V) (E : Set ℕ) (i : grid0.Coords)
variable (arg1 : Memref sig .tc .smem S111 .i32) (harg1 : arg1.IsWhole) (arg2 : Memref sig .tc .smem S111 .i32) (harg2 : arg2.IsWhole) (arg3 : Memref sig .tc .smem S17 .i32) (harg3 : arg3.IsWhole) (arg4 : Memref sig .tc .smem S1 .i32) (harg4 : arg4.IsWhole) (arg5 : Memref sig .tc .vmem S256x1536 .bf16) (harg5 : arg5.IsWhole) (arg6 : Memref sig .tc .vmem S1x5120x768 .i8) (harg6 : arg6.IsWhole) (arg7 : Memref sig .tc .vmem S1x5120x48 .f32) (harg7 : arg7.IsWhole) (arg8 : Memref sig .tc .vmem S256x5120 .bf16) (harg8 : arg8.IsWhole) (arg9 : Memref sig .tc .vmem S5120x1536 .bf16) (harg9 : arg9.IsWhole) (arg10 : Memref sig .tc .vmem S256x1536 .bf16) (harg10 : arg10.IsWhole) (arg11 : Memref sig .tc .vmem S256x1 .f32) (harg11 : arg11.IsWhole)
variable (X1 : BufTy.Contents (Elt F) arg1.view.ty) (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty) (X8 : BufTy.Contents (Elt F) arg8.view.ty)
    (X9 : BufTy.Contents (Elt F) arg9.view.ty) (X10 : BufTy.Contents (Elt F) arg10.view.ty) (X11 : BufTy.Contents (Elt F) arg11.view.ty)

abbrev w1 : BitVec 32 := View.readAt (Elt F) arg1.view (Rect.unit (s := S111) (k0_off1 i) S1.size (k0_off1_inb i)).toLoadRect X1 (Shape.Idx.first (s := S1) (numel1_S1.symm ▸ Nat.one_pos))
abbrev w3 : BitVec 32 := View.readAt (Elt F) arg2.view (Rect.unit (s := S111) (k0_off1 i) S1.size (k0_off1_inb i)).toLoadRect X2 (Shape.Idx.first (s := S1) (numel1_S1.symm ▸ Nat.one_pos))
abbrev w7 : BitVec 32 := View.readAt (Elt F) arg4.view (Rect.unit (s := S1) ![0] S1.size inb_S1_S1_0).toLoadRect X4 (Shape.Idx.first (s := S1) (numel1_S1.symm ▸ Nat.one_pos))
abbrev w12 : BitVec 32 := View.readAt (Elt F) arg2.view (Rect.unit (s := S111) (k0_off2 i) S1.size (k0_off2_inb i)).toLoadRect X2 (Shape.Idx.first (s := S1) (numel1_S1.symm ▸ Nat.one_pos))
abbrev w18 : BitVec 32 := View.readAt (Elt F) arg1.view (Rect.unit (s := S111) (k0_off17 i) S1.size (k0_off17_inb i)).toLoadRect X1 (Shape.Idx.first (s := S1) (numel1_S1.symm ▸ Nat.one_pos))

abbrev v43 : Memref sig .tc .vmem S5120x768 .i8 := (arg6.slice (Rect.unit (s := S1x5120x768) ![0, 0, 0] S1x5120x768.size inb_S1x5120x768_S1x5120x768_0_0_0) (fun _ => rfl)).squeeze S5120x768 squeezes_S1x5120x768_S5120x768
abbrev v56 : Memref sig .tc .vmem S5120x48 .f32 := (arg7.slice (Rect.unit (s := S1x5120x48) ![0, 0, 0] S1x5120x48.size inb_S1x5120x48_S1x5120x48_0_0_0) (fun _ => rfl)).squeeze S5120x48 squeezes_S1x5120x48_S5120x48

abbrev isFirst : BitVec 1 := Scalar.cmpi .eq (BitVec.ofNat 32 (i 0).val) 0#32
abbrev newOf (old new : BitVec 32) : BitVec 1 := Scalar.cmpi .ne (Scalar.extui (Scalar.ori (isFirst i) (Scalar.cmpi .ne old new)) : BitVec 32) 0#32

abbrev Held : sProp 𝕄G := iprop((arg1.view.loc (c : Thread nD τ) ↦[arg1.view.set]{fullShare.right} X1) ∗ (arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare.right} X4)
      ∗ (arg5.view.loc (c : Thread nD τ) ↦[arg5.view.set]{fullShare} X5) ∗ ((v43 arg6).view.loc (c : Thread nD τ) ↦[(v43 arg6).view.set]{fullShare} X6) ∗ ((v56 arg7).view.loc (c : Thread nD τ) ↦[(v56 arg7).view.set]{fullShare} X7) ∗ (arg8.view.loc (c : Thread nD τ) ↦[arg8.view.set]{fullShare} X8)
      ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11))

/-- The pieces the dequantising loop writes. -/
abbrev dqL : List (View.Piece (Elt F) S5120x1536 .bf16) :=
  pb_k0_t1 (F := F) Variants.none c bd i arg1 harg1 arg2 harg2 arg3 harg3 arg4 harg4 arg5 harg5 arg6 harg6 arg7 harg7 arg8 harg8 arg9 harg9 arg10 harg10 arg11 harg11 (v43 arg6) rfl (v56 arg7) rfl X6 X7 (Scf.trips k0_t1_loop.lb k0_t1_loop.ub k0_t1_loop.st)

/-- The pieces the output loop writes. -/
abbrev outL (v1 v24 v29 : BitVec 32) : List (View.Piece (Elt F) S256x5120 .bf16) :=
  pb_k0_t2 (F := F) Variants.none c bd i arg1 harg1 arg2 harg2 arg3 harg3 arg4 harg4 arg5 harg5 arg6 harg6 arg7 harg7 arg8 harg8 arg9 harg9 arg10 harg10 arg11 harg11 v1 v24 v29 X9 X10 X11 X8 (Scf.trips k0_t2_loop.lb k0_t2_loop.ub k0_t2_loop.st)

abbrev w24 (v3 : BitVec 32) (h : ∀ a, (k0_off18 v3) a + S1.size a ≤ S17.size a) : BitVec 32 := View.readAt (Elt F) arg3.view (Rect.unit (s := S17) (k0_off18 v3) S1.size h).toLoadRect X3 (Shape.Idx.first (s := S1) (numel1_S1.symm ▸ Nat.one_pos))
abbrev w29 (v3 : BitVec 32) (h : ∀ a, (k0_off19 v3) a + S1.size a ≤ S17.size a) : BitVec 32 := View.readAt (Elt F) arg3.view (Rect.unit (s := S17) (k0_off19 v3) S1.size h).toLoadRect X3 (Shape.Idx.first (s := S1) (numel1_S1.symm ▸ Nat.one_pos))

set_option maxHeartbeats 2000000 in
/-- A point that does no work. -/
theorem body_N (hchk : k0_chk1 i (w3 (F := F) i arg2 X2) (w7 (F := F) arg4 X4))
    (hc : ¬ k0_cond1 i (w7 (F := F) arg4 X4) = 1#1) :
    (Held (F := F) c arg1 arg2 arg3 arg4 arg5 arg6 arg7 arg8 arg9 arg10 arg11 X1 X2 X3 X4 X5 X6 X7 X8 X9 X10 X11) ⊢ wp frame (wpE (defs₀ (F := F)) Variants.none (c : Thread nD τ) bd) E
        (cc0_int4_dgrad (F := F) i arg1 harg1 arg2 harg2 arg3 harg3 arg4 harg4 arg5 harg5 arg6 harg6 arg7 harg7 arg8 harg8 arg9 harg9 arg10 harg10 arg11 harg11)
        (fun _ => Held (F := F) c arg1 arg2 arg3 arg4 arg5 arg6 arg7 arg8 arg9 arg10 arg11 X1 X2 X3 X4 X5 X6 X7 X8 X9 X10 X11) := by
  iintro ⟨H1, H2, H3, H4, H5, H6, H7, H8, H9, H10, H11⟩
  sl_unfold [cc0_int4_dgrad]
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 2000000 in
/-- A point of a new expert and a new tile. The pieces the quantiser writes are found by the run. -/
def body_DQ
    (hchk : k0_chk1 i (w3 (F := F) i arg2 X2) (w7 (F := F) arg4 X4))
    (hc : k0_cond1 i (w7 (F := F) arg4 X4) = 1#1)
    (hd : newOf i (w12 (F := F) i arg2 X2) (w3 (F := F) i arg2 X2) = 1#1)
    (hq : newOf i (w18 (F := F) i arg1 X1) (w1 (F := F) i arg1 X1) = 1#1)
    :
    { L : List (View.Piece (Elt F) S256x1536 .bf16) × List (View.Piece (Elt F) S256x1 .f32) //
      ∀ (E : Set ℕ), (Held (F := F) c arg1 arg2 arg3 arg4 arg5 arg6 arg7 arg8 arg9 arg10 arg11 X1 X2 X3 X4 X5 X6 X7 X8 X9 X10 X11) ⊢ wp frame (wpE (defs₀ (F := F)) Variants.none (c : Thread nD τ) bd) E
        (cc0_int4_dgrad (F := F) i arg1 harg1 arg2 harg2 arg3 harg3 arg4 harg4 arg5 harg5 arg6 harg6 arg7 harg7 arg8 harg8 arg9 harg9 arg10 harg10 arg11 harg11)
        (fun _ => Held (F := F) c arg1 arg2 arg3 arg4 arg5 arg6 arg7 arg8 arg9 arg10 arg11 X1 X2 X3 X4 X5 X6 X7 (arg8.view.writes (Elt F) X8 (outL (F := F) c bd i arg1 harg1 arg2 harg2 arg3 harg3 arg4 harg4 arg5 harg5 arg6 harg6 arg7 harg7 arg8 harg8 arg9 harg9 arg10 harg10 arg11 harg11 X8 (arg9.view.writes (Elt F) X9 (dqL (F := F) c bd i arg1 harg1 arg2 harg2 arg3 harg3 arg4 harg4 arg5 harg5 arg6 harg6 arg7 harg7 arg8 harg8 arg9 harg9 arg10 harg10 arg11 harg11 X6 X7)) (arg10.view.writes (Elt F) arg10.view.junk L.1) (arg11.view.writes (Elt F) arg11.view.junk L.2) (w1 (F := F) i arg1 X1) (w24 (F := F) arg3 X3 (w3 (F := F) i arg2 X2) (hchk.1 hc)) (w29 (F := F) arg3 X3 (w3 (F := F) i arg2 X2) (hchk.2 hc)))) (arg9.view.writes (Elt F) X9 (dqL (F := F) c bd i arg1 harg1 arg2 harg2 arg3 harg3 arg4 harg4 arg5 harg5 arg6 harg6 arg7 harg7 arg8 harg8 arg9 harg9 arg10 harg10 arg11 harg11 X6 X7)) (arg10.view.writes (Elt F) arg10.view.junk L.1) (arg11.view.writes (Elt F) arg11.view.junk L.2)) } := by
  refine ⟨⟨?_, ?_⟩, fun E => ?_⟩
  rotate_left 2
  iintro ⟨H1, H2, H3, H4, H5, H6, H7, H8, H9, H10, H11⟩
  sl_unfold [cc0_int4_dgrad]
  sl_exec
  sl_step
  sl_close

end Cert.Kernel.Gen
end
-- ==== Proof.Bits.BodyW.lean ====
module

public import proofs.«01_k».proof.Proof.Bits.BodyT

@[expose] public section

set_option maxRecDepth 8192

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (bd : Option Variants.none.V) (E : Set ℕ) (i : grid0.Coords)
variable (arg1 : Memref sig .tc .smem S111 .i32) (harg1 : arg1.IsWhole) (arg2 : Memref sig .tc .smem S111 .i32) (harg2 : arg2.IsWhole) (arg3 : Memref sig .tc .smem S17 .i32) (harg3 : arg3.IsWhole) (arg4 : Memref sig .tc .smem S1 .i32) (harg4 : arg4.IsWhole) (arg5 : Memref sig .tc .vmem S256x1536 .bf16) (harg5 : arg5.IsWhole) (arg6 : Memref sig .tc .vmem S1x5120x768 .i8) (harg6 : arg6.IsWhole) (arg7 : Memref sig .tc .vmem S1x5120x48 .f32) (harg7 : arg7.IsWhole) (arg8 : Memref sig .tc .vmem S256x5120 .bf16) (harg8 : arg8.IsWhole) (arg9 : Memref sig .tc .vmem S5120x1536 .bf16) (harg9 : arg9.IsWhole) (arg10 : Memref sig .tc .vmem S256x1536 .bf16) (harg10 : arg10.IsWhole) (arg11 : Memref sig .tc .vmem S256x1 .f32) (harg11 : arg11.IsWhole)
variable (X1 : BufTy.Contents (Elt F) arg1.view.ty) (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty) (X8 : BufTy.Contents (Elt F) arg8.view.ty)
    (X9 : BufTy.Contents (Elt F) arg9.view.ty) (X10 : BufTy.Contents (Elt F) arg10.view.ty) (X11 : BufTy.Contents (Elt F) arg11.view.ty)

/-- One block of codes: the lanes `ix` of two blocks side by side, on a sixteenth of their scale. -/
def gath (l r : FVec F S256x128 .f32) (ix : IVec S256x128 32) : FVec F S256x128 .bf16 :=
  have v307 : IVec S256x128 32 := broadcast S256x128 0#32
  have v308 : IVec S256x128 1 := cmpi .slt ix v307
  have v309 : IVec S256x128 32 := broadcast S256x128 128#32
  have v310 : IVec S256x128 32 := addi ix v309
  have v311 : IVec S256x128 32 := select v308 v310 ix
  have v312 : IVec S256x128x1 32 := shapeCast S256x128x1 v311 shapeCasts_S256x128_S256x128x1
  have v313 : IVec S256x128 32 := shapeCast S256x128 v312 shapeCasts_S256x128x1_S256x128
  have v315 : FVec F S256x128 .f32 := select k0_pay37 (dynamicGather 1 l v313) (dynamicGather 1 r v313)
  have v316 : FVec F S256x128 .fp8e5m2 := truncf .fp8e5m2 v315 bitsLt_fp8e5m2_f32
  have v317 : FVec F S256x128 .bf16 := extf .bf16 v316 bitsLt_fp8e5m2_bf16
  have v319 : FVec F S256x128 .bf16 := mulf v317 (broadcast S256x128 (Scalar.ofBits .bf16 0x3D80#16))
  shapeCast S256x128 v319 shapeCasts_S256x128_S256x128

/-- The twelve blocks of codes of a tile, the last written first. -/
def qB (v : Vec F S256x1536 .bf16) : List (View.Piece (Elt F) S256x1536 .bf16) :=
  let q := k0_pay36 (k0_pay32 v) (k0_pay35 v)
  [⟨Rect.unit ![0, 1408] S256x128.size inb_S256x1536_S256x128_0_1408, gath (extractStridedSlice S256x128 ![0, 1280] q slices_S256x1536_o0_1280_S256x128) (extractStridedSlice S256x128 ![0, 1408] q slices_S256x1536_o0_1408_S256x128) k0_pay39⟩,
    ⟨Rect.unit ![0, 640] S256x128.size inb_S256x1536_S256x128_0_640, gath (extractStridedSlice S256x128 ![0, 1280] q slices_S256x1536_o0_1280_S256x128) (extractStridedSlice S256x128 ![0, 1408] q slices_S256x1536_o0_1408_S256x128) k0_pay38⟩,
    ⟨Rect.unit ![0, 1280] S256x128.size inb_S256x1536_S256x128_0_1280, gath (extractStridedSlice S256x128 ![0, 1024] q slices_S256x1536_o0_1024_S256x128) (extractStridedSlice S256x128 ![0, 1152] q slices_S256x1536_o0_1152_S256x128) k0_pay39⟩,
    ⟨Rect.unit ![0, 512] S256x128.size inb_S256x1536_S256x128_0_512, gath (extractStridedSlice S256x128 ![0, 1024] q slices_S256x1536_o0_1024_S256x128) (extractStridedSlice S256x128 ![0, 1152] q slices_S256x1536_o0_1152_S256x128) k0_pay38⟩,
    ⟨Rect.unit ![0, 1152] S256x128.size inb_S256x1536_S256x128_0_1152, gath (extractStridedSlice S256x128 ![0, 768] q slices_S256x1536_o0_768_S256x128) (extractStridedSlice S256x128 ![0, 896] q slices_S256x1536_o0_896_S256x128) k0_pay39⟩,
    ⟨Rect.unit ![0, 384] S256x128.size inb_S256x1536_S256x128_0_384, gath (extractStridedSlice S256x128 ![0, 768] q slices_S256x1536_o0_768_S256x128) (extractStridedSlice S256x128 ![0, 896] q slices_S256x1536_o0_896_S256x128) k0_pay38⟩,
    ⟨Rect.unit ![0, 1024] S256x128.size inb_S256x1536_S256x128_0_1024, gath (extractStridedSlice S256x128 ![0, 512] q slices_S256x1536_o0_512_S256x128) (extractStridedSlice S256x128 ![0, 640] q slices_S256x1536_o0_640_S256x128) k0_pay39⟩,
    ⟨Rect.unit ![0, 256] S256x128.size inb_S256x1536_S256x128_0_256, gath (extractStridedSlice S256x128 ![0, 512] q slices_S256x1536_o0_512_S256x128) (extractStridedSlice S256x128 ![0, 640] q slices_S256x1536_o0_640_S256x128) k0_pay38⟩,
    ⟨Rect.unit ![0, 896] S256x128.size inb_S256x1536_S256x128_0_896, gath (extractStridedSlice S256x128 ![0, 256] q slices_S256x1536_o0_256_S256x128) (extractStridedSlice S256x128 ![0, 384] q slices_S256x1536_o0_384_S256x128) k0_pay39⟩,
    ⟨Rect.unit ![0, 128] S256x128.size inb_S256x1536_S256x128_0_128, gath (extractStridedSlice S256x128 ![0, 256] q slices_S256x1536_o0_256_S256x128) (extractStridedSlice S256x128 ![0, 384] q slices_S256x1536_o0_384_S256x128) k0_pay38⟩,
    ⟨Rect.unit ![0, 768] S256x128.size inb_S256x1536_S256x128_0_768, gath (extractStridedSlice S256x128 ![0, 0] q slices_S256x1536_o0_0_S256x128) (extractStridedSlice S256x128 ![0, 128] q slices_S256x1536_o0_128_S256x128) k0_pay39⟩,
    ⟨Rect.unit ![0, 0] S256x128.size inb_S256x1536_S256x128_0_0, gath (extractStridedSlice S256x128 ![0, 0] q slices_S256x1536_o0_0_S256x128) (extractStridedSlice S256x128 ![0, 128] q slices_S256x1536_o0_128_S256x128) k0_pay38⟩]

/-- The pieces the quantiser writes of codes, of the tile it reads. -/
def qL10 : List (View.Piece (Elt F) S256x1536 .bf16) := qB (View.readAt (Elt F) arg5.view (Rect.unit (s := S256x1536) ![0, 0] S256x1536.size inb_S256x1536_S256x1536_0_0).toLoadRect X5)

/-- The piece the quantiser writes of scales. -/
def qL11 : List (View.Piece (Elt F) S256x1 .f32) :=
  [⟨Rect.unit ![0, 0] S256x1.size inb_S256x1_S256x1_0_0, k0_pay34 (View.readAt (Elt F) arg5.view (Rect.unit (s := S256x1536) ![0, 0] S256x1536.size inb_S256x1536_S256x1536_0_0).toLoadRect X5)⟩]

theorem body_DQ_L
    (hchk : k0_chk1 i (w3 (F := F) i arg2 X2) (w7 (F := F) arg4 X4))
    (hc : k0_cond1 i (w7 (F := F) arg4 X4) = 1#1)
    (hd : newOf i (w12 (F := F) i arg2 X2) (w3 (F := F) i arg2 X2) = 1#1)
    (hq : newOf i (w18 (F := F) i arg1 X1) (w1 (F := F) i arg1 X1) = 1#1)
 :
    (body_DQ (F := F) c bd i arg1 harg1 arg2 harg2 arg3 harg3 arg4 harg4 arg5 harg5 arg6 harg6 arg7 harg7 arg8 harg8 arg9 harg9 arg10 harg10 arg11 harg11 X1 X2 X3 X4 X5 X6 X7 X8 X9 X10 X11 hchk hc hd hq).1 = (qL10 arg5 X5, qL11 arg5 X5) := rfl

set_option maxHeartbeats 2000000 in
/-- A point of a new tile and the expert before it. -/
def body_Q
    (hchk : k0_chk1 i (w3 (F := F) i arg2 X2) (w7 (F := F) arg4 X4))
    (hc : k0_cond1 i (w7 (F := F) arg4 X4) = 1#1)
    (hd : ¬ newOf i (w12 (F := F) i arg2 X2) (w3 (F := F) i arg2 X2) = 1#1)
    (hq : newOf i (w18 (F := F) i arg1 X1) (w1 (F := F) i arg1 X1) = 1#1)
 :
    { L : List (View.Piece (Elt F) S256x1536 .bf16) × List (View.Piece (Elt F) S256x1 .f32) //
      ∀ (E : Set ℕ), (Held (F := F) c arg1 arg2 arg3 arg4 arg5 arg6 arg7 arg8 arg9 arg10 arg11 X1 X2 X3 X4 X5 X6 X7 X8 X9 X10 X11) ⊢ wp frame (wpE (defs₀ (F := F)) Variants.none (c : Thread nD τ) bd) E
        (cc0_int4_dgrad (F := F) i arg1 harg1 arg2 harg2 arg3 harg3 arg4 harg4 arg5 harg5 arg6 harg6 arg7 harg7 arg8 harg8 arg9 harg9 arg10 harg10 arg11 harg11)
        (fun _ => Held (F := F) c arg1 arg2 arg3 arg4 arg5 arg6 arg7 arg8 arg9 arg10 arg11 X1 X2 X3 X4 X5 X6 X7 (arg8.view.writes (Elt F) X8 (outL (F := F) c bd i arg1 harg1 arg2 harg2 arg3 harg3 arg4 harg4 arg5 harg5 arg6 harg6 arg7 harg7 arg8 harg8 arg9 harg9 arg10 harg10 arg11 harg11 X8 X9 (arg10.view.writes (Elt F) arg10.view.junk L.1) (arg11.view.writes (Elt F) arg11.view.junk L.2) (w1 (F := F) i arg1 X1) (w24 (F := F) arg3 X3 (w3 (F := F) i arg2 X2) (hchk.1 hc)) (w29 (F := F) arg3 X3 (w3 (F := F) i arg2 X2) (hchk.2 hc)))) X9 (arg10.view.writes (Elt F) arg10.view.junk L.1) (arg11.view.writes (Elt F) arg11.view.junk L.2)) } := by
  refine ⟨⟨?_, ?_⟩, fun E => ?_⟩
  rotate_left 2
  iintro ⟨H1, H2, H3, H4, H5, H6, H7, H8, H9, H10, H11⟩
  sl_unfold [cc0_int4_dgrad]
  sl_exec
  sl_step
  sl_close

theorem body_Q_L
    (hchk : k0_chk1 i (w3 (F := F) i arg2 X2) (w7 (F := F) arg4 X4))
    (hc : k0_cond1 i (w7 (F := F) arg4 X4) = 1#1)
    (hd : ¬ newOf i (w12 (F := F) i arg2 X2) (w3 (F := F) i arg2 X2) = 1#1)
    (hq : newOf i (w18 (F := F) i arg1 X1) (w1 (F := F) i arg1 X1) = 1#1)
 :
    (body_Q (F := F) c bd i arg1 harg1 arg2 harg2 arg3 harg3 arg4 harg4 arg5 harg5 arg6 harg6 arg7 harg7 arg8 harg8 arg9 harg9 arg10 harg10 arg11 harg11 X1 X2 X3 X4 X5 X6 X7 X8 X9 X10 X11 hchk hc hd hq).1 = (qL10 arg5 X5, qL11 arg5 X5) := rfl

set_option maxHeartbeats 2000000 in
/-- A point of a new expert and the tile before it. -/
theorem body_D
    (hchk : k0_chk1 i (w3 (F := F) i arg2 X2) (w7 (F := F) arg4 X4))
    (hc : k0_cond1 i (w7 (F := F) arg4 X4) = 1#1)
    (hd : newOf i (w12 (F := F) i arg2 X2) (w3 (F := F) i arg2 X2) = 1#1)
    (hq : ¬ newOf i (w18 (F := F) i arg1 X1) (w1 (F := F) i arg1 X1) = 1#1)
 :
      (Held (F := F) c arg1 arg2 arg3 arg4 arg5 arg6 arg7 arg8 arg9 arg10 arg11 X1 X2 X3 X4 X5 X6 X7 X8 X9 X10 X11) ⊢ wp frame (wpE (defs₀ (F := F)) Variants.none (c : Thread nD τ) bd) E
        (cc0_int4_dgrad (F := F) i arg1 harg1 arg2 harg2 arg3 harg3 arg4 harg4 arg5 harg5 arg6 harg6 arg7 harg7 arg8 harg8 arg9 harg9 arg10 harg10 arg11 harg11)
        (fun _ => Held (F := F) c arg1 arg2 arg3 arg4 arg5 arg6 arg7 arg8 arg9 arg10 arg11 X1 X2 X3 X4 X5 X6 X7 (arg8.view.writes (Elt F) X8 (outL (F := F) c bd i arg1 harg1 arg2 harg2 arg3 harg3 arg4 harg4 arg5 harg5 arg6 harg6 arg7 harg7 arg8 harg8 arg9 harg9 arg10 harg10 arg11 harg11 X8 (arg9.view.writes (Elt F) X9 (dqL (F := F) c bd i arg1 harg1 arg2 harg2 arg3 harg3 arg4 harg4 arg5 harg5 arg6 harg6 arg7 harg7 arg8 harg8 arg9 harg9 arg10 harg10 arg11 harg11 X6 X7)) X10 X11 (w1 (F := F) i arg1 X1) (w24 (F := F) arg3 X3 (w3 (F := F) i arg2 X2) (hchk.1 hc)) (w29 (F := F) arg3 X3 (w3 (F := F) i arg2 X2) (hchk.2 hc)))) (arg9.view.writes (Elt F) X9 (dqL (F := F) c bd i arg1 harg1 arg2 harg2 arg3 harg3 arg4 harg4 arg5 harg5 arg6 harg6 arg7 harg7 arg8 harg8 arg9 harg9 arg10 harg10 arg11 harg11 X6 X7)) X10 X11) := by
  iintro ⟨H1, H2, H3, H4, H5, H6, H7, H8, H9, H10, H11⟩
  sl_unfold [cc0_int4_dgrad]
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 2000000 in
/-- A point of the expert and the tile before it. -/
theorem body_0
    (hchk : k0_chk1 i (w3 (F := F) i arg2 X2) (w7 (F := F) arg4 X4))
    (hc : k0_cond1 i (w7 (F := F) arg4 X4) = 1#1)
    (hd : ¬ newOf i (w12 (F := F) i arg2 X2) (w3 (F := F) i arg2 X2) = 1#1)
    (hq : ¬ newOf i (w18 (F := F) i arg1 X1) (w1 (F := F) i arg1 X1) = 1#1)
 :
      (Held (F := F) c arg1 arg2 arg3 arg4 arg5 arg6 arg7 arg8 arg9 arg10 arg11 X1 X2 X3 X4 X5 X6 X7 X8 X9 X10 X11) ⊢ wp frame (wpE (defs₀ (F := F)) Variants.none (c : Thread nD τ) bd) E
        (cc0_int4_dgrad (F := F) i arg1 harg1 arg2 harg2 arg3 harg3 arg4 harg4 arg5 harg5 arg6 harg6 arg7 harg7 arg8 harg8 arg9 harg9 arg10 harg10 arg11 harg11)
        (fun _ => Held (F := F) c arg1 arg2 arg3 arg4 arg5 arg6 arg7 arg8 arg9 arg10 arg11 X1 X2 X3 X4 X5 X6 X7 (arg8.view.writes (Elt F) X8 (outL (F := F) c bd i arg1 harg1 arg2 harg2 arg3 harg3 arg4 harg4 arg5 harg5 arg6 harg6 arg7 harg7 arg8 harg8 arg9 harg9 arg10 harg10 arg11 harg11 X8 X9 X10 X11 (w1 (F := F) i arg1 X1) (w24 (F := F) arg3 X3 (w3 (F := F) i arg2 X2) (hchk.1 hc)) (w29 (F := F) arg3 X3 (w3 (F := F) i arg2 X2) (hchk.2 hc)))) X9 X10 X11) := by
  iintro ⟨H1, H2, H3, H4, H5, H6, H7, H8, H9, H10, H11⟩
  sl_unfold [cc0_int4_dgrad]
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The weights after a point that works. -/
def next9 : BufTy.Contents (Elt F) arg9.view.ty :=
  open Classical in if newOf i (w12 (F := F) i arg2 X2) (w3 (F := F) i arg2 X2) = 1#1 then (arg9.view.writes (Elt F) X9 (dqL (F := F) c bd i arg1 harg1 arg2 harg2 arg3 harg3 arg4 harg4 arg5 harg5 arg6 harg6 arg7 harg7 arg8 harg8 arg9 harg9 arg10 harg10 arg11 harg11 X6 X7)) else X9

/-- The codes after a point that works. -/
def next10 : BufTy.Contents (Elt F) arg10.view.ty :=
  open Classical in if newOf i (w18 (F := F) i arg1 X1) (w1 (F := F) i arg1 X1) = 1#1 then arg10.view.writes (Elt F) arg10.view.junk (qL10 arg5 X5) else X10

/-- The scales after a point that works. -/
def next11 : BufTy.Contents (Elt F) arg11.view.ty :=
  open Classical in if newOf i (w18 (F := F) i arg1 X1) (w1 (F := F) i arg1 X1) = 1#1 then arg11.view.writes (Elt F) arg11.view.junk (qL11 arg5 X5) else X11

/-- A point that works. -/
theorem body_W
    (hchk : k0_chk1 i (w3 (F := F) i arg2 X2) (w7 (F := F) arg4 X4))
    (hc : k0_cond1 i (w7 (F := F) arg4 X4) = 1#1)
 :
      (Held (F := F) c arg1 arg2 arg3 arg4 arg5 arg6 arg7 arg8 arg9 arg10 arg11 X1 X2 X3 X4 X5 X6 X7 X8 X9 X10 X11) ⊢ wp frame (wpE (defs₀ (F := F)) Variants.none (c : Thread nD τ) bd) E
        (cc0_int4_dgrad (F := F) i arg1 harg1 arg2 harg2 arg3 harg3 arg4 harg4 arg5 harg5 arg6 harg6 arg7 harg7 arg8 harg8 arg9 harg9 arg10 harg10 arg11 harg11)
        (fun _ => Held (F := F) c arg1 arg2 arg3 arg4 arg5 arg6 arg7 arg8 arg9 arg10 arg11 X1 X2 X3 X4 X5 X6 X7 (arg8.view.writes (Elt F) X8 (outL (F := F) c bd i arg1 harg1 arg2 harg2 arg3 harg3 arg4 harg4 arg5 harg5 arg6 harg6 arg7 harg7 arg8 harg8 arg9 harg9 arg10 harg10 arg11 harg11 X8 (next9 (F := F) c bd i arg1 harg1 arg2 harg2 arg3 harg3 arg4 harg4 arg5 harg5 arg6 harg6 arg7 harg7 arg8 harg8 arg9 harg9 arg10 harg10 arg11 harg11 X2 X6 X7 X9) (next10 (F := F) i arg1 arg5 arg10 X1 X5 X10) (next11 (F := F) i arg1 arg5 arg11 X1 X5 X11) (w1 (F := F) i arg1 X1) (w24 (F := F) arg3 X3 (w3 (F := F) i arg2 X2) (hchk.1 hc)) (w29 (F := F) arg3 X3 (w3 (F := F) i arg2 X2) (hchk.2 hc)))) (next9 (F := F) c bd i arg1 harg1 arg2 harg2 arg3 harg3 arg4 harg4 arg5 harg5 arg6 harg6 arg7 harg7 arg8 harg8 arg9 harg9 arg10 harg10 arg11 harg11 X2 X6 X7 X9) (next10 (F := F) i arg1 arg5 arg10 X1 X5 X10) (next11 (F := F) i arg1 arg5 arg11 X1 X5 X11)) := by
  by_cases hd : newOf i (w12 (F := F) i arg2 X2) (w3 (F := F) i arg2 X2) = 1#1 <;>
    by_cases hq : newOf i (w18 (F := F) i arg1 X1) (w1 (F := F) i arg1 X1) = 1#1 <;>
    simp only [next9, next10, next11, hd, hq, if_true, if_false]
  · exact (body_DQ (F := F) c bd i arg1 harg1 arg2 harg2 arg3 harg3 arg4 harg4 arg5 harg5 arg6 harg6 arg7 harg7 arg8 harg8 arg9 harg9 arg10 harg10 arg11 harg11 X1 X2 X3 X4 X5 X6 X7 X8 X9 X10 X11 hchk hc hd hq).2 E
  · exact body_D (F := F) c bd E i arg1 harg1 arg2 harg2 arg3 harg3 arg4 harg4 arg5 harg5 arg6 harg6 arg7 harg7 arg8 harg8 arg9 harg9 arg10 harg10 arg11 harg11 X1 X2 X3 X4 X5 X6 X7 X8 X9 X10 X11 hchk hc hd hq
  · exact (body_Q (F := F) c bd i arg1 harg1 arg2 harg2 arg3 harg3 arg4 harg4 arg5 harg5 arg6 harg6 arg7 harg7 arg8 harg8 arg9 harg9 arg10 harg10 arg11 harg11 X1 X2 X3 X4 X5 X6 X7 X8 X9 X10 X11 hchk hc hd hq).2 E
  · exact body_0 (F := F) c bd E i arg1 harg1 arg2 harg2 arg3 harg3 arg4 harg4 arg5 harg5 arg6 harg6 arg7 harg7 arg8 harg8 arg9 harg9 arg10 harg10 arg11 harg11 X1 X2 X3 X4 X5 X6 X7 X8 X9 X10 X11 hchk hc hd hq

end Cert.Kernel.Gen
end
-- ==== Proof.Bits.Words.lean ====
module

public import proofs.«01_k».proof.Proof.Bits.BodyW

@[expose] public section

set_option maxRecDepth 8192

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ## The words the kernel's body reads off the prefetched tables -/

/-- Entry `k` of a table of `n` words, zero outside it. -/
def wd {n : ℕ} (X : (⟨1, ![n]⟩ : Shape).Idx → BitVec 32) (k : ℕ) : BitVec 32 :=
  if h : k < n then X (fun a => ⟨k, by obtain rfl : a = 0 := Subsingleton.elim _ _; exact h⟩) else 0#32

theorem wd_of_idx {n : ℕ} (X : (⟨1, ![n]⟩ : Shape).Idx → BitVec 32) (x : (⟨1, ![n]⟩ : Shape).Idx) (k : ℕ) (hk : (x 0).val = k) :
    X x = wd X k := by
  have h : k < n := hk ▸ (x 0).isLt
  unfold wd
  rw [dif_pos h]
  congr 1
  funext a
  obtain rfl : a = 0 := Subsingleton.elim _ _
  exact Fin.ext hk

theorem toNat_coord (i : grid0.Coords) : (BitVec.ofNat 32 (i 0).val).toNat = (i 0).val := by
  have h : (i 0).val < 111 := (i 0).isLt
  simp only [BitVec.toNat_ofNat]
  omega

theorem off1_eq (i : grid0.Coords) : k0_off1 i = ![(i 0).val] := by
  unfold k0_off1
  dsimp only [Scalar.indexCast]
  rw [toNat_coord]

theorem prev_word : ∀ k : Fin 111, (Scalar.maxsi (Scalar.subi (BitVec.ofNat 32 k.val) 1#32) 0#32).toNat = k.val - 1 := by decide

theorem off2_eq (i : grid0.Coords) : k0_off2 i = ![(i 0).val - 1] := by
  unfold k0_off2
  dsimp only [Scalar.indexCast]
  exact congrArg (fun x => ![x]) (prev_word (i 0))

theorem off17_eq (i : grid0.Coords) : k0_off17 i = ![(i 0).val - 1] := off2_eq i

theorem read_word {n : ℕ} (X : (⟨1, ![n]⟩ : Shape).Idx → BitVec 32) (off : Fin 1 → ℕ) (k : ℕ) (ho : off = ![k])
    (h : ∀ a, off a + S1.size a ≤ (⟨1, ![n]⟩ : Shape).size a) (x : S1.Idx) :
    X ((Rect.unit (s := (⟨1, ![n]⟩ : Shape)) off S1.size h).toLoadRect.idx x) = wd X k := by
  subst ho
  refine wd_of_idx X _ k ?_
  have hx : (x 0).val = 0 := Nat.lt_one_iff.mp (x 0).isLt
  show k + 1 * (x 0).val = k
  omega

variable (i : grid0.Coords)

theorem w1_eq (X1 : S111.Idx → BitVec 32) : w1 (F := F) i (Memref.whole main_v45) X1 = wd X1 (i 0).val :=
  read_word X1 _ _ (off1_eq i) (k0_off1_inb i) _

theorem w3_eq (X2 : S111.Idx → BitVec 32) : w3 (F := F) i (Memref.whole main_v28) X2 = wd X2 (i 0).val :=
  read_word X2 _ _ (off1_eq i) (k0_off1_inb i) _

theorem w12_eq (X2 : S111.Idx → BitVec 32) : w12 (F := F) i (Memref.whole main_v28) X2 = wd X2 ((i 0).val - 1) :=
  read_word X2 _ _ (off2_eq i) (k0_off2_inb i) _

theorem w18_eq (X1 : S111.Idx → BitVec 32) : w18 (F := F) i (Memref.whole main_v45) X1 = wd X1 ((i 0).val - 1) :=
  read_word X1 _ _ (off17_eq i) (k0_off17_inb i) _

theorem w7_eq (X4 : S1.Idx → BitVec 32) : w7 (F := F) (Memref.whole main_v46) X4 = wd X4 0 :=
  read_word X4 _ 0 rfl inb_S1_S1_0 _

theorem w24_eq (X3 : S17.Idx → BitVec 32) (v3 : BitVec 32) (h) : w24 (F := F) (Memref.whole main_v2) X3 v3 h = wd X3 v3.toNat :=
  read_word X3 _ _ rfl h _

theorem add_one_toNat (v3 : BitVec 32) (hv : v3.toNat < 16) : (v3 + 1#32).toNat = v3.toNat + 1 := by
  rw [BitVec.toNat_add]
  simp only [BitVec.toNat_ofNat]
  omega

theorem w29_eq (X3 : S17.Idx → BitVec 32) (v3 : BitVec 32) (hv : v3.toNat < 16) (h) :
    w29 (F := F) (Memref.whole main_v2) X3 v3 h = wd X3 (v3.toNat + 1) :=
  read_word X3 _ _ (congrArg (fun x => ![x]) (add_one_toNat v3 hv)) h _

theorem bool_word (b : Bool) : BitVec.ofBool ((BitVec.ofBool b).setWidth 32 != 0#32) = 1#1 ↔ b = true := by
  revert b; decide

theorem bool_or (a b : Bool) : IntOp.ori (BitVec.ofBool a) (BitVec.ofBool b) = BitVec.ofBool (a || b) := by
  revert a b; decide

/-- The condition a point works under: its place is below the number of visits. -/
theorem cond1_iff (v7 : BitVec 32) (h7 : v7.toNat ≤ 111) : k0_cond1 i v7 = 1#1 ↔ (i 0).val < v7.toNat := by
  have hi := toNat_coord i
  have hl : (i 0).val < 111 := (i 0).isLt
  have key : (BitVec.ofNat 32 (i 0).val).slt v7 = decide ((i 0).val < v7.toNat) := by
    rw [BitVec.slt_eq_decide, BitVec.toInt_eq_toNat_of_lt (by omega), BitVec.toInt_eq_toNat_of_lt (by omega), hi]
    simp
  unfold k0_cond1
  simp only [Scalar.cmpi, Scalar.extui, IntOp.cmpi, key]
  exact bool_word _ |>.trans decide_eq_true_iff

/-- The kernel's guard on a refill: the first point, or a table word that moved. -/
theorem newOf_iff (old new : BitVec 32) : newOf i old new = 1#1 ↔ (i 0).val = 0 ∨ old ≠ new := by
  have hi := toNat_coord i
  have e0 : (BitVec.ofNat 32 (i 0).val = 0#32) ↔ (i 0).val = 0 := by
    constructor
    · intro h; rw [h] at hi; simpa using hi.symm
    · intro h; rw [h]
  unfold newOf isFirst
  simp only [Scalar.cmpi, Scalar.extui, Scalar.ori, IntOp.cmpi, bool_or]
  rw [bool_word, Bool.or_eq_true, beq_iff_eq, bne_iff_ne, e0]

/-- The two starts the body reads at an expert are in their table. -/
theorem chk1_of_lt (v3 v7 : BitVec 32) (hv : v3.toNat < 16) : k0_chk1 i v3 v7 := by
  refine ⟨fun _ a => ?_, fun _ a => ?_⟩
  · obtain rfl : a = 0 := Subsingleton.elim _ _
    show v3.toNat + 1 ≤ 17
    omega
  · obtain rfl : a = 0 := Subsingleton.elim _ _
    show (v3 + 1#32).toNat + 1 ≤ 17
    rw [add_one_toNat v3 hv]
    omega

end Cert.Kernel.Gen
end
-- ==== Proof.Bits.Point.lean ====
module

public import proofs.«01_k».proof.Proof.Bits.Words

@[expose] public section

set_option maxRecDepth 8192

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What one proof of the kernel's run carries about values: a reading of the three scratch buffers (the
    dequantised weights, the codes, the row scales) and of one element of the output block, as relations to
    the blocks they are computed from, with the proof that the kernel's stores establish each. A frame takes
    the relations that always hold. -/
structure Laws (F : FTy → Type) [FloatOps F] where
  PW : Vec F S1x5120x768 .i8 → Vec F S1x5120x48 .f32 → Vec F S5120x1536 .bf16 → Prop
  PC : Vec F S256x1536 .bf16 → Vec F S256x1536 .bf16 → Prop
  PS : Vec F S256x1536 .bf16 → Vec F S256x1 .f32 → Prop
  RV : Vec F S256x1536 .bf16 → Vec F S1x5120x768 .i8 → Vec F S1x5120x48 .f32 → S256x5120.Idx → Elt F .bf16 → Prop
  lawD : ∀ (c : Dev nD) (bd : Option Variants.none.V) (i : grid0.Coords) (arg1 : Memref sig .tc .smem S111 .i32) (harg1 : arg1.IsWhole) (arg2 : Memref sig .tc .smem S111 .i32) (harg2 : arg2.IsWhole) (arg3 : Memref sig .tc .smem S17 .i32) (harg3 : arg3.IsWhole) (arg4 : Memref sig .tc .smem S1 .i32) (harg4 : arg4.IsWhole) (arg5 : Memref sig .tc .vmem S256x1536 .bf16) (harg5 : arg5.IsWhole) (arg6 : Memref sig .tc .vmem S1x5120x768 .i8) (harg6 : arg6.IsWhole) (arg7 : Memref sig .tc .vmem S1x5120x48 .f32) (harg7 : arg7.IsWhole) (arg8 : Memref sig .tc .vmem S256x5120 .bf16) (harg8 : arg8.IsWhole) (arg9 : Memref sig .tc .vmem S5120x1536 .bf16) (harg9 : arg9.IsWhole) (arg10 : Memref sig .tc .vmem S256x1536 .bf16) (harg10 : arg10.IsWhole) (arg11 : Memref sig .tc .vmem S256x1 .f32) (harg11 : arg11.IsWhole)
    (X6 : BufTy.Contents (Elt F) arg6.view.ty) (X7 : BufTy.Contents (Elt F) arg7.view.ty) (X9 : BufTy.Contents (Elt F) arg9.view.ty),
    PW (arg6.view.read (Elt F) X6) (arg7.view.read (Elt F) X7) (arg9.view.read (Elt F) (arg9.view.writes (Elt F) X9 (dqL (F := F) c bd i arg1 harg1 arg2 harg2 arg3 harg3 arg4 harg4 arg5 harg5 arg6 harg6 arg7 harg7 arg8 harg8 arg9 harg9 arg10 harg10 arg11 harg11 X6 X7)))
  lawC : ∀ (arg5 : Memref sig .tc .vmem S256x1536 .bf16) (arg10 : Memref sig .tc .vmem S256x1536 .bf16)
    (X5 : BufTy.Contents (Elt F) arg5.view.ty) (X10 : BufTy.Contents (Elt F) arg10.view.ty),
    PC (arg5.view.read (Elt F) X5) (arg10.view.read (Elt F) (arg10.view.writes (Elt F) X10 (qL10 arg5 X5)))
  lawS : ∀ (arg5 : Memref sig .tc .vmem S256x1536 .bf16) (arg11 : Memref sig .tc .vmem S256x1 .f32)
    (X5 : BufTy.Contents (Elt F) arg5.view.ty) (X11 : BufTy.Contents (Elt F) arg11.view.ty),
    PS (arg5.view.read (Elt F) X5) (arg11.view.read (Elt F) (arg11.view.writes (Elt F) X11 (qL11 arg5 X5)))
  lawO : ∀ (c : Dev nD) (bd : Option Variants.none.V) (i : grid0.Coords) (arg1 : Memref sig .tc .smem S111 .i32) (harg1 : arg1.IsWhole) (arg2 : Memref sig .tc .smem S111 .i32) (harg2 : arg2.IsWhole) (arg3 : Memref sig .tc .smem S17 .i32) (harg3 : arg3.IsWhole) (arg4 : Memref sig .tc .smem S1 .i32) (harg4 : arg4.IsWhole) (arg5 : Memref sig .tc .vmem S256x1536 .bf16) (harg5 : arg5.IsWhole) (arg6 : Memref sig .tc .vmem S1x5120x768 .i8) (harg6 : arg6.IsWhole) (arg7 : Memref sig .tc .vmem S1x5120x48 .f32) (harg7 : arg7.IsWhole) (arg8 : Memref sig .tc .vmem S256x5120 .bf16) (harg8 : arg8.IsWhole) (arg9 : Memref sig .tc .vmem S5120x1536 .bf16) (harg9 : arg9.IsWhole) (arg10 : Memref sig .tc .vmem S256x1536 .bf16) (harg10 : arg10.IsWhole) (arg11 : Memref sig .tc .vmem S256x1 .f32) (harg11 : arg11.IsWhole)
    (X8 : BufTy.Contents (Elt F) arg8.view.ty) (X9 : BufTy.Contents (Elt F) arg9.view.ty) (X10 : BufTy.Contents (Elt F) arg10.view.ty) (X11 : BufTy.Contents (Elt F) arg11.view.ty)
    (v1 v24 v29 : BitVec 32) (Y5 : Vec F S256x1536 .bf16) (Y6 : Vec F S1x5120x768 .i8) (Y7 : Vec F S1x5120x48 .f32),
    v1.toNat < 96 → v24.toNat ≤ 24576 → v29.toNat ≤ 24576 →
    PW Y6 Y7 (arg9.view.read (Elt F) X9) → PC Y5 (arg10.view.read (Elt F) X10) → PS Y5 (arg11.view.read (Elt F) X11) →
    ∀ y : S256x5120.Idx,
      (v24.toNat ≤ v1.toNat * 256 + (y 0).val ∧ v1.toNat * 256 + (y 0).val < v29.toNat →
        RV Y5 Y6 Y7 y (arg8.view.read (Elt F) (arg8.view.writes (Elt F) X8 (outL (F := F) c bd i arg1 harg1 arg2 harg2 arg3 harg3 arg4 harg4 arg5 harg5 arg6 harg6 arg7 harg7 arg8 harg8 arg9 harg9 arg10 harg10 arg11 harg11 X8 X9 X10 X11 v1 v24 v29)) y))
      ∧ (¬ (v24.toNat ≤ v1.toNat * 256 + (y 0).val ∧ v1.toNat * 256 + (y 0).val < v29.toNat) →
        ∀ Y6' Y7', RV Y5 Y6' Y7' y (arg8.view.read (Elt F) X8 y) →
          RV Y5 Y6' Y7' y (arg8.view.read (Elt F) (arg8.view.writes (Elt F) X8 (outL (F := F) c bd i arg1 harg1 arg2 harg2 arg3 harg3 arg4 harg4 arg5 harg5 arg6 harg6 arg7 harg7 arg8 harg8 arg9 harg9 arg10 harg10 arg11 harg11 X8 X9 X10 X11 v1 v24 v29)) y))

/-- The laws of a frame: nothing is said of any value. -/
def Laws.trivial (F : FTy → Type) [FloatOps F] : Laws F where
  PW _ _ _ := True
  PC _ _ := True
  PS _ _ := True
  RV _ _ _ _ _ := True
  lawD := by intros; exact True.intro
  lawC := by intros; exact True.intro
  lawS := by intros; exact True.intro
  lawO := by intros; exact ⟨fun _ => True.intro, fun _ _ _ _ => True.intro⟩

variable (Λ : Laws F)

/-- What the output block may hold after a point, from what it held before: at a point that works, the rows of
    the point's tile and expert hold values and the other rows keep theirs. -/
def Step (wk : Prop) (tile lo hi : ℕ) (Y5 : Vec F S256x1536 .bf16) (Y6 : Vec F S1x5120x768 .i8) (Y7 : Vec F S1x5120x48 .f32)
    (Y X : Vec F S256x5120 .bf16) : Prop :=
  (¬ wk → X = Y) ∧ (wk → ∀ y : S256x5120.Idx,
    (lo ≤ tile * 256 + (y 0).val ∧ tile * 256 + (y 0).val < hi → Λ.RV Y5 Y6 Y7 y (X y))
    ∧ (¬ (lo ≤ tile * 256 + (y 0).val ∧ tile * 256 + (y 0).val < hi) → ∀ Y6' Y7', Λ.RV Y5 Y6' Y7' y (Y y) → Λ.RV Y5 Y6' Y7' y (X y)))

/-- The three scratch buffers hold what they are for. -/
def Filled (Y5 : Vec F S256x1536 .bf16) (Y6 : Vec F S1x5120x768 .i8) (Y7 : Vec F S1x5120x48 .f32)
    (X9 : Vec F S5120x1536 .bf16) (X10 : Vec F S256x1536 .bf16) (X11 : Vec F S256x1 .f32) : Prop :=
  Λ.PW Y6 Y7 X9 ∧ Λ.PC Y5 X10 ∧ Λ.PS Y5 X11

variable (c : Dev nD) (bd : Option Variants.none.V) (E : Set ℕ) (i : grid0.Coords)
variable (arg5 : Memref sig .tc .vmem S256x1536 .bf16) (harg5 : arg5.IsWhole) (arg6 : Memref sig .tc .vmem S1x5120x768 .i8) (harg6 : arg6.IsWhole) (arg7 : Memref sig .tc .vmem S1x5120x48 .f32) (harg7 : arg7.IsWhole) (arg8 : Memref sig .tc .vmem S256x5120 .bf16) (harg8 : arg8.IsWhole)

theorem rect_full3 (n m : ℕ) (h : ∀ a, (![0, 0, 0] : Fin 3 → ℕ) a + (![1, n, m] : Fin 3 → ℕ) a ≤ (⟨3, ![1, n, m]⟩ : Shape).size a) :
    (Rect.unit (s := (⟨3, ![1, n, m]⟩ : Shape)) ![0, 0, 0] ![1, n, m] h).set = Finset.univ := by
  apply Finset.eq_univ_iff_forall.mpr
  intro x
  rw [Rect.mem_set_unit]
  intro a
  constructor
  · fin_cases a <;> exact Nat.zero_le _
  · have := (x a).isLt
    fin_cases a <;> simpa using this

theorem set_v43 : (v43 arg6).view.set = arg6.view.set := by
  show ((arg6.view.slice _).reshape _ _).set = _
  rw [View.set_reshape, View.set_slice, rect_full3]
  rfl

theorem set_v56 : (v56 arg7).view.set = arg7.view.set := by
  show ((arg7.view.slice _).reshape _ _).set = _
  rw [View.set_reshape, View.set_slice, rect_full3]
  rfl

/-- The prefetched tables as the body holds them. -/
abbrev Tabs (X1 X2 : S111.Idx → BitVec 32) (X3 : S17.Idx → BitVec 32) (X4 : S1.Idx → BitVec 32) : sProp 𝕄G :=
  iprop(((c : Thread nD τ).loc main_v45 ↦{fullShare.right} X1) ∗ ((c : Thread nD τ).loc main_v28 ↦{fullShare.right} X2)
    ∗ ((c : Thread nD τ).loc main_v2 ↦{fullShare.right} X3) ∗ ((c : Thread nD τ).loc main_v46 ↦{fullShare.right} X4))

/-- The scratch buffers at contents. -/
abbrev Scr (X9 : Vec F S5120x1536 .bf16) (X10 : Vec F S256x1536 .bf16) (X11 : Vec F S256x1 .f32) : sProp 𝕄G :=
  iprop(((c : Thread nD τ).loc cc0_scratch0 ↦{fullShare} X9) ∗ ((c : Thread nD τ).loc cc0_scratch1 ↦{fullShare} X10)
    ∗ ((c : Thread nD τ).loc cc0_scratch2 ↦{fullShare} X11))

/-- The buffers in the run's form are the buffers the kernel's triples hold. -/
theorem held_eq (X1 X2 : S111.Idx → BitVec 32) (X3 : S17.Idx → BitVec 32) (X4 : S1.Idx → BitVec 32)
    (X5 : BufTy.Contents (Elt F) arg5.view.ty) (X6 : BufTy.Contents (Elt F) arg6.view.ty) (X7 : BufTy.Contents (Elt F) arg7.view.ty) (X8 : BufTy.Contents (Elt F) arg8.view.ty)
    (X9 : Vec F S5120x1536 .bf16) (X10 : Vec F S256x1536 .bf16) (X11 : Vec F S256x1 .f32) :
    (Held (F := F) c (Memref.whole main_v45) (Memref.whole main_v28) (Memref.whole main_v2) (Memref.whole main_v46) arg5 arg6 arg7 arg8 (Memref.whole cc0_scratch0) (Memref.whole cc0_scratch1) (Memref.whole cc0_scratch2) X1 X2 X3 X4 X5 X6 X7 X8 X9 X10 X11)
    = iprop(((c : Thread nD τ).loc main_v45 ↦{fullShare.right} X1) ∗ ((c : Thread nD τ).loc main_v28 ↦{fullShare.right} X2)
    ∗ ((c : Thread nD τ).loc main_v2 ↦{fullShare.right} X3) ∗ ((c : Thread nD τ).loc main_v46 ↦{fullShare.right} X4)
    ∗ (arg5.view.loc (c : Thread nD τ) ↦[arg5.view.set]{fullShare} X5) ∗ (arg6.view.loc (c : Thread nD τ) ↦[arg6.view.set]{fullShare} X6)
    ∗ (arg7.view.loc (c : Thread nD τ) ↦[arg7.view.set]{fullShare} X7) ∗ (arg8.view.loc (c : Thread nD τ) ↦[arg8.view.set]{fullShare} X8)
    ∗ ((c : Thread nD τ).loc cc0_scratch0 ↦{fullShare} X9) ∗ ((c : Thread nD τ).loc cc0_scratch1 ↦{fullShare} X10)
    ∗ ((c : Thread nD τ).loc cc0_scratch2 ↦{fullShare} X11)) := by
  unfold Held
  rw [set_v43, set_v56]
  simp only [Memref.view_whole, View.set_whole]

/-- What a point leaves, in the run's form. -/
abbrev Left (X1 X2 : S111.Idx → BitVec 32) (X3 : S17.Idx → BitVec 32) (X4 : S1.Idx → BitVec 32)
    (Y5 : Vec F S256x1536 .bf16) (Y6 : Vec F S1x5120x768 .i8) (Y7 : Vec F S1x5120x48 .f32) (Y8 : Vec F S256x5120 .bf16) : sProp 𝕄G :=
  iprop(Tabs (F := F) c X1 X2 X3 X4 ∗ owns (c : Thread nD τ) arg5 fullShare Y5 ∗ owns (c : Thread nD τ) arg6 fullShare Y6
        ∗ owns (c : Thread nD τ) arg7 fullShare Y7
        ∗ (∃ Y8', ⌜Step Λ ((i 0).val < (wd X4 0).toNat) (wd X1 (i 0).val).toNat (wd X3 (wd X2 (i 0).val).toNat).toNat (wd X3 ((wd X2 (i 0).val).toNat + 1)).toNat Y5 Y6 Y7 Y8 Y8'⌝ ∗ owns (c : Thread nD τ) arg8 fullShare Y8')
        ∗ ∃ X9' X10' X11', ⌜(i 0).val < (wd X4 0).toNat → Filled Λ Y5 Y6 Y7 X9' X10' X11'⌝ ∗ Scr (F := F) c X9' X10' X11')

theorem left_of_held (X1 X2 : S111.Idx → BitVec 32) (X3 : S17.Idx → BitVec 32) (X4 : S1.Idx → BitVec 32)
    (X5 : BufTy.Contents (Elt F) arg5.view.ty) (X6 : BufTy.Contents (Elt F) arg6.view.ty) (X7 : BufTy.Contents (Elt F) arg7.view.ty) (X8 : BufTy.Contents (Elt F) arg8.view.ty)
    (Y8 : Vec F S256x5120 .bf16)
    (X9 : Vec F S5120x1536 .bf16) (X10 : Vec F S256x1536 .bf16) (X11 : Vec F S256x1 .f32)
    (hs : Step Λ ((i 0).val < (wd X4 0).toNat) (wd X1 (i 0).val).toNat (wd X3 (wd X2 (i 0).val).toNat).toNat (wd X3 ((wd X2 (i 0).val).toNat + 1)).toNat
      (arg5.view.read (Elt F) X5) (arg6.view.read (Elt F) X6) (arg7.view.read (Elt F) X7) Y8 (arg8.view.read (Elt F) X8))
    (hf : (i 0).val < (wd X4 0).toNat → Filled Λ (arg5.view.read (Elt F) X5) (arg6.view.read (Elt F) X6) (arg7.view.read (Elt F) X7) ((Memref.whole cc0_scratch0).view.read (Elt F) X9) ((Memref.whole cc0_scratch1).view.read (Elt F) X10) ((Memref.whole cc0_scratch2).view.read (Elt F) X11)) :
    (Held (F := F) c (Memref.whole main_v45) (Memref.whole main_v28) (Memref.whole main_v2) (Memref.whole main_v46) arg5 arg6 arg7 arg8 (Memref.whole cc0_scratch0) (Memref.whole cc0_scratch1) (Memref.whole cc0_scratch2) X1 X2 X3 X4 X5 X6 X7 X8 X9 X10 X11)
      ⊢ Left Λ c i arg5 arg6 arg7 arg8 X1 X2 X3 X4 (arg5.view.read (Elt F) X5) (arg6.view.read (Elt F) X6) (arg7.view.read (Elt F) X7) Y8 := by
  rw [held_eq]
  unfold Left Tabs Scr owns
  iintro ⟨H1, H2, H3, H4, H5, H6, H7, H8, H9, H10, H11⟩
  isplitl [H1 H2 H3 H4]
  · isplitl [H1]; · iexact H1
    isplitl [H2]; · iexact H2
    isplitl [H3]; · iexact H3
    iexact H4
  isplitl [H5]
  · iexists X5; isplitr; · ipureintro; rfl
    iexact H5
  isplitl [H6]
  · iexists X6; isplitr; · ipureintro; rfl
    iexact H6
  isplitl [H7]
  · iexists X7; isplitr; · ipureintro; rfl
    iexact H7
  isplitl [H8]
  · iexists arg8.view.read (Elt F) X8; isplitr; · ipureintro; exact hs
    iexists X8; isplitr; · ipureintro; rfl
    iexact H8
  iexists X9, X10, X11
  isplitr; · ipureintro; exact hf
  isplitl [H9]; · iexact H9
  isplitl [H10]; · iexact H10
  iexact H11

set_option maxHeartbeats 1000000 in
/-- One point of the grid, over the blocks it is handed. -/
theorem point (X1 X2 : S111.Idx → BitVec 32) (X3 : S17.Idx → BitVec 32) (X4 : S1.Idx → BitVec 32)
    (Y5 : Vec F S256x1536 .bf16) (Y6 : Vec F S1x5120x768 .i8) (Y7 : Vec F S1x5120x48 .f32) (Y8 : Vec F S256x5120 .bf16)
    (X9 : Vec F S5120x1536 .bf16) (X10 : Vec F S256x1536 .bf16) (X11 : Vec F S256x1 .f32)
    (h4 : (wd X4 0).toNat ≤ 111) (hT : (wd X1 (i 0).val).toNat < 96) (hE : (wd X2 (i 0).val).toNat < 16)
    (hS : ∀ e ≤ 16, (wd X3 e).toNat ≤ 24576)
    (hW : (i 0).val < (wd X4 0).toNat → (i 0).val ≠ 0 → wd X2 ((i 0).val - 1) = wd X2 (i 0).val → Λ.PW Y6 Y7 X9)
    (hC : (i 0).val < (wd X4 0).toNat → (i 0).val ≠ 0 → wd X1 ((i 0).val - 1) = wd X1 (i 0).val → Λ.PC Y5 X10 ∧ Λ.PS Y5 X11) :
    iprop(Tabs (F := F) c X1 X2 X3 X4 ∗ owns (c : Thread nD τ) arg5 fullShare Y5 ∗ owns (c : Thread nD τ) arg6 fullShare Y6
        ∗ owns (c : Thread nD τ) arg7 fullShare Y7 ∗ owns (c : Thread nD τ) arg8 fullShare Y8 ∗ Scr (F := F) c X9 X10 X11)
      ⊢ (wp frame (wpE (defs₀ (F := F)) Variants.none (c : Thread nD τ) bd) E (cc0_int4_dgrad (F := F) i (Memref.whole main_v45) (Memref.isWhole_whole _) (Memref.whole main_v28) (Memref.isWhole_whole _) (Memref.whole main_v2) (Memref.isWhole_whole _) (Memref.whole main_v46) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _))
        (fun _ => Left Λ c i arg5 arg6 arg7 arg8 X1 X2 X3 X4 Y5 Y6 Y7 Y8) : sProp 𝕄G) := by
  unfold owns
  iintro ⟨⟨H1, H2, H3, H4⟩, ⟨%X5, %h5, H5⟩, ⟨%X6, %h6, H6⟩, ⟨%X7, %h7, H7⟩, ⟨%X8, %h8, H8⟩, ⟨H9, H10, H11⟩⟩
  have hchk : k0_chk1 i (w3 (F := F) i (Memref.whole main_v28) X2) (w7 (F := F) (Memref.whole main_v46) X4) := by
    rw [w3_eq]
    exact chk1_of_lt i _ _ hE
  subst h5 h6 h7 h8
  have filled : (i 0).val < (wd X4 0).toNat → Filled Λ (arg5.view.read (Elt F) X5) (arg6.view.read (Elt F) X6) (arg7.view.read (Elt F) X7)
      ((Memref.whole cc0_scratch0).view.read (Elt F) (next9 (F := F) c bd i (Memref.whole main_v45) (Memref.isWhole_whole _) (Memref.whole main_v28) (Memref.isWhole_whole _) (Memref.whole main_v2) (Memref.isWhole_whole _) (Memref.whole main_v46) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _) X2 X6 X7 X9)) ((Memref.whole cc0_scratch1).view.read (Elt F) (next10 (F := F) i (Memref.whole main_v45) arg5 (Memref.whole cc0_scratch1) X1 X5 X10)) ((Memref.whole cc0_scratch2).view.read (Elt F) (next11 (F := F) i (Memref.whole main_v45) arg5 (Memref.whole cc0_scratch2) X1 X5 X11)) := by
    intro hw
    refine ⟨?_, ?_, ?_⟩
    · unfold next9
      split
      · exact Λ.lawD c bd i (Memref.whole main_v45) (Memref.isWhole_whole _) (Memref.whole main_v28) (Memref.isWhole_whole _) (Memref.whole main_v2) (Memref.isWhole_whole _) (Memref.whole main_v46) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _) X6 X7 X9
      · rename_i hn
        rw [newOf_iff, w12_eq, w3_eq, not_or, not_not] at hn
        exact hW hw hn.1 hn.2
    · unfold next10
      split
      · exact Λ.lawC arg5 (Memref.whole cc0_scratch1) X5 _
      · rename_i hn
        rw [newOf_iff, w18_eq, w1_eq, not_or, not_not] at hn
        exact (hC hw hn.1 hn.2).1
    · unfold next11
      split
      · exact Λ.lawS arg5 (Memref.whole cc0_scratch2) X5 _
      · rename_i hn
        rw [newOf_iff, w18_eq, w1_eq, not_or, not_not] at hn
        exact (hC hw hn.1 hn.2).2
  have key : (Held (F := F) c (Memref.whole main_v45) (Memref.whole main_v28) (Memref.whole main_v2) (Memref.whole main_v46) arg5 arg6 arg7 arg8 (Memref.whole cc0_scratch0) (Memref.whole cc0_scratch1) (Memref.whole cc0_scratch2) X1 X2 X3 X4 X5 X6 X7 X8 X9 X10 X11)
      ⊢ (wp frame (wpE (defs₀ (F := F)) Variants.none (c : Thread nD τ) bd) E (cc0_int4_dgrad (F := F) i (Memref.whole main_v45) (Memref.isWhole_whole _) (Memref.whole main_v28) (Memref.isWhole_whole _) (Memref.whole main_v2) (Memref.isWhole_whole _) (Memref.whole main_v46) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _))
        (fun _ => Left Λ c i arg5 arg6 arg7 arg8 X1 X2 X3 X4 (arg5.view.read (Elt F) X5) (arg6.view.read (Elt F) X6) (arg7.view.read (Elt F) X7) (arg8.view.read (Elt F) X8)) : sProp 𝕄G) := by
    by_cases hw : (i 0).val < (wd X4 0).toNat
    · have hc : k0_cond1 i (w7 (F := F) (Memref.whole main_v46) X4) = 1#1 := by rw [w7_eq]; exact (cond1_iff i _ h4).mpr hw
      refine (body_W (F := F) c bd E i (Memref.whole main_v45) (Memref.isWhole_whole _) (Memref.whole main_v28) (Memref.isWhole_whole _) (Memref.whole main_v2) (Memref.isWhole_whole _) (Memref.whole main_v46) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _) X1 X2 X3 X4 X5 X6 X7 X8 X9 X10 X11 hchk hc).trans
        (wp_mono _ _ _ fun _ => ?_)
      refine left_of_held Λ c i arg5 arg6 arg7 arg8 X1 X2 X3 X4 X5 X6 X7 _ (arg8.view.read (Elt F) X8) _ _ _ ?_ ?_
      · refine ⟨fun h => absurd hw h, fun _ y => ?_⟩
        have hf := filled hw
        have hE' : (w3 (F := F) i (Memref.whole main_v28) X2).toNat < 16 := by rw [w3_eq]; exact hE
        have hO := fun h h' => Λ.lawO c bd i (Memref.whole main_v45) (Memref.isWhole_whole _) (Memref.whole main_v28) (Memref.isWhole_whole _) (Memref.whole main_v2) (Memref.isWhole_whole _) (Memref.whole main_v46) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _) X8 (next9 (F := F) c bd i (Memref.whole main_v45) (Memref.isWhole_whole _) (Memref.whole main_v28) (Memref.isWhole_whole _) (Memref.whole main_v2) (Memref.isWhole_whole _) (Memref.whole main_v46) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _) X2 X6 X7 X9) (next10 (F := F) i (Memref.whole main_v45) arg5 (Memref.whole cc0_scratch1) X1 X5 X10) (next11 (F := F) i (Memref.whole main_v45) arg5 (Memref.whole cc0_scratch2) X1 X5 X11)
          (w1 (F := F) i (Memref.whole main_v45) X1) (w24 (F := F) (Memref.whole main_v2) X3 (w3 (F := F) i (Memref.whole main_v28) X2) h) (w29 (F := F) (Memref.whole main_v2) X3 (w3 (F := F) i (Memref.whole main_v28) X2) h')
          (arg5.view.read (Elt F) X5) (arg6.view.read (Elt F) X6) (arg7.view.read (Elt F) X7)
          (by rw [w1_eq]; exact hT) (by rw [w24_eq]; exact hS _ (by omega)) (by rw [w29_eq _ _ hE']; exact hS _ (by omega)) hf.1 hf.2.1 hf.2.2 y
        rw [← w3_eq (F := F) i X2, ← w24_eq (F := F) X3 _ (hchk.1 hc), ← w29_eq (F := F) X3 _ hE' (hchk.2 hc), ← w1_eq (F := F) i X1]
        exact hO _ _
      · intro _
        exact filled hw
    · have hc : ¬ k0_cond1 i (w7 (F := F) (Memref.whole main_v46) X4) = 1#1 := by rw [w7_eq]; exact fun h => hw ((cond1_iff i _ h4).mp h)
      exact (body_N (F := F) c bd E i (Memref.whole main_v45) (Memref.isWhole_whole _) (Memref.whole main_v28) (Memref.isWhole_whole _) (Memref.whole main_v2) (Memref.isWhole_whole _) (Memref.whole main_v46) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _) X1 X2 X3 X4 X5 X6 X7 X8 X9 X10 X11 hchk hc).trans
        (wp_mono _ _ _ fun _ => left_of_held Λ c i arg5 arg6 arg7 arg8 X1 X2 X3 X4 X5 X6 X7 X8 (arg8.view.read (Elt F) X8) X9 X10 X11
          ⟨fun _ => rfl, fun h => absurd h hw⟩ (fun h => absurd h hw))
  rw [held_eq] at key
  iapply key
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.Kernel.Gen
end
-- ==== Proof.Bits.Run.lean ====
module

public import proofs.«01_k».proof.Proof.Bits.Point

public import Idealize.ShloMosaic.Lib.Pipeline.FrameBody

@[expose] public section

set_option maxRecDepth 8192

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open Idealize.ShloMosaic.Pipeline (RDat Cfg ΦA ΦT prefHeld)

/-- The host's operations before the kernel, one list to a stretch. -/
abbrev opss : List (List (HloOp τ sig (Elt F))) :=
  [hostOps0, hostOps0_1, hostOps0_2, hostOps0_3, hostOps0_4, hostOps0_5, hostOps0_6, hostOps0_7, hostOps0_8, hostOps0_9]

variable (m : (ℓ : Loc nD τ sig) → Buf (Elt F) ℓ) (g : Dev nD → PrngReg)

/-- A core's buffers when the kernel is called: what the host's operations leave. -/
def Vk (c : Dev nD) (b : Ref sig .tc) : Buf (Elt F) ((c : Thread nD τ).loc b) :=
  StableHlo.after (opss (F := F)).flatten (fun b => m (c, b)) b

variable (pf : pre0.Contents (Elt F)) (hok : ok0 pf)

/-- The tables as the pipeline is run at. -/
abbrev adm : (p : Fin 1) → (pcfgs (F := F) p).Adm := fun _ => ⟨pf, hok⟩

/-- The pipeline at its tables. -/
abbrev cfgK : Cfg sig Λ₀ := Pipeline.pin (pcfgs (F := F)) (adm pf hok) 0

theorem N_eq : (cfgK pf hok).N = 111 := N_0

theorem coord_eq (t : Fin (cfgK pf hok).N) : ((cfgK pf hok).grid.coords t 0).val = t.val := by
  have h : t.val < 111 := t.isLt.trans_eq (N_eq pf hok)
  show t.val / grid0.stride 0 % 111 = t.val
  have hs : grid0.stride 0 = 1 := by decide
  rw [hs, Nat.div_one, Nat.mod_eq_of_lt h]

/-- The words of the four tables. -/
abbrev tT (k : ℕ) : BitVec 32 := wd (n := 111) (pf 0) k
abbrev tE (k : ℕ) : BitVec 32 := wd (n := 111) (pf 1) k
abbrev tS (k : ℕ) : BitVec 32 := wd (n := 17) (pf 2) k
abbrev tN : BitVec 32 := wd (n := 1) (pf 3) 0

/-- What the run asks of the tables: every word is a number of a tile, an expert, a row or a visit. -/
structure TabOK : Prop where
  hN : (tN pf).toNat ≤ 111
  hT : ∀ k < 111, (tT pf k).toNat < 96
  hE : ∀ k < 111, (tE pf k).toNat < 16
  hS : ∀ e ≤ 16, (tS pf e).toNat ≤ 24576

/-- Window `w`'s block at a point. -/
def blkK (c : Dev nD) (w : Fin 4) (t : Fin (cfgK pf hok).N) : ((cfgK pf hok).win w).block.Idx → Elt F ((cfgK pf hok).win w).elt :=
  ((cfgK pf hok).win w).fill ((cfgK pf hok).grid.coords t) (fun _ => Classical.arbitrary _)
    (((cfgK pf hok).win w).blk t |>.view.read (Elt F) (Vk m c (Pipeline.arrRef spec0 w)))

variable (Λ : Laws F)

/-- The run's proof data. -/
def rdat (c : Dev nD) : RDat τ (Elt F) Unit ℕ (UR sig nD τ) ℕ (cfgK pf hok) c where
  A w := Vk m c (Pipeline.arrRef spec0 w)
  after w t Y X := match w, Y, X with
    | 0, Y, X => X = Y
    | 1, Y, X => X = Y
    | 2, Y, X => X = Y
    | 3, Y, X => Step Λ (t.val < (tN pf).toNat) (tT pf t.val).toNat (tS pf (tE pf t.val).toNat).toNat (tS pf ((tE pf t.val).toNat + 1)).toNat
        (blkK m pf hok c 0 t) (blkK m pf hok c 1 t) (blkK m pf hok c 2 t) Y X
  Φ t := iprop((∃ X9 X10 X11, ⌜∀ t' : Fin (cfgK pf hok).N, t'.val + 1 = t.val → t'.val < (tN pf).toNat →
      Filled Λ (blkK m pf hok c 0 t') (blkK m pf hok c 1 t') (blkK m pf hok c 2 t') X9 X10 X11⌝ ∗ Scr (F := F) c X9 X10 X11)
      ∗ (∃ r, prngReg c r) ∗ ΦT pre0 pf c)
  q _ := fullShare
  owed _ := 0

theorem rdat_in (c : Dev nD) (w : Fin 4) (hw : w ≠ 3) (t : Fin (cfgK pf hok).N) (Y) (hY : (rdat m pf hok Λ c).Finds w t Y) :
    Y = blkK m pf hok c w t := by
  have hio : ((cfgK pf hok).win w).isOut = false := by fin_cases w <;> first | rfl | exact absurd rfl hw
  obtain ⟨d, hd⟩ := (rdat m pf hok Λ c).finds_in_eq_fetched w hio (fun _ _ _ => by fin_cases w <;> rfl)
    (fun t Y X h => by fin_cases w <;> first | exact h | exact absurd rfl hw) t Y hY
  rw [hd]
  unfold blkK RDat.fetched RDat.blockOf
  funext j
  have hm : ((cfgK pf hok).win w).moved ((cfgK pf hok).grid.coords t) j = true :=
    (((cfgK pf hok).win w).moved_iff _ j).mpr fun a => (j a).isLt
  unfold Pipeline.Window.fill
  rw [dif_pos hm, dif_pos hm]
  rfl

theorem blk_congr (c : Dev nD) (w : Fin 4) (t t' : Fin (cfgK pf hok).N) (h : ((cfgK pf hok).win w).index t = ((cfgK pf hok).win w).index t') :
    blkK m pf hok c w t = blkK m pf hok c w t' :=
  (rdat m pf hok (Laws.trivial F) c).fetched_congr w h rfl _

theorem tab_at (i : grid0.Coords) (X : S111.Idx → BitVec 32) (h : ∀ a, k0_off1 i a + S1.size a ≤ S111.size a) (x : S1.Idx) :
    X ((Rect.unit (s := S111) (k0_off1 i) S1.size h).emb x) = wd X (i 0).val :=
  read_word X _ _ (off1_eq i) h x

theorem index0 (t : Fin (cfgK pf hok).N) : ((cfgK pf hok).win 0).index t = ![(tT pf t.val).toNat, 0] := by
  have e := tab_at ((cfgK pf hok).grid.coords t) (pf 0) (k0_off1_inb _) (Shape.Idx.first (s := S1) (numel1_S1.symm ▸ Nat.one_pos))
  rw [coord_eq] at e
  exact congrArg (fun x : BitVec 32 => ![x.toNat, 0]) e

theorem index1 (t : Fin (cfgK pf hok).N) : ((cfgK pf hok).win 1).index t = ![(tE pf t.val).toNat, 0, 0] := by
  have e := tab_at ((cfgK pf hok).grid.coords t) (pf 1) (k0_off1_inb _) (Shape.Idx.first (s := S1) (numel1_S1.symm ▸ Nat.one_pos))
  rw [coord_eq] at e
  exact congrArg (fun x : BitVec 32 => ![x.toNat, 0, 0]) e

theorem index2 (t : Fin (cfgK pf hok).N) : ((cfgK pf hok).win 2).index t = ![(tE pf t.val).toNat, 0, 0] := by
  have e := tab_at ((cfgK pf hok).grid.coords t) (pf 1) (k0_off1_inb _) (Shape.Idx.first (s := S1) (numel1_S1.symm ▸ Nat.one_pos))
  rw [coord_eq] at e
  exact congrArg (fun x : BitVec 32 => ![x.toNat, 0, 0]) e

theorem index3 (t : Fin (cfgK pf hok).N) : ((cfgK pf hok).win 3).index t = ![(tT pf t.val).toNat, 0] := by
  have e := tab_at ((cfgK pf hok).grid.coords t) (pf 0) (k0_off1_inb _) (Shape.Idx.first (s := S1) (numel1_S1.symm ▸ Nat.one_pos))
  rw [coord_eq] at e
  exact congrArg (fun x : BitVec 32 => ![x.toNat, 0]) e

/-- The kernel at a point, on the point's staging buffers. -/
theorem prog_eq (t : Fin (cfgK pf hok).N) :
    (defs₀ (F := F)) .tc (cfgK pf hok).body ((cfgK pf hok).bodyArgs t ((cfgK pf hok).slots t))
      = cc0_int4_dgrad ((cfgK pf hok).grid.coords t) (Memref.whole main_v45) (Memref.isWhole_whole _) (Memref.whole main_v28) (Memref.isWhole_whole _) (Memref.whole main_v2) (Memref.isWhole_whole _) (Memref.whole main_v46) (Memref.isWhole_whole _)
        (spec0_0.stage ((cfgK pf hok).slots t 0)) (hstage0_0 (((cfgK pf hok).slots t 0).cast nbuf0_0)) (spec0_1.stage ((cfgK pf hok).slots t 1)) (hstage0_1 (((cfgK pf hok).slots t 1).cast nbuf0_1)) (spec0_2.stage ((cfgK pf hok).slots t 2)) (hstage0_2 (((cfgK pf hok).slots t 2).cast nbuf0_2)) (spec0_3.stage ((cfgK pf hok).slots t 3)) (hstage0_3 (((cfgK pf hok).slots t 3).cast nbuf0_3)) (Memref.whole cc0_scratch0) (Memref.isWhole_whole _) (Memref.whole cc0_scratch1) (Memref.isWhole_whole _) (Memref.whole cc0_scratch2) (Memref.isWhole_whole _) := by
  unfold defs₀
  rw [Defs.onTc_tc]

/-- The tables as the pipeline holds them are the four tables. -/
theorem tabs_eq (c : Dev nD) : (ΦT pre0 pf c : sProp 𝕄G) = Tabs (F := F) c (pf 0) (pf 1) (pf 2) (pf 3) := by
  unfold Pipeline.ΦT Pipeline.prefHeld
  exact bigSep_W0 _

variable {pf} in
theorem point_at (c : Dev nD) (t : Fin (cfgK pf hok).N) (ht : TabOK pf) (Y : (w : Fin 4) → ((cfgK pf hok).win w).block.Idx → Elt F ((cfgK pf hok).win w).elt)
    (hY : ∀ w : Fin 4, (rdat m pf hok Λ c).Finds w t (Y w)) (X9 X10 X11)
    (hX : ∀ t' : Fin (cfgK pf hok).N, t'.val + 1 = t.val → t'.val < (tN pf).toNat →
      Filled Λ (blkK m pf hok c 0 t') (blkK m pf hok c 1 t') (blkK m pf hok c 2 t') X9 X10 X11) :
    iprop(Tabs (F := F) c (pf 0) (pf 1) (pf 2) (pf 3) ∗ owns (c : Thread nD τ) (spec0_0.stage ((cfgK pf hok).slots t 0)) fullShare (Y 0) ∗ owns (c : Thread nD τ) (spec0_1.stage ((cfgK pf hok).slots t 1)) fullShare (Y 1)
        ∗ owns (c : Thread nD τ) (spec0_2.stage ((cfgK pf hok).slots t 2)) fullShare (Y 2) ∗ owns (c : Thread nD τ) (spec0_3.stage ((cfgK pf hok).slots t 3)) fullShare (Y 3) ∗ Scr (F := F) c X9 X10 X11)
      ⊢ (wp frame (wpE (defs₀ (F := F)) Variants.none (c : Thread nD τ) none) Set.univ ((defs₀ (F := F)) .tc (cfgK pf hok).body ((cfgK pf hok).bodyArgs t ((cfgK pf hok).slots t)))
        (fun _ => Left Λ c ((cfgK pf hok).grid.coords t) (spec0_0.stage ((cfgK pf hok).slots t 0)) (spec0_1.stage ((cfgK pf hok).slots t 1)) (spec0_2.stage ((cfgK pf hok).slots t 2)) (spec0_3.stage ((cfgK pf hok).slots t 3)) (pf 0) (pf 1) (pf 2) (pf 3) (Y 0) (Y 1) (Y 2) (Y 3)) : sProp 𝕄G) := by
  have hlt : t.val < 111 := t.isLt.trans_eq (N_eq pf hok)
  have hc := coord_eq pf hok t
  have back : ∀ n : ℕ, t.val ≠ 0 → n = t.val - 1 → ∃ t' : Fin (cfgK pf hok).N, t'.val = n ∧ t'.val + 1 = t.val := fun n h0 hn =>
    ⟨⟨t.val - 1, by have := t.isLt; omega⟩, hn.symm, by show t.val - 1 + 1 = t.val; omega⟩
  rw [prog_eq]
  refine point Λ c none Set.univ _ _ _ _ _ _ _ _ _ (pf 0) (pf 1) (pf 2) (pf 3) (Y 0) (Y 1) (Y 2) (Y 3) X9 X10 X11 ht.hN ?_ ?_ ht.hS ?_ ?_
  · rw [hc]; exact ht.hT _ hlt
  · rw [hc]; exact ht.hE _ hlt
  · rw [hc]; intro hw h0 he
    obtain ⟨t', h1, h2⟩ := back _ h0 rfl
    have e : tE pf t'.val = tE pf t.val := by rw [h1]; exact he
    have f := (hX t' h2 (by have : t.val < (tN pf).toNat := hw
                            omega)).1
    rw [blk_congr m pf hok c 1 t' t (by rw [index1, index1, e]), blk_congr m pf hok c 2 t' t (by rw [index2, index2, e])] at f
    rw [rdat_in m pf hok Λ c 1 (by decide) t _ (hY 1), rdat_in m pf hok Λ c 2 (by decide) t _ (hY 2)]
    exact f
  · rw [hc]; intro hw h0 he
    obtain ⟨t', h1, h2⟩ := back _ h0 rfl
    have e : tT pf t'.val = tT pf t.val := by rw [h1]; exact he
    have f := (hX t' h2 (by have : t.val < (tN pf).toNat := hw
                            omega)).2
    rw [blk_congr m pf hok c 0 t' t (by rw [index0, index0, e])] at f
    rw [rdat_in m pf hok Λ c 0 (by decide) t _ (hY 0)]
    exact f

variable {pf} in
/-- What the kernel leaves at a point is what the run's data say of the next. -/
theorem finish (c : Dev nD) (t : Fin (cfgK pf hok).N) (ht : TabOK pf) (Y : (w : Fin 4) → ((cfgK pf hok).win w).block.Idx → Elt F ((cfgK pf hok).win w).elt)
    (hY : ∀ w : Fin 4, (rdat m pf hok Λ c).Finds w t (Y w)) :
    iprop(Left Λ c ((cfgK pf hok).grid.coords t) (spec0_0.stage ((cfgK pf hok).slots t 0)) (spec0_1.stage ((cfgK pf hok).slots t 1)) (spec0_2.stage ((cfgK pf hok).slots t 2)) (spec0_3.stage ((cfgK pf hok).slots t 3)) (pf 0) (pf 1) (pf 2) (pf 3) (Y 0) (Y 1) (Y 2) (Y 3)
        ∗ (∃ r, prngReg c r) ∗ (rdat m pf hok Λ c).owesAt () t.castSucc)
      ⊢ (iprop(((∃ X9 X10 X11, ⌜∀ t' : Fin (cfgK pf hok).N, t'.val + 1 = t.val + 1 → t'.val < (tN pf).toNat →
            Filled Λ (blkK m pf hok c 0 t') (blkK m pf hok c 1 t') (blkK m pf hok c 2 t') X9 X10 X11⌝ ∗ Scr (F := F) c X9 X10 X11)
          ∗ (∃ r, prngReg c r) ∗ Tabs (F := F) c (pf 0) (pf 1) (pf 2) (pf 3))
        ∗ (rdat m pf hok Λ c).owesAt () t.castSucc
        ∗ (∃ X, ⌜(rdat m pf hok Λ c).after 0 t (Y 0) X⌝ ∗ owns (c : Thread nD τ) (spec0_0.stage ((cfgK pf hok).slots t 0)) fullShare X)
        ∗ (∃ X, ⌜(rdat m pf hok Λ c).after 1 t (Y 1) X⌝ ∗ owns (c : Thread nD τ) (spec0_1.stage ((cfgK pf hok).slots t 1)) fullShare X)
        ∗ (∃ X, ⌜(rdat m pf hok Λ c).after 2 t (Y 2) X⌝ ∗ owns (c : Thread nD τ) (spec0_2.stage ((cfgK pf hok).slots t 2)) fullShare X)
        ∗ (∃ X, ⌜(rdat m pf hok Λ c).after 3 t (Y 3) X⌝ ∗ owns (c : Thread nD τ) (spec0_3.stage ((cfgK pf hok).slots t 3)) fullShare X)) : sProp 𝕄G) := by
  have hc := coord_eq pf hok t
  have y0 := rdat_in m pf hok Λ c 0 (by decide) t _ (hY 0)
  have y1 := rdat_in m pf hok Λ c 1 (by decide) t _ (hY 1)
  have y2 := rdat_in m pf hok Λ c 2 (by decide) t _ (hY 2)
  unfold Left
  rw [hc]
  iintro ⟨⟨HT, H0, H1, H2, ⟨%X, %hs, H3⟩, ⟨%X9, %X10, %X11, %hf, HS⟩⟩, Hr, HW⟩
  isplitl [HT Hr HS]
  · isplitl [HS]
    · iexists X9; iexists X10; iexists X11
      isplitr
      · ipureintro
        intro t' h1 h2
        have e : t' = t := Fin.ext (by omega)
        subst e
        rw [← y0, ← y1, ← y2]
        exact hf h2
      · iexact HS
    isplitl [Hr]; · iexact Hr
    iexact HT
  isplitl [HW]; · iexact HW
  isplitl [H0]
  · iexists Y 0; isplitr; · ipureintro; rfl
    iexact H0
  isplitl [H1]
  · iexists Y 1; isplitr; · ipureintro; rfl
    iexact H1
  isplitl [H2]
  · iexists Y 2; isplitr; · ipureintro; rfl
    iexact H2
  iexists X
  isplitr
  · ipureintro
    show Step Λ _ _ _ _ (blkK m pf hok c 0 t) (blkK m pf hok c 1 t) (blkK m pf hok c 2 t) (Y 3) X
    rw [← y0, ← y1, ← y2]
    exact hs
  iexact H3

variable {pf} in
set_option backward.isDefEq.respectTransparency.types false in
theorem body_obligation (ht : TabOK pf) (c : Dev nD) : (rdat m pf hok Λ c).BodyObligation (defs₀ (F := F)) Variants.none () Set.univ := fun t Y hY => by
  rw [bigSep_W0, bigSep_W0]
  rw [show (rdat m pf hok Λ c).Φ t.castSucc = iprop((∃ X9 X10 X11, ⌜∀ t' : Fin (cfgK pf hok).N, t'.val + 1 = t.val → t'.val < (tN pf).toNat →
      Filled Λ (blkK m pf hok c 0 t') (blkK m pf hok c 1 t') (blkK m pf hok c 2 t') X9 X10 X11⌝ ∗ Scr (F := F) c X9 X10 X11)
      ∗ (∃ r, prngReg c r) ∗ ΦT pre0 pf c) from rfl,
    show (rdat m pf hok Λ c).Φ t.succ = iprop((∃ X9 X10 X11, ⌜∀ t' : Fin (cfgK pf hok).N, t'.val + 1 = t.val + 1 → t'.val < (tN pf).toNat →
      Filled Λ (blkK m pf hok c 0 t') (blkK m pf hok c 1 t') (blkK m pf hok c 2 t') X9 X10 X11⌝ ∗ Scr (F := F) c X9 X10 X11)
      ∗ (∃ r, prngReg c r) ∗ ΦT pre0 pf c) from rfl, tabs_eq]
  rw [show (rdat m pf hok Λ c).owesAt () t.succ = (rdat m pf hok Λ c).owesAt () t.castSucc from rfl]
  iintro ⟨⟨⟨%X9, %X10, %X11, %hX, HS⟩, Hr, HT⟩, HW, H0, H1, H2, H3⟩
  iapply (wp_mono frame (wpE (defs₀ (F := F)) Variants.none (c : Thread nD τ) none) Set.univ (fun _ => finish m hok Λ c t ht Y hY))
  iapply (wp_frame_r frame (wpE (defs₀ (F := F)) Variants.none (c : Thread nD τ) none) Set.univ)
  isplitl [HS HT H0 H1 H2 H3]
  · iapply (point_at m hok Λ c t ht Y hY X9 X10 X11 hX)
    isplitl [HT]; · iexact HT
    isplitl [H0]; · iexact H0
    isplitl [H1]; · iexact H1
    isplitl [H2]; · iexact H2
    isplitl [H3]; · iexact H3
    iexact HS
  · isplitl [Hr]; · iexact Hr
    iexact HW

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub⟩

theorem opss_fresh : (opss (F := F)).Forall fun ops => ops.Forall fun op => op.fresh = ∅ := by
  refine ⟨?_, ?_, ?_, ?_, ?_, ?_, ?_, ?_, ?_, ?_⟩ <;> (repeat' apply And.intro) <;> rfl

variable {pf} in
/-- The run: from tables that name tiles, experts and rows, the program ends with the output array where the points'
    steps lead, and every other buffer as the host's operations left it. -/
theorem run (ht : TabOK pf) (hV : ∀ (c : Dev nD) k, Vk m c (pre0.ref k) = pf k) :
    θ_run defs (onTc (τ := τ) (main (F := F))) (s₀ m g)
      (fun r => RDat.FramePost (cfgK pf hok) (rdat m pf hok Λ) (Vk m) r ∧ r.2.sem = fun _ => 0) :=
  RDat.θ_run_frameP_track (pcfgs (F := F)) (adm pf hok) 0 launch0 (defs₀ (F := F)) Variants.none (rdat m pf hok Λ) m g main
    (hbody := fun c => body_obligation m hok Λ ht c)
    (hshare := fun c w => by fin_cases w <;> rfl)
    (howed := fun _ _ => rfl) (V := Vk m)
    (hmain := Pipeline.hmainP_prefixes (pcfgs (F := F)) 0 (defs₀ (F := F)) Variants.none m main opss opss_sub opss_fresh (fun c => main_chain c))
    (hA := fun _ _ => rfl) (hpf := hV)
    (Q' := fun r => RDat.FramePost (cfgK pf hok) (rdat m pf hok Λ) (Vk m) r ∧ r.2.sem = fun _ => 0) (hQ' := fun _ h => h)
    (hin := fun c => by
      show iprop(ΦA spec0 c ∗ ΦT pre0 pf c) ⊢ (iprop((∃ X9 X10 X11, ⌜∀ t' : Fin (cfgK pf hok).N, t'.val + 1 = 0 → t'.val < (tN pf).toNat →
          Filled Λ (blkK m pf hok c 0 t') (blkK m pf hok c 1 t') (blkK m pf hok c 2 t') X9 X10 X11⌝ ∗ Scr (F := F) c X9 X10 X11)
          ∗ (∃ r, prngReg c r) ∗ ΦT pre0 pf c) : sProp 𝕄G)
      unfold ΦA
      rw [scopedRest0_eq]
      iintro ⟨⟨⟨⟨%X9, H9⟩, ⟨%X10, H10⟩, ⟨%X11, H11⟩⟩, Hr⟩, HT⟩
      isplitl [H9 H10 H11]
      · iexists X9; iexists X10; iexists X11
        isplitr
        · ipureintro; intro t' h; omega
        isplitl [H9]; · iexact H9
        isplitl [H10]; · iexact H10
        iexact H11
      isplitl [Hr]; · iexact Hr
      iexact HT)
    (hout := fun c => by
      show (iprop((∃ X9 X10 X11, ⌜∀ t' : Fin (cfgK pf hok).N, t'.val + 1 = (cfgK pf hok).N → t'.val < (tN pf).toNat →
          Filled Λ (blkK m pf hok c 0 t') (blkK m pf hok c 1 t') (blkK m pf hok c 2 t') X9 X10 X11⌝ ∗ Scr (F := F) c X9 X10 X11)
          ∗ (∃ r, prngReg c r) ∗ ΦT pre0 pf c) : sProp 𝕄G) ⊢ ΦA spec0 c
      unfold ΦA
      rw [scopedRest0_eq]
      iintro ⟨⟨%X9, %X10, %X11, %hX, H9, H10, H11⟩, Hr, HT⟩
      isplitr [Hr]
      · isplitl [H9]; · iexists X9; iexact H9
        isplitl [H10]; · iexists X10; iexact H10
        iexists X11; iexact H11
      iexact Hr)

end Cert.Kernel.Gen
end
-- ==== Proof.Bits.Tables.lean ====
module

public import proofs.«01_k».proof.Proof.Bits.Run

public import proofs.«01_k».proof.Proof.My.Sched
public import Idealize.ShloMosaic.Lib.StableHlo.ReadAt
public import Idealize.ShloMosaic.Lib.Routing.Ops
public import Idealize.ShloMosaic.Lib.Routing.OpsSet
public import Idealize.ShloMosaic.Lib.Routing.OpsSearch

@[expose] public section

set_option maxRecDepth 8192

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open Idealize.ShloMosaic.Routing
open Idealize.ShloMosaic.StableHlo (after)
open Cert.Sched (S Fr C Vv nn Ex Ti)

/-- jnp's running sum of sixteen words. -/
theorem csum (x : S16.Idx → BitVec 32) (f : ℕ → ℕ) (hx : ∀ k < 16, wd (n := 16) x k = BitVec.ofNat 32 (f k)) (i : S16.Idx) :
    Host.reduceWindow IntOp.addi ![16] ![1] ![15] ![0] x (broadcastInDim S_ ![] bcast_S_S_ (constantI S_ 32 0#32)) reduceWindows_S16_S16_w16s1p15_0 h_S_ i
      = BitVec.ofNat 32 ((List.range ((i 0).val + 1)).map f).sum := by
  have h := cumsum1 (N := 16) (Nm1 := 15) rfl x f (fun i => (wd_of_idx x (ValueIdx.ix1 i) i.val rfl).trans (hx _ i.isLt))
    (broadcastInDim S_ ![] bcast_S_S_ (constantI S_ 32 0#32)) rfl reduceWindows_S16_S16_w16s1p15_0 h_S_ (i 0)
  have hi : ValueIdx.ix1 (i 0) = i := by funext a; match a with | ⟨0, _⟩ => rfl
  exact (congrArg _ hi.symm).trans h

/-- jnp's floor division by 256 as it prints, on a word that holds a natural. -/
theorem floordiv (x : BitVec 32) (a : ℕ) (ha : a < 2 ^ 31) (hx : x = BitVec.ofNat 32 a) :
    Scalar.select
      (IntOp.andi
        (IntOp.cmpi CmpIPredicate.ne (if x = 0 then 0 else if BitVec.msb x = true then -1 else 1)
          (if (256#32 : BitVec 32) = 0 then 0 else if BitVec.msb (256#32 : BitVec 32) = true then -1 else 1 : BitVec 32))
        (IntOp.cmpi CmpIPredicate.ne (IntOp.remsi ArithUnit.host x 256#32) 0#32))
      (IntOp.subi (IntOp.divsi ArithUnit.host x 256#32) 1#32)
      (IntOp.divsi ArithUnit.host x 256#32) = BitVec.ofNat 32 (a / 256) := by
  exact pyDiv0_ap (fun _ => x) (fun _ => 256#32) (a := a) (b := 256) hx rfl ha (by norm_num) (by norm_num)

theorem wd_idx (X : S16.Idx → BitVec 32) (i : S16.Idx) : X i = wd (n := 16) X (i 0).val := wd_of_idx X i _ rfl

theorem wd_ext {n : ℕ} (X : (⟨1, ![n]⟩ : Shape).Idx → BitVec 32) (g : ℕ → BitVec 32) (h : ∀ i, X i = g (i 0).val) (k : ℕ) (hk : k < n) : wd X k = g k := by
  have := wd_of_idx X (ValueIdx.ix1 ⟨k, hk⟩) k rfl
  rw [← this, h]
  rfl

theorem sgt_iff (a b : ℕ) (ha : a < 2 ^ 31) (hb : b < 2 ^ 31) : IntOp.cmpi CmpIPredicate.sgt (BitVec.ofNat 32 a) (BitVec.ofNat 32 b) = 1#1 ↔ b < a := by
  show BitVec.ofBool ((BitVec.ofNat 32 b).slt (BitVec.ofNat 32 a)) = 1#1 ↔ _
  rw [slt_ofNat32 hb ha]
  by_cases h : b < a <;> simp [h]
theorem slt_iff (a b : ℕ) (ha : a < 2 ^ 31) (hb : b < 2 ^ 31) : IntOp.cmpi CmpIPredicate.slt (BitVec.ofNat 32 a) (BitVec.ofNat 32 b) = 1#1 ↔ a < b := by
  show BitVec.ofBool ((BitVec.ofNat 32 a).slt (BitVec.ofNat 32 b)) = 1#1 ↔ _
  rw [slt_ofNat32 ha hb]
  by_cases h : a < b <;> simp [h]
theorem sge_iff (a b : ℕ) (ha : a < 2 ^ 31) (hb : b < 2 ^ 31) : IntOp.cmpi CmpIPredicate.sge (BitVec.ofNat 32 a) (BitVec.ofNat 32 b) = 1#1 ↔ b ≤ a := by
  show BitVec.ofBool ((BitVec.ofNat 32 b).sle (BitVec.ofNat 32 a)) = 1#1 ↔ _
  rw [BitVec.sle_eq_not_slt, slt_ofNat32 ha hb]
  by_cases h : a < b
  · simp [h]
  · simp [h]; omega

section Stages
variable (V : Valuation τ sig (Elt F)) (f : ℕ → ℕ)

theorem stage_v1 (hf : ∀ k < 16, wd (n := 16) (V main_arg1) k = BitVec.ofNat 32 (f k)) (i : S16.Idx) :
    after (hostOps0 ++ hostOps0_1) V main_v1 i = BitVec.ofNat 32 (S f ((i 0).val + 1)) := by
  after_reads_at
  exact csum _ f hf i

theorem stage_v0 (i : S1.Idx) : after (hostOps0 ++ hostOps0_1) V main_v0 i = 0#32 := by
  after_reads_at

theorem stage_v2 (h0 : ∀ i : S1.Idx, V main_v0 i = 0#32) (h1 : ∀ i : S16.Idx, V main_v1 i = BitVec.ofNat 32 (S f ((i 0).val + 1))) (i : S17.Idx) :
    after hostOps0_2 V main_v2 i = BitVec.ofNat 32 (S f (i 0).val) := by
  after_reads_at
  by_cases h : (i 0).val < 1
  · refine (dif_pos h).trans ((h0 _).trans ?_)
    have : (i 0).val = 0 := by omega
    rw [this]
    rfl
  · refine (dif_neg h).trans ((h1 _).trans ?_)
    show BitVec.ofNat 32 (S f ((i 0).val - 1 + 1)) = _
    rw [Nat.sub_add_cancel (by omega)]
theorem stage_v3 (h0 : ∀ i : S1.Idx, V main_v0 i = 0#32) (h1 : ∀ i : S16.Idx, V main_v1 i = BitVec.ofNat 32 (S f ((i 0).val + 1))) (i : S16.Idx) :
    after hostOps0_2 V main_v3 i = BitVec.ofNat 32 (S f (i 0).val) := by
  after_reads_at
  by_cases h : (i 0).val < 1
  · refine (dif_pos h).trans ((h0 _).trans ?_)
    have : (i 0).val = 0 := by omega
    rw [this]
    rfl
  · refine (dif_neg h).trans ((h1 _).trans ?_)
    show BitVec.ofNat 32 (S f ((i 0).val - 1 + 1)) = _
    rw [Nat.sub_add_cancel (by omega)]
theorem stage_c0 (i : S_.Idx) : after hostOps0_2 V main_c_0 i = 256#32 := by
  after_reads_at
theorem stage_v4 (hS : ∀ e ≤ 16, S f e ≤ 24576) (h0 : ∀ i : S_.Idx, V main_c_0 i = 256#32) (h1 : ∀ i : S16.Idx, V main_v3 i = BitVec.ofNat 32 (S f (i 0).val)) (i : S16.Idx) :
    after hostOps0_3 V main_v4 i = BitVec.ofNat 32 (Fr f (i 0).val) := by
  after_reads_at
  simp only [id, h0]
  exact floordiv _ _ (by have := hS (i 0).val (i 0).isLt.le; omega) (h1 i)
theorem stage_v10 (hS : ∀ e ≤ 16, S f e ≤ 24576) (h1 : ∀ i : S17.Idx, V main_v2 i = BitVec.ofNat 32 (S f (i 0).val)) (i : S16.Idx) :
    after (hostOps0_4 ++ hostOps0_5) V main_v10 i = BitVec.ofNat 32 ((S f ((i 0).val + 1) + 255) / 256) := by
  after_reads_at
  refine floordiv _ _ (by have := hS ((i 0).val + 1) (i 0).isLt; omega) ?_
  have e := h1 (Idealize.ShloMosaic.ix1 ⟨1 + (i 0).val, by have := (i 0).isLt; change (i 0).val < 16 at this; omega⟩)
  unfold IntOp.subi IntOp.addi
  refine (congrArg (fun w : BitVec 32 => w + 256#32 - 1#32) e).trans ?_
  show BitVec.ofNat 32 (S f (1 + (i 0).val)) + 256#32 - 1#32 = _
  rw [Nat.add_comm 1]
  apply BitVec.eq_of_toNat_eq
  have := hS ((i 0).val + 1) (i 0).isLt
  simp only [BitVec.toNat_sub, BitVec.toNat_add, BitVec.toNat_ofNat]
  omega
theorem stage_v14 (hf : ∀ k < 16, wd (n := 16) (V main_arg1) k = BitVec.ofNat 32 (f k)) (hS : ∀ e ≤ 16, S f e ≤ 24576)
    (h4 : ∀ i : S16.Idx, V main_v4 i = BitVec.ofNat 32 (Fr f (i 0).val))
    (h10 : ∀ i : S16.Idx, V main_v10 i = BitVec.ofNat 32 ((S f ((i 0).val + 1) + 255) / 256)) (i : S16.Idx) :
    after (hostOps0_6 ++ hostOps0_7) V main_v14 i = BitVec.ofNat 32 (C f (i 0).val) := by
  after_reads_at
  have hi : (i 0).val < 16 := (i 0).isLt
  have e1 := (wd_idx (V main_arg1) i).trans (hf (i 0).val hi)
  have s0 := hS (i 0).val hi.le
  have s1 := hS ((i 0).val + 1) hi
  have s2 := Cert.Sched.S_succ f (i 0).val
  have hsgt : IntOp.cmpi CmpIPredicate.sgt (V main_arg1 i) 0#32 = 1#1 ↔ 0 < f (i 0).val := by
    refine (iff_of_eq (congrArg (fun w : BitVec 32 => IntOp.cmpi CmpIPredicate.sgt w 0#32 = 1#1) e1)).trans ?_
    exact sgt_iff _ 0 (by omega) (by norm_num)
  unfold C Scalar.select
  by_cases hf : 0 < f (i 0).val
  · rw [if_pos hf]
    refine (if_pos (hsgt.mpr hf)).trans ?_
    refine (congrArg₂ (fun a b : BitVec 32 => a - b) (h10 i) (h4 i)).trans ?_
    apply BitVec.eq_of_toNat_eq
    simp only [BitVec.toNat_sub, BitVec.toNat_ofNat, Fr]
    omega
  · rw [if_neg hf]
    exact if_neg (fun hh => hf (hsgt.mp hh))
theorem stage_v15 (h14 : ∀ i : S16.Idx, V main_v14 i = BitVec.ofNat 32 (C f (i 0).val)) (i : S16.Idx) :
    after (hostOps0_8) V main_v15 i = BitVec.ofNat 32 (Vv f ((i 0).val + 1)) := by
  after_reads_at
  exact csum _ (C f) (wd_ext _ _ h14) i

theorem stage_v46 (h15 : ∀ i : S16.Idx, V main_v15 i = BitVec.ofNat 32 (Vv f ((i 0).val + 1))) (i : S1.Idx) :
    after (hostOps0_9) V main_v46 i = BitVec.ofNat 32 (Vv f 16) := by
  after_reads_at
  exact h15 _

/-- The visit of each point, as the host computes it. -/
def vis (x : S16.Idx → BitVec 32) : S111.Idx → BitVec 32 :=
  minsi (iotaInDim S111 32 0) (broadcastInDim S111 ![] bcast_S_S111 (subi (shapeCast S_ (extractStridedSlice S1 ![15] x slices_S16_S1_15) shapeCasts_S1_S_) (constantI S_ 32 1#32)))
/-- The expert of each point, as the host computes it. -/
def exn (x : S16.Idx → BitVec 32) : S111.Idx → BitVec 32 :=
  Host.reduce IntOp.addi (extui 32 (cmpi CmpIPredicate.sge (broadcastInDim S111x16 ![0, 1] bcast_S111x1_S111x16_0_1 (broadcastInDim S111x1 ![0] bcast_S111_S111x1_0 (vis x)))
    (broadcastInDim S111x16 ![0, 1] bcast_S1x16_S111x16_0_1 (broadcastInDim S1x16 ![1] bcast_S16_S1x16_1 x))) natLt_1_32) (constantI S_ 32 0#32) reducesTo_S111x16_S111_d1 h_S_
/-- The gathers' indices: the expert, wrapped as jnp wraps an index. -/
def gix (x : S16.Idx → BitVec 32) : S111x1.Idx → BitVec 32 :=
  broadcastInDim S111x1 ![0] bcast_S111_S111x1_0 (select (cmpi CmpIPredicate.slt (exn x) (broadcastInDim S111 ![] bcast_S_S111 (constantI S_ 32 0#32)))
    (addi (exn x) (broadcastInDim S111 ![] bcast_S_S111 (constantI S_ 32 16#32))) (exn x))

theorem term_v28 : after hostOps0_9 V main_v28 = exn (V main_v15) := by
  after_reads_simp
  rfl
theorem term_v45 : after hostOps0_9 V main_v45 = subi (addi (Host.gather gather_S16_S111x1_S111_n_0_n_n_0_1_1 (V main_v4) (gix (V main_v15))) (vis (V main_v15)))
    (Host.gather gather_S16_S111x1_S111_n_0_n_n_0_1_1 (subi (V main_v15) (V main_v14)) (gix (V main_v15))) := by
  after_reads_simp
  rfl

theorem vis_at (hp : 0 < Vv f 16 ∧ Vv f 16 ≤ 111) (x : S16.Idx → BitVec 32) (h : ∀ i, x i = BitVec.ofNat 32 (Vv f ((i 0).val + 1))) (i : S111.Idx) : vis x i = BitVec.ofNat 32 (nn f (i 0).val) := by
  unfold vis
  pointwise
  have hi : (i 0).val < 111 := (i 0).isLt
  rw [h]
  have e : IntOp.subi (BitVec.ofNat 32 (Vv f 16)) 1#32 = BitVec.ofNat 32 (Vv f 16 - 1) := by
    unfold IntOp.subi
    apply BitVec.eq_of_toNat_eq
    simp only [BitVec.toNat_sub, BitVec.toNat_ofNat]
    omega
  refine (congrArg (IntOp.minsi (BitVec.ofNat 32 (i 0).val)) e).trans ?_
  unfold IntOp.minsi nn
  rw [slt_ofNat32 (by omega) (by omega)]
  by_cases hlt : (i 0).val < Vv f 16 - 1
  · rw [if_pos (by simpa using hlt), Nat.min_eq_left hlt.le]
  · rw [if_neg (by simpa using hlt), Nat.min_eq_right (by omega)]
theorem exn_at (hok : Cert.Sched.OK (Ti f) (Ex f) (S f) (Vv f 16)) (x : S16.Idx → BitVec 32) (h : ∀ i, x i = BitVec.ofNat 32 (Vv f ((i 0).val + 1))) (i : S111.Idx) : exn x i = BitVec.ofNat 32 (Ex f (i 0).val) := by
  have hc := reduce_count (n := 111) (m := 16) (by norm_num) (cmpi CmpIPredicate.sge (broadcastInDim S111x16 ![0, 1] bcast_S111x1_S111x16_0_1 (broadcastInDim S111x1 ![0] bcast_S111_S111x1_0 (vis x)))
    (broadcastInDim S111x16 ![0, 1] bcast_S1x16_S111x16_0_1 (broadcastInDim S1x16 ![1] bcast_S16_S1x16_1 x))) natLt_1_32 reducesTo_S111x16_S111_d1 h_S_ (i 0) (fun e => Vv f (e + 1) ≤ nn f (i 0).val) (fun q => by
      have e1 := bcRows bcast_S111_S111x1_0 bcast_S111x1_S111x16_0_1 (vis x) (i 0) q
      have e2 := bcCols bcast_S16_S1x16_1 bcast_S1x16_S111x16_0_1 x (i 0) q
      have hle := Cert.Sched.Vv_mono f (by have := q.isLt; omega : q.val + 1 ≤ 16)
      have hle2 : Vv f 16 ≤ 111 := hok.le
      refine (iff_of_eq (congrArg₂ (fun a b : BitVec 32 => IntOp.cmpi CmpIPredicate.sge a b = 1#1) (e1.trans (vis_at f ⟨hok.pos, hok.le⟩ x h _)) (e2.trans (h _)))).trans ?_
      exact sge_iff _ _ (by show min _ _ < _; omega) (by show Vv f (q.val + 1) < _; omega))
  have hi : ValueIdx.ix1 (i 0) = i := by funext a; match a with | ⟨0, _⟩ => rfl
  exact (congrArg (exn x) hi.symm).trans hc
theorem gix_at (hok : Cert.Sched.OK (Ti f) (Ex f) (S f) (Vv f 16)) (x : S16.Idx → BitVec 32) (h : ∀ i, x i = BitVec.ofNat 32 (Vv f ((i 0).val + 1))) (i : S111x1.Idx) : gix x i = BitVec.ofNat 32 (Ex f (i 0).val) := by
  unfold gix
  pointwise
  rw [exn_at f hok x h]
  have := hok.hE (i 0).val (i 0).isLt
  refine if_neg (fun hh => ?_)
  have := (slt_iff _ 0 (by show Ex f (i 0).val < _; omega) (by norm_num)).mp hh
  omega

theorem stage_v28 (hok : Cert.Sched.OK (Ti f) (Ex f) (S f) (Vv f 16)) (h15 : ∀ i : S16.Idx, V main_v15 i = BitVec.ofNat 32 (Vv f ((i 0).val + 1))) (i : S111.Idx) :
    after (hostOps0_9) V main_v28 i = BitVec.ofNat 32 (Ex f (i 0).val) := by
  rw [term_v28]
  exact exn_at f hok _ h15 i
theorem stage_v45 (hsum : S f 16 = 24576) (h15 : ∀ i : S16.Idx, V main_v15 i = BitVec.ofNat 32 (Vv f ((i 0).val + 1)))
    (h14 : ∀ i : S16.Idx, V main_v14 i = BitVec.ofNat 32 (C f (i 0).val)) (h4 : ∀ i : S16.Idx, V main_v4 i = BitVec.ofNat 32 (Fr f (i 0).val)) (i : S111.Idx) :
    after (hostOps0_9) V main_v45 i = BitVec.ofNat 32 (Ti f (i 0).val) := by
  have hok := Cert.Sched.ok f hsum
  have hi : ValueIdx.ix1 (i 0) = i := by funext a; match a with | ⟨0, _⟩ => rfl
  have hlt := hok.hE (i 0).val (i 0).isLt
  have g1 := gather_take1 (N := 16) (n := 111) gather_S16_S111x1_S111_n_0_n_n_0_1_1 rfl rfl rfl rfl (V main_v4) (gix (V main_v15)) (i 0) ⟨Ex f (i 0).val, hlt⟩ (gix_at f hok _ h15 _) (by norm_num)
  have g2 := gather_take1 (N := 16) (n := 111) gather_S16_S111x1_S111_n_0_n_n_0_1_1 rfl rfl rfl rfl (subi (V main_v15) (V main_v14)) (gix (V main_v15)) (i 0) ⟨Ex f (i 0).val, hlt⟩ (gix_at f hok _ h15 _) (by norm_num)
  replace g1 := (congrArg (Host.gather gather_S16_S111x1_S111_n_0_n_n_0_1_1 (V main_v4) (gix (V main_v15))) hi.symm).trans g1
  replace g2 := (congrArg (Host.gather gather_S16_S111x1_S111_n_0_n_n_0_1_1 (subi (V main_v15) (V main_v14)) (gix (V main_v15))) hi.symm).trans g2
  have hv := vis_at f ⟨hok.pos, hok.le⟩ (V main_v15) h15 i
  rw [term_v45]
  have e2 : subi (V main_v15) (V main_v14) (ValueIdx.ix1 (n := 16) ⟨Ex f (i 0).val, hlt⟩) = BitVec.ofNat 32 (Vv f (Ex f (i 0).val + 1)) - BitVec.ofNat 32 (C f (Ex f (i 0).val)) :=
    congrArg₂ (fun a b : BitVec 32 => a - b) (h15 _) (h14 _)
  refine (congrArg₂ (fun a b : BitVec 32 => a - b) (congrArg₂ (fun a b : BitVec 32 => a + b) (g1.trans (h4 _)) hv) (g2.trans e2)).trans ?_
  have hsp := Cert.Sched.spec f hsum (i 0).val
  have hsuc := Cert.Sched.Vv_succ f (Ex f (i 0).val)
  have hb : Fr f (Ex f (i 0).val) ≤ 24576 := by unfold Fr; have := hok.hS _ hlt.le; omega
  have hb2 : Vv f (Ex f (i 0).val + 1) ≤ 111 := (Cert.Sched.Vv_mono f (by omega : Ex f (i 0).val + 1 ≤ 16)).trans hok.le
  show BitVec.ofNat 32 (Fr f (Ex f (i 0).val)) + BitVec.ofNat 32 (nn f (i 0).val) - (BitVec.ofNat 32 (Vv f (Ex f (i 0).val + 1)) - BitVec.ofNat 32 (C f (Ex f (i 0).val))) = _
  apply BitVec.eq_of_toNat_eq
  simp only [BitVec.toNat_sub, BitVec.toNat_add, BitVec.toNat_ofNat, Ti]
  omega

/-- The host's operations write none of the arguments. -/
theorem after_arg0 : after (opss (F := F)).flatten V main_arg0 = V main_arg0 := by unfold opss; simp only [List.flatten_cons, List.flatten_nil]; after_reads_simp
theorem after_arg1 : after (opss (F := F)).flatten V main_arg1 = V main_arg1 := by unfold opss; simp only [List.flatten_cons, List.flatten_nil]; after_reads_simp
theorem after_arg2 : after (opss (F := F)).flatten V main_arg2 = V main_arg2 := by unfold opss; simp only [List.flatten_cons, List.flatten_nil]; after_reads_simp
theorem after_arg3 : after (opss (F := F)).flatten V main_arg3 = V main_arg3 := by unfold opss; simp only [List.flatten_cons, List.flatten_nil]; after_reads_simp

/-- The tables the host leaves, from row counts that sum to the number of rows. -/
structure TabsAre (W : Valuation τ sig (Elt F)) : Prop where
  h2 : ∀ i : S17.Idx, W main_v2 i = BitVec.ofNat 32 (S f (i 0).val)
  h28 : ∀ i : S111.Idx, W main_v28 i = BitVec.ofNat 32 (Ex f (i 0).val)
  h45 : ∀ i : S111.Idx, W main_v45 i = BitVec.ofNat 32 (Ti f (i 0).val)
  h46 : ∀ i : S1.Idx, W main_v46 i = BitVec.ofNat 32 (Vv f 16)

theorem tabs_after (hf : ∀ k < 16, wd (n := 16) (V main_arg1) k = BitVec.ofNat 32 (f k)) (hsum : S f 16 = 24576) :
    TabsAre f (after (opss (F := F)).flatten V) := by
  have hok := Cert.Sched.ok f hsum
  have hsplit : after (opss (F := F)).flatten V = after hostOps0_9 (after hostOps0_8 (after (hostOps0_6 ++ hostOps0_7) (after (hostOps0_4 ++ hostOps0_5)
      (after hostOps0_3 (after hostOps0_2 (after (hostOps0 ++ hostOps0_1) V)))))) := by
    rw [← StableHlo.after_append, ← StableHlo.after_append, ← StableHlo.after_append, ← StableHlo.after_append, ← StableHlo.after_append, ← StableHlo.after_append]
    rfl
  rw [hsplit]
  generalize hA : after (hostOps0 ++ hostOps0_1) V = A
  have a0 := stage_v0 V
  have a1 := stage_v1 V f hf
  have ag : A main_arg1 = V main_arg1 := by rw [← hA]; after_reads_simp
  rw [hA] at a0 a1
  generalize hB : after hostOps0_2 A = B
  have b2 := stage_v2 A f a0 a1
  have b3 := stage_v3 A f a0 a1
  have bc := stage_c0 A
  have bg : B main_arg1 = A main_arg1 := by rw [← hB]; after_reads_simp
  rw [hB] at b2 b3 bc
  generalize hC : after hostOps0_3 B = D
  have d4 := stage_v4 B f hok.hS bc b3
  have d2 : D main_v2 = B main_v2 := by rw [← hC]; after_reads_simp
  have dg : D main_arg1 = B main_arg1 := by rw [← hC]; after_reads_simp
  rw [hC] at d4
  rw [← d2] at b2
  generalize hE : after (hostOps0_4 ++ hostOps0_5) D = E
  have e10 := stage_v10 D f hok.hS b2
  have e2 : E main_v2 = D main_v2 := by rw [← hE]; after_reads_simp
  have e4 : E main_v4 = D main_v4 := by rw [← hE]; after_reads_simp
  have eg : E main_arg1 = D main_arg1 := by rw [← hE]; after_reads_simp
  rw [hE] at e10
  rw [← e2] at b2
  rw [← e4] at d4
  have fg : ∀ k < 16, wd (n := 16) (E main_arg1) k = BitVec.ofNat 32 (f k) := by rw [eg, dg, bg, ag]; exact hf
  generalize hG : after (hostOps0_6 ++ hostOps0_7) E = G
  have g14 := stage_v14 E f fg hok.hS d4 e10
  have g2 : G main_v2 = E main_v2 := by rw [← hG]; after_reads_simp
  have g4 : G main_v4 = E main_v4 := by rw [← hG]; after_reads_simp
  rw [hG] at g14
  rw [← g2] at b2
  rw [← g4] at d4
  generalize hH : after hostOps0_8 G = H
  have h15 := stage_v15 G f g14
  have h2 : H main_v2 = G main_v2 := by rw [← hH]; after_reads_simp
  have h4 : H main_v4 = G main_v4 := by rw [← hH]; after_reads_simp
  have h14 : H main_v14 = G main_v14 := by rw [← hH]; after_reads_simp
  rw [hH] at h15
  rw [← h2] at b2
  rw [← h4] at d4
  rw [← h14] at g14
  refine ⟨?_, stage_v28 H f hok h15, stage_v45 H f hsum h15 g14 d4, stage_v46 H f h15⟩
  have k2 : after hostOps0_9 H main_v2 = H main_v2 := by after_reads_simp
  rw [k2]
  exact b2

end Stages

end Cert.Kernel.Gen
end
-- ==== Proof.Bits.Frame.lean ====
/- The kernel's program runs on the tables its host computes, and leaves its arguments as they were. -/
module

public import proofs.«01_k».proof.Proof.Bits.Tables
public import proofs.«01_k».proof.Proof.My.Counts
public import Idealize.ShloMosaic.Lib.Affine

@[expose] public section

set_option maxRecDepth 8192

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (RDat Cfg ΦA ΦT prefHeld)

variable {F : FTy → Type} [FloatOps F]
variable (m : (ℓ : Loc nD τ sig) → Buf (Elt F) ℓ) (g : Dev nD → PrngReg)

/-- The tables the host hands the kernel. -/
def pfK : pre0.Contents (Elt F) := fun k => Vk m 0 (pre0.ref k)

/-- The row counts of the one device. -/
abbrev sizesAt : IVec (⟨1, ![16]⟩ : Shape) 32 := m ((0 : Dev nD), main_arg1)

variable {m} {f : ℕ → ℕ} (hf : Cert.Counts.Are (sizesAt m) f)
include hf

theorem tabsAre : TabsAre (F := F) f (StableHlo.after (opss (F := F)).flatten (fun b => m ((0 : Dev nD), b))) :=
  tabs_after (fun b => m ((0 : Dev nD), b)) f (fun k hk => wd_ext (sizesAt m) (fun k => BitVec.ofNat 32 (f k)) hf.at_ k hk) hf.sum

theorem tT_eq (k : ℕ) (hk : k < 111) : tT (pfK m) k = BitVec.ofNat 32 (Cert.Sched.Ti f k) :=
  wd_ext _ (fun k => BitVec.ofNat 32 (Cert.Sched.Ti f k)) (tabsAre hf).h45 k hk
theorem tE_eq (k : ℕ) (hk : k < 111) : tE (pfK m) k = BitVec.ofNat 32 (Cert.Sched.Ex f k) :=
  wd_ext _ (fun k => BitVec.ofNat 32 (Cert.Sched.Ex f k)) (tabsAre hf).h28 k hk
theorem tS_eq (k : ℕ) (hk : k < 17) : tS (pfK m) k = BitVec.ofNat 32 (Cert.Sched.S f k) :=
  wd_ext _ (fun k => BitVec.ofNat 32 (Cert.Sched.S f k)) (tabsAre hf).h2 k hk
theorem tN_eq : tN (pfK m) = BitVec.ofNat 32 (Cert.Sched.Vv f 16) :=
  wd_ext _ (fun _ => BitVec.ofNat 32 (Cert.Sched.Vv f 16)) (tabsAre hf).h46 0 (by decide)

theorem tT_nat (k : ℕ) (hk : k < 111) : (tT (pfK m) k).toNat = Cert.Sched.Ti f k := by
  have := (Cert.Sched.ok f hf.sum).hT k hk
  rw [tT_eq hf k hk, BitVec.toNat_ofNat, Nat.mod_eq_of_lt (by omega)]
theorem tE_nat (k : ℕ) (hk : k < 111) : (tE (pfK m) k).toNat = Cert.Sched.Ex f k := by
  have := (Cert.Sched.ok f hf.sum).hE k hk
  rw [tE_eq hf k hk, BitVec.toNat_ofNat, Nat.mod_eq_of_lt (by omega)]
theorem tS_nat (k : ℕ) (hk : k < 17) : (tS (pfK m) k).toNat = Cert.Sched.S f k := by
  have := (Cert.Sched.ok f hf.sum).hS k (by omega)
  rw [tS_eq hf k hk, BitVec.toNat_ofNat, Nat.mod_eq_of_lt (by omega)]
theorem tN_nat : (tN (pfK m)).toNat = Cert.Sched.Vv f 16 := by
  have := (Cert.Sched.ok f hf.sum).le
  rw [tN_eq hf, BitVec.toNat_ofNat, Nat.mod_eq_of_lt (by omega)]

theorem tabOK : TabOK (pfK m) where
  hN := by rw [tN_nat hf]; exact (Cert.Sched.ok f hf.sum).le
  hT := fun k hk => by rw [tT_nat hf k hk]; exact (Cert.Sched.ok f hf.sum).hT k hk
  hE := fun k hk => by rw [tE_nat hf k hk]; exact (Cert.Sched.ok f hf.sum).hE k hk
  hS := fun e he => by rw [tS_nat hf e (by omega)]; exact (Cert.Sched.ok f hf.sum).hS e he

omit hf in
theorem blk2 {b0 b1 n0 : ℕ} (x : BitVec 32) (v : Fin 2 → ℕ) (e : v = ![x.toNat, 0]) (h : (x.toNat + 1) * b0 ≤ n0) :
    ∀ a, (v a + 1) * (![b0, b1] : Fin 2 → ℕ) a ≤ (![n0, b1] : Fin 2 → ℕ) a := by
  subst e
  intro a
  fin_cases a
  · exact h
  · show (0 + 1) * b1 ≤ b1
    omega
omit hf in
theorem blk3 {b0 b1 b2 n0 : ℕ} (x : BitVec 32) (v : Fin 3 → ℕ) (e : v = ![x.toNat, 0, 0]) (h : (x.toNat + 1) * b0 ≤ n0) :
    ∀ a, (v a + 1) * (![b0, b1, b2] : Fin 3 → ℕ) a ≤ (![n0, b1, b2] : Fin 3 → ℕ) a := by
  subst e
  intro a
  fin_cases a
  · exact h
  · show (0 + 1) * b1 ≤ b1
    omega
  · show (0 + 1) * b2 ≤ b2
    omega

/-- Every block the tables name lies in its array. -/
theorem okK : ok0 (pfK m) := by
  have ht := tabOK hf
  have coord : ∀ i : grid0.Coords, (i 0).val < 111 := fun i => (i 0).isLt
  have eT : ∀ i : grid0.Coords, ![(pfK m 0 ((Rect.unit (s := S111) (k0_off1 i) S1.size (k0_off1_inb i)).emb (Shape.Idx.first (s := S1) (numel1_S1.symm ▸ Nat.one_pos)))).toNat, 0] = ![(tT (pfK m) (i 0).val).toNat, 0] := fun i =>
    congrArg (fun x : BitVec 32 => ![x.toNat, 0]) (tab_at i (pfK m 0) (k0_off1_inb i) _)
  have eE : ∀ i : grid0.Coords, ![(pfK m 1 ((Rect.unit (s := S111) (k0_off1 i) S1.size (k0_off1_inb i)).emb (Shape.Idx.first (s := S1) (numel1_S1.symm ▸ Nat.one_pos)))).toNat, 0, 0] = ![(tE (pfK m) (i 0).val).toNat, 0, 0] := fun i =>
    congrArg (fun x : BitVec 32 => ![x.toNat, 0, 0]) (tab_at i (pfK m 1) (k0_off1_inb i) _)
  refine ⟨fun i => ⟨blk2 _ _ (eT i) ?_, .inr (Affine.block_words_dvd (by decide) (by decide))⟩,
    fun i => ⟨blk3 _ _ (eE i) ?_, .inr (Affine.block_words_dvd (by decide) (by decide))⟩,
    fun i => ⟨blk3 _ _ (eE i) ?_, .inl rfl⟩,
    fun i => ⟨blk2 _ _ (eT i) ?_, .inr (Affine.block_words_dvd (by decide) (by decide))⟩⟩
  · have := ht.hT _ (coord i); omega
  · have := ht.hE _ (coord i); omega
  · have := ht.hE _ (coord i); omega
  · have := ht.hT _ (coord i); omega

/-- The kernel's program runs to its end; what it leaves is what the proof data says. -/
theorem runK (Λ : Laws F) : θ_run defs (onTc (τ := τ) (main (F := F))) ⟨m, fun _ => 0, g⟩
    (fun r => RDat.FramePost (cfgK (pfK m) (okK hf)) (rdat m (pfK m) (okK hf) Λ) (Vk m) r ∧ r.2.sem = fun _ => 0) :=
  run m g (okK hf) Λ (tabOK hf) (fun c k => by obtain rfl : c = 0 := Subsingleton.elim _ _; rfl)

omit hf in
theorem rdat_A0 (m : (ℓ : Loc nD τ sig) → Buf (Elt F) ℓ) (pf : pre0.Contents (Elt F)) (hok : ok0 pf) (Λ : Laws F) (c : Dev nD) : (rdat m pf hok Λ c).A 0 = Vk m c main_arg0 := rfl
omit hf in
theorem rdat_A1 (m : (ℓ : Loc nD τ sig) → Buf (Elt F) ℓ) (pf : pre0.Contents (Elt F)) (hok : ok0 pf) (Λ : Laws F) (c : Dev nD) : (rdat m pf hok Λ c).A 1 = Vk m c main_arg2 := rfl
omit hf in
theorem rdat_A2 (m : (ℓ : Loc nD τ sig) → Buf (Elt F) ℓ) (pf : pre0.Contents (Elt F)) (hok : ok0 pf) (Λ : Laws F) (c : Dev nD) : (rdat m pf hok Λ c).A 2 = Vk m c main_arg3 := rfl
omit hf in
theorem arrs_ne : ∀ w : Fin 4, (spec0 w).arr.view.ref ≠ main_arg1 := by decide
omit hf in
theorem Vk_arg0 (c : Dev nD) : Vk m c main_arg0 = m ((c.tc : Thread nD τ).loc main_arg0) := after_arg0 (fun b => m (c, b))
omit hf in
theorem Vk_arg1 (c : Dev nD) : Vk m c main_arg1 = m ((c.tc : Thread nD τ).loc main_arg1) := after_arg1 (fun b => m (c, b))
omit hf in
theorem Vk_arg2 (c : Dev nD) : Vk m c main_arg2 = m ((c.tc : Thread nD τ).loc main_arg2) := after_arg2 (fun b => m (c, b))
omit hf in
theorem Vk_arg3 (c : Dev nD) : Vk m c main_arg3 = m ((c.tc : Thread nD τ).loc main_arg3) := after_arg3 (fun b => m (c, b))

theorem kept0 (Λ : Laws F) (r : PUnit × MemSt nD τ sig (Elt F)) (h : RDat.FramePost (cfgK (pfK m) (okK hf)) (rdat m (pfK m) (okK hf) Λ) (Vk m) r) (c : Dev nD) :
    r.2.mem ((c.tc : Thread nD τ).loc main_arg0) = m ((c.tc : Thread nD τ).loc main_arg0) := by
  have e := RDat.FramePost.arr_in h c 0 rfl
  exact e.trans ((rdat_A0 m (pfK m) (okK hf) Λ c).trans (Vk_arg0 (m := m) c))
theorem kept2 (Λ : Laws F) (r : PUnit × MemSt nD τ sig (Elt F)) (h : RDat.FramePost (cfgK (pfK m) (okK hf)) (rdat m (pfK m) (okK hf) Λ) (Vk m) r) (c : Dev nD) :
    r.2.mem ((c.tc : Thread nD τ).loc main_arg2) = m ((c.tc : Thread nD τ).loc main_arg2) := by
  have e := RDat.FramePost.arr_in h c 1 rfl
  exact e.trans ((rdat_A1 m (pfK m) (okK hf) Λ c).trans (Vk_arg2 (m := m) c))
theorem kept3 (Λ : Laws F) (r : PUnit × MemSt nD τ sig (Elt F)) (h : RDat.FramePost (cfgK (pfK m) (okK hf)) (rdat m (pfK m) (okK hf) Λ) (Vk m) r) (c : Dev nD) :
    r.2.mem ((c.tc : Thread nD τ).loc main_arg3) = m ((c.tc : Thread nD τ).loc main_arg3) := by
  have e := RDat.FramePost.arr_in h c 2 rfl
  exact e.trans ((rdat_A2 m (pfK m) (okK hf) Λ c).trans (Vk_arg3 (m := m) c))
theorem kept1 (Λ : Laws F) (r : PUnit × MemSt nD τ sig (Elt F)) (h : RDat.FramePost (cfgK (pfK m) (okK hf)) (rdat m (pfK m) (okK hf) Λ) (Vk m) r) (c : Dev nD) :
    r.2.mem ((c.tc : Thread nD τ).loc main_arg1) = m ((c.tc : Thread nD τ).loc main_arg1) :=
  ((h c).2 main_arg1 (Pipeline.mem_restRefs_of main_arg1 (by decide) arrs_ne)).trans (Vk_arg1 (m := m) c)

/-- What the arguments hold at the end. -/
theorem kept (Λ : Laws F) (r : PUnit × MemSt nD τ sig (Elt F)) (h : RDat.FramePost (cfgK (pfK m) (okK hf)) (rdat m (pfK m) (okK hf) Λ) (Vk m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨kept0 hf Λ r h c, kept1 hf Λ r h c, kept2 hf Λ r h c, kept3 hf Λ r h c⟩

/-- The frame: the arguments end unchanged and every semaphore at zero. -/
theorem frameK : θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => kept hf (Laws.trivial F) r h.1 c, h.2⟩) (runK g hf (Laws.trivial F))

end Cert.Kernel.Gen
end
-- ==== Proof.My.Quant.lean ====
/- The quantiser's exponent, over the reals: the count of thresholds below the row's peak over 57344 gives
   a power of two above that quotient, so that no code is clipped. -/
module

public import Idealize.ShloMosaic.PureOps.Ideal
public import Idealize.ShloMosaic.Lib.IdealHost
public import Mathlib.Data.EReal.Basic
public import Mathlib.Data.EReal.Operations
public import Mathlib.Data.Finset.Fold
public import Mathlib.Tactic.NormNum
public import Mathlib.Tactic.Linarith
public import Mathlib.Tactic.Positivity

@[expose] public section

noncomputable section

namespace Cert.Quant

open Idealize.ShloMosaic

/-- The float whose exponent field is `n` and whose fraction is zero. -/
def thr (n : ℕ) : EReal := Ideal.ofBits .f32 (IntOp.shli .vector (BitVec.ofNat 32 n) 23#32)

theorem shl23 (n : ℕ) (h : n < 256) : (IntOp.shli .vector (BitVec.ofNat 32 n) 23#32 : BitVec 32) = BitVec.ofNat 32 (n * 2 ^ 23) := by
  have e : (23#32 : BitVec 32).toNat = 23 := by decide
  unfold IntOp.shli
  rw [if_pos (by rw [e]; decide), BitVec.shiftLeft_eq', e]
  apply BitVec.eq_of_toNat_eq
  rw [BitVec.toNat_shiftLeft, BitVec.toNat_ofNat, BitVec.toNat_ofNat, Nat.shiftLeft_eq, Nat.mod_eq_of_lt (show n < 2 ^ 32 by omega), Nat.mod_eq_of_lt (show n * 2 ^ 23 < 2 ^ 32 by omega)]

theorem thr_eq (n : ℕ) (h : n < 256) : thr n = Ideal.ieee 8 23 (BitVec.ofNat 32 (n * 2 ^ 23)) := by
  unfold thr
  rw [shl23 n h]
  rfl

/-- It is a power of two. -/
theorem thr_val (n : ℕ) (h1 : 1 ≤ n) (h2 : n ≤ 254) : thr n = (((2 : ℝ) ^ ((n : ℤ) - 127) : ℝ) : EReal) := by
  rw [thr_eq n (by omega)]
  have ht : (BitVec.ofNat 32 (n * 2 ^ 23)).toNat = n * 2 ^ 23 := by
    rw [BitVec.toNat_ofNat, Nat.mod_eq_of_lt (by omega)]
  have en : (BitVec.ofNat 32 (n * 2 ^ 23)).extractLsb' (8 + 23) 1 = 0#1 := by
    apply BitVec.eq_of_toNat_eq
    rw [BitVec.extractLsb'_toNat, ht, Nat.shiftRight_eq_div_pow]
    simp only [BitVec.toNat_ofNat]
    omega
  have ee : ((BitVec.ofNat 32 (n * 2 ^ 23)).extractLsb' 23 8).toNat = n := by
    rw [BitVec.extractLsb'_toNat, ht, Nat.shiftRight_eq_div_pow]
    omega
  have ef : ((BitVec.ofNat 32 (n * 2 ^ 23)).extractLsb' 0 23).toNat = 0 := by
    rw [BitVec.extractLsb'_toNat, ht, Nat.shiftRight_eq_div_pow]
    omega
  unfold Ideal.ieee
  simp only [en, ee, ef]
  rw [if_neg (by omega), if_neg (by omega)]
  congr 1
  rw [if_neg (by decide)]
  have : (2 : ℝ) ^ ((n : ℤ) - 127) = 2 ^ (23 : ℤ) * 2 ^ ((n : ℤ) - (2 ^ (8 - 1) - 1) - ((23 : ℕ) : ℤ)) := by
    rw [← zpow_add₀ (by norm_num : (2 : ℝ) ≠ 0)]
    congr 1
    norm_num
  rw [this]
  norm_num

/-- The kernel's constant is not below the 57344th. -/
theorem cst : ∃ c : ℝ, Ideal.ofBits .f32 932333861#32 = ((c : ℝ) : EReal) ∧ 1 / 57344 ≤ c ∧ c ≤ 1 / 32768 := by
  refine ⟨9586981 * 2 ^ (-39 : ℤ), ?_, ?_, ?_⟩
  · show Ideal.ieee 8 23 932333861#32 = _
    unfold Ideal.ieee
    have e1 : ((932333861#32 : BitVec 32).extractLsb' (8 + 23) 1 == 1#1) = false := by decide
    have e2 : ((932333861#32 : BitVec 32).extractLsb' 23 8).toNat = 111 := by decide
    have e3 : ((932333861#32 : BitVec 32).extractLsb' 0 23).toNat = 1198373 := by decide
    simp only [e1, e2, e3]
    norm_num
  · norm_num
  · norm_num

theorem ninf : Ideal.ofBits .f32 4286578688#32 = ⊥ := by
  show Ideal.ieee 8 23 4286578688#32 = _
  unfold Ideal.ieee
  have e1 : ((4286578688#32 : BitVec 32).extractLsb' (8 + 23) 1 == 1#1) = true := by decide
  have e2 : ((4286578688#32 : BitVec 32).extractLsb' 23 8).toNat = 255 := by decide
  have e3 : ((4286578688#32 : BitVec 32).extractLsb' 0 23).toNat = 0 := by decide
  simp only [e1, e2, e3]
  norm_num

theorem small : Ideal.ofBits .f32 8388608#32 = (((2 : ℝ) ^ (-126 : ℤ) : ℝ) : EReal) := by
  have := thr_val 1 (by omega) (by omega)
  unfold thr at this
  exact this

theorem top : Ideal.ofBits .f32 1197473792#32 = ((57344 : ℝ) : EReal) := by
  show Ideal.ieee 8 23 1197473792#32 = _
  unfold Ideal.ieee
  have e1 : ((1197473792#32 : BitVec 32).extractLsb' (8 + 23) 1 == 1#1) = false := by decide
  have e2 : ((1197473792#32 : BitVec 32).extractLsb' 23 8).toNat = 142 := by decide
  have e3 : ((1197473792#32 : BitVec 32).extractLsb' 0 23).toNat = 6291456 := by decide
  simp only [e1, e2, e3]
  norm_num

theorem bot : Ideal.ofBits .f32 3344957440#32 = ((-57344 : ℝ) : EReal) := by
  show Ideal.ieee 8 23 3344957440#32 = _
  unfold Ideal.ieee
  have e1 : ((3344957440#32 : BitVec 32).extractLsb' (8 + 23) 1 == 1#1) = true := by decide
  have e2 : ((3344957440#32 : BitVec 32).extractLsb' 23 8).toNat = 142 := by decide
  have e3 : ((3344957440#32 : BitVec 32).extractLsb' 0 23).toNat = 6291456 := by decide
  simp only [e1, e2, e3]
  norm_num

/-- Ones and zeros added up: how many ones. -/
theorem fold_count {n : ℕ} (P : Fin n → Prop) [DecidablePred P] (b : Fin n → BitVec 32) (hb : ∀ k, b k = if P k then 1#32 else 0#32)
    (s : Finset (Fin n)) : Finset.fold IntOp.addi (0#32) b s = BitVec.ofNat 32 (s.filter P).card := by
  induction s using Finset.induction_on with
  | empty => rfl
  | insert a s ha ih =>
    rw [Finset.fold_insert ha, ih, hb, Finset.filter_insert]
    by_cases hp : P a
    · rw [if_pos hp, if_pos hp, Finset.card_insert_of_notMem (fun h => ha (Finset.mem_filter.1 h).1)]
      show (1#32 : BitVec 32) + _ = _
      rw [Nat.add_comm, BitVec.ofNat_add]
    · rw [if_neg hp, if_neg hp]
      show (0#32 : BitVec 32) + _ = _
      rw [BitVec.zero_add]

/-- How many thresholds from `2 ^ (-126)` up are not above `r`. -/
def cnt (r : ℝ) : Finset (Fin 256) := Finset.univ.filter (fun k => 0 < k.val ∧ ¬ ((r : EReal) < thr k.val))

theorem cnt_le (r : ℝ) (hr : r < 2 ^ (120 : ℤ)) : (cnt r).card ≤ 246 := by
  have h : (cnt r).map Fin.valEmbedding ⊆ Finset.Icc 1 246 := by
    intro k hk
    obtain ⟨i, hi, rfl⟩ := Finset.mem_map.1 hk
    obtain ⟨_, h0, h1⟩ := Finset.mem_filter.1 hi
    rw [Finset.mem_Icc]
    refine ⟨h0, ?_⟩
    by_contra hc
    apply h1
    have hc' : 247 ≤ i.val := by
      have : ¬ (i.val ≤ 246) := hc
      omega
    by_cases h255 : i.val ≤ 254
    · rw [thr_val i.val h0 h255, EReal.coe_lt_coe_iff]
      refine lt_of_lt_of_le hr (zpow_le_zpow_right₀ (by norm_num) (by omega))
    · have : i.val = 255 := by have := i.isLt; omega
      rw [this, thr_eq 255 (by omega)]
      have : Ideal.ieee 8 23 (BitVec.ofNat 32 (255 * 2 ^ 23)) = ⊤ := by
        unfold Ideal.ieee
        have e1 : ((BitVec.ofNat 32 (255 * 2 ^ 23)).extractLsb' (8 + 23) 1 == 1#1) = false := by decide
        have e2 : ((BitVec.ofNat 32 (255 * 2 ^ 23)).extractLsb' 23 8).toNat = 255 := by decide
        have e3 : ((BitVec.ofNat 32 (255 * 2 ^ 23)).extractLsb' 0 23).toNat = 0 := by decide
        simp only [e1, e2, e3]
        norm_num
      rw [this]
      exact EReal.coe_lt_top r
  have := Finset.card_le_card h
  rw [Finset.card_map, Nat.card_Icc] at this
  omega

theorem lt_cnt (r : ℝ) (hr : r < 2 ^ (120 : ℤ)) : r < (2 : ℝ) ^ (((cnt r).card : ℤ) - 126) := by
  by_contra hc
  have hc' : (2 : ℝ) ^ (((cnt r).card : ℤ) - 126) ≤ r := not_lt.1 hc
  have hn := cnt_le r hr
  have hN : ((cnt r).card : ℤ) - 126 < 120 := by
    by_contra h
    have h' : (120 : ℤ) ≤ ((cnt r).card : ℤ) - 126 := not_lt.1 h
    have := zpow_le_zpow_right₀ (by norm_num : (1 : ℝ) ≤ 2) h'
    linarith
  have h : Finset.Icc 1 ((cnt r).card + 1) ⊆ (cnt r).map Fin.valEmbedding := by
    intro k hk
    rw [Finset.mem_Icc] at hk
    have hk2 : k < 256 := by omega
    refine Finset.mem_map.2 ⟨⟨k, hk2⟩, Finset.mem_filter.2 ⟨Finset.mem_univ _, hk.1, ?_⟩, rfl⟩
    rw [thr_val k hk.1 (by omega), EReal.coe_lt_coe_iff, not_lt]
    refine le_trans (zpow_le_zpow_right₀ (by norm_num) (by omega)) hc'
  have := Finset.card_le_card h
  rw [Finset.card_map, Nat.card_Icc] at this
  omega

/-- The exponent the kernel computes of a row, as one expression. -/
def word (v : Fin 1536 → EReal) : BitVec 32 :=
  if Finset.fold max (Ideal.ofBits FTy.f32 4286578688#32) (fun x => max (v x) (-(v x))) Finset.univ *
      Ideal.ofBits FTy.f32 932333861#32 < Ideal.ofBits FTy.f32 8388608#32 then 0#32
  else IntOp.subi (Finset.fold IntOp.addi (0#32) (fun x : Fin 256 =>
      BitVec.setWidth 32 (IntOp.andi (IntOp.cmpi CmpIPredicate.sgt (BitVec.ofNat 32 x.val) 0#32)
        (IntOp.xori (BitVec.ofBool (decide
          (Finset.fold max (Ideal.ofBits FTy.f32 4286578688#32) (fun x => max (v x) (-(v x))) Finset.univ *
            Ideal.ofBits FTy.f32 932333861#32 <
              Ideal.ofBits FTy.f32 (IntOp.shli ArithUnit.vector (BitVec.ofNat 32 x.val) 23#32)))) 1#1)))
      Finset.univ) 126#32

/-- The peak of a row of numbers is a number above every one of them. -/
theorem peak (v : Fin 1536 → EReal) (x : Fin 1536 → ℝ) (hv : ∀ j, v j = (x j : EReal)) (B : ℝ) (hB : ∀ j, |x j| ≤ B) :
    ∃ A : ℝ, Finset.fold max (⊥ : EReal) (fun j => max (v j) (-(v j))) Finset.univ = (A : EReal) ∧ 0 ≤ A ∧ A ≤ B ∧ ∀ j, |x j| ≤ A := by
  have habs : ∀ j, max (v j) (-(v j)) = ((|x j| : ℝ) : EReal) := fun j => by
    rw [hv, ← EReal.coe_neg]
    exact (EReal.coe_strictMono.monotone.map_max (a := x j) (b := -x j)).symm
  have hle : ∀ j, ((|x j| : ℝ) : EReal) ≤ Finset.fold max (⊥ : EReal) (fun j => max (v j) (-(v j))) Finset.univ := fun j =>
    Finset.le_fold_max _ |>.2 (Or.inr ⟨j, Finset.mem_univ _, le_of_eq (habs j).symm⟩)
  have hge : Finset.fold max (⊥ : EReal) (fun j => max (v j) (-(v j))) Finset.univ ≤ (B : EReal) :=
    Finset.fold_max_le _ |>.2 ⟨bot_le, fun j _ => by rw [habs]; exact EReal.coe_le_coe_iff.2 (hB j)⟩
  revert hle hge
  generalize Finset.fold max (⊥ : EReal) (fun j => max (v j) (-(v j))) Finset.univ = a
  intro hle hge
  have h0 : (0 : EReal) ≤ a := le_trans (by exact_mod_cast abs_nonneg (x 0)) (hle 0)
  lift a to ℝ using ⟨fun h => by rw [h] at hge; exact absurd (top_le_iff.1 hge) (EReal.coe_ne_top B), fun h => by rw [h] at h0; simp at h0⟩
  exact ⟨a, rfl, by exact_mod_cast h0, EReal.coe_le_coe_iff.1 hge, fun j => EReal.coe_le_coe_iff.1 (hle j)⟩

/-- The kernel's exponent of a row is small and is large enough for the row. -/
theorem word_spec (v : Fin 1536 → EReal) (x : Fin 1536 → ℝ) (hv : ∀ j, v j = (x j : EReal)) (hB : ∀ j, |x j| ≤ 2 ^ (128 : ℤ)) :
    ∃ n : ℕ, n ≤ 246 ∧ word v = BitVec.ofNat 32 n - 126#32 ∧ ∀ j, |x j| ≤ 57344 * (2 : ℝ) ^ ((n : ℤ) - 126) := by
  obtain ⟨A, hA, hA0, hAB, hx⟩ := peak v x hv _ hB
  obtain ⟨c, hc, hc1, hc2⟩ := cst
  have hcp : 0 < c := lt_of_lt_of_le (by norm_num) hc1
  have hr : A * c < 2 ^ (120 : ℤ) := by
    have : A * c ≤ 2 ^ (128 : ℤ) * (1 / 32768) := mul_le_mul hAB hc2 hcp.le (by positivity)
    refine lt_of_le_of_lt this ?_
    norm_num
  have key : ∀ p : ℝ, A * c < p → ∀ j, |x j| ≤ 57344 * p := fun p hp j => by
    have h1 : |x j| ≤ A := hx j
    have h2 : A * (1 / 57344) ≤ A * c := mul_le_mul_of_nonneg_left hc1 hA0
    linarith
  unfold word
  rw [ninf, hA, hc, ← EReal.coe_mul, small]
  by_cases hs : ((A * c : ℝ) : EReal) < (((2 : ℝ) ^ (-126 : ℤ) : ℝ) : EReal)
  · rw [if_pos hs]
    refine ⟨126, by omega, by decide, key _ ?_⟩
    refine lt_of_lt_of_le (EReal.coe_lt_coe_iff.1 hs) ?_
    norm_num
  · rw [if_neg hs]
    refine ⟨(cnt (A * c)).card, cnt_le _ hr, ?_, key _ (lt_cnt _ hr)⟩
    have hcount := fold_count (fun k : Fin 256 => 0 < k.val ∧ ¬ (((A * c : ℝ) : EReal) < thr k.val))
      (fun x : Fin 256 => BitVec.setWidth 32 (IntOp.andi (IntOp.cmpi CmpIPredicate.sgt (BitVec.ofNat 32 x.val) 0#32)
        (IntOp.xori (BitVec.ofBool (decide (((A * c : ℝ) : EReal) <
              Ideal.ofBits FTy.f32 (IntOp.shli ArithUnit.vector (BitVec.ofNat 32 x.val) 23#32)))) 1#1))) (fun k => by
        have hk : IntOp.cmpi CmpIPredicate.sgt (BitVec.ofNat 32 k.val) 0#32 = BitVec.ofBool (decide (0 < k.val)) := by
          revert k; decide +kernel
        show BitVec.setWidth 32 (IntOp.andi (IntOp.cmpi CmpIPredicate.sgt (BitVec.ofNat 32 k.val) 0#32)
          (IntOp.xori (BitVec.ofBool (decide (((A * c : ℝ) : EReal) < thr k.val))) 1#1)) = _
        rw [hk]
        by_cases h1 : 0 < k.val <;> by_cases h2 : ((A * c : ℝ) : EReal) < thr k.val <;> simp only [h1, h2] <;> decide) Finset.univ
    rw [hcount]
    rfl

/-- The scale's word and the inverse scale's word. -/
theorem scale_word (n : ℕ) (h : n ≤ 246) :
    Ideal.ofBits .f32 (IntOp.shli .vector (IntOp.addi (BitVec.ofNat 32 n - 126#32) 127#32) 23#32) = (((2 : ℝ) ^ ((n : ℤ) - 126) : ℝ) : EReal) := by
  have e : IntOp.addi (BitVec.ofNat 32 n - 126#32) 127#32 = BitVec.ofNat 32 (n + 1) := by
    show BitVec.ofNat 32 n - 126#32 + 127#32 = _
    apply BitVec.eq_of_toNat_eq
    simp only [BitVec.toNat_add, BitVec.toNat_sub, BitVec.toNat_ofNat]
    omega
  rw [e]
  have := thr_val (n + 1) (by omega) (by omega)
  unfold thr at this
  rw [this]
  congr 2
  push_cast
  ring

theorem inv_word (n : ℕ) (h : n ≤ 246) :
    Ideal.ofBits .f32 (IntOp.shli .vector (IntOp.addi (IntOp.subi 0#32 (BitVec.ofNat 32 n - 126#32)) 127#32) 23#32)
      = (((2 : ℝ) ^ (126 - (n : ℤ)) : ℝ) : EReal) := by
  have e : IntOp.addi (IntOp.subi 0#32 (BitVec.ofNat 32 n - 126#32)) 127#32 = BitVec.ofNat 32 (253 - n) := by
    show 0#32 - (BitVec.ofNat 32 n - 126#32) + 127#32 = _
    apply BitVec.eq_of_toNat_eq
    simp only [BitVec.toNat_add, BitVec.toNat_sub, BitVec.toNat_ofNat]
    omega
  rw [e]
  have := thr_val (253 - n) (by omega) (by omega)
  unfold thr at this
  rw [this]
  congr 2
  rw [Nat.cast_sub (by omega)]
  push_cast
  ring

/-- A code within the bound is not clipped. -/
theorem clip (x p q : ℝ) (hp : 0 < p) (hpq : p * q = 1) (h : |x| ≤ 57344 * p) :
    min ((57344 : ℝ) : EReal) (max ((-57344 : ℝ) : EReal) ((x : EReal) * (q : EReal))) = ((x * q : ℝ) : EReal) := by
  have hq : 0 < q := by
    by_contra hq
    have := mul_nonpos_of_nonneg_of_nonpos hp.le (not_lt.1 hq)
    linarith
  have h1 : |x * q| ≤ 57344 := by
    rw [abs_mul, abs_of_pos hq]
    calc |x| * q ≤ 57344 * p * q := mul_le_mul_of_nonneg_right h hq.le
      _ = 57344 := by rw [mul_assoc, hpq, mul_one]
  have h2 := abs_le.1 h1
  rw [← EReal.coe_mul, max_eq_right (EReal.coe_le_coe_iff.2 h2.1), min_eq_right (EReal.coe_le_coe_iff.2 h2.2)]

end Cert.Quant

end
-- ==== Proof.My.Nib.lean ====
/- The nibbles of a packed byte, and the kernel's shift and mask of four bytes at a time read byte by byte. -/
module

public import proofs.«01_k».proof.Proof.My.Point
public import Idealize.ShloMosaic.Lib.Pointwise
public import Idealize.ShloMosaic.Lib.BitcastFour
public import Idealize.ShloMosaic.PureOps.Ideal

@[expose] public section

set_option maxRecDepth 8192

noncomputable section

namespace Cert.Spec

/-- The low four bits of a byte, signed. -/
def lo (b : BitVec 8) : ℤ := (b.extractLsb' 0 4).toInt

/-- The high four bits of a byte, signed. -/
def hi (b : BitVec 8) : ℤ := (b.extractLsb' 4 4).toInt

theorem lo_shl (b : BitVec 8) : (b <<< 4).toInt = 16 * lo b := by
  revert b; decide +kernel

theorem hi_and (b : BitVec 8) : (b &&& 0xF0#8).toInt = 16 * hi b := by
  revert b; decide +kernel

end Cert.Spec

namespace Cert.KernelIdeal.Gen

open Idealize.ShloMosaic

theorem maskBit (p : ℕ) (hp : p < 32) : (4042322160#32 : BitVec 32).getLsbD p = decide (4 ≤ p % 8) := by
  have : ∀ p : Fin 32, (4042322160#32 : BitVec 32).getLsbD p.val = decide (4 ≤ p.val % 8) := by decide
  exact this ⟨p, hp⟩

theorem maskBit8 (p : ℕ) (hp : p < 8) : (0xF0#8 : BitVec 8).getLsbD p = decide (4 ≤ p) := by
  have : ∀ p : Fin 8, (0xF0#8 : BitVec 8).getLsbD p.val = decide (4 ≤ p.val) := by decide
  exact this ⟨p, hp⟩

/-- A word of a bitcast to bytes, byte by byte. -/
theorem back (x : IVec S64x768 32) (r : Fin 256) (l : Fin 768) (q : ℕ) (hq : q < 8) (p : Fin 64) (hp : p.val = r.val / 4) :
    (bitcast S256x768 8 x bitcasts_S64x768_w32_S256x768_w8 (ix2 r l)).getLsbD q = (x (ix2 p l)).getLsbD (8 * (r.val % 4) + q) := by
  have h := bitcasts_S64x768_w32_S256x768_w8
  rw [bitcast_getLsbD x _ _ q hq (by decide)]
  have hr : S256x768.row (ix2 r l) = r.val := rfl
  have e2 : (S256x768.row (ix2 r l) * 8 + q) % 32 = 8 * (r.val % 4) + q := by
    rw [hr]; omega
  rw [e2]
  congr 2
  funext c
  match c with
  | ⟨0, _⟩ => exact Fin.ext ((h.srcIdx_row _ _ _ ⟨0, Nat.zero_lt_two⟩ rfl).trans (by rw [hr]; show _ = p.val; omega))
  | ⟨1, _⟩ => exact Fin.ext (h.srcIdx_other _ _ _ ⟨1, Nat.one_lt_two⟩ (by show ¬ 1 + 2 = 2; omega))

theorem pay6_bit (a : IVec S256x768 8) (p : Fin 64) (l : Fin 768) (q : ℕ) (hq : q < 32) (r : Fin 256) (hr : r.val = 4 * p.val + q / 8) :
    (k0_pay6 (F := Ideal) a (ix2 p l)).getLsbD q = (a (ix2 r l)).getLsbD (q % 8) :=
  bitcast_8_32_getLsbD_ix2 a bitcasts_S256x768_w8_S64x768_w32 p l q hq r hr

theorem shl4 (w : BitVec 32) : IntOp.shli .vector w 4#32 = w <<< 4 := by
  unfold IntOp.shli
  rw [if_pos (by decide)]
  rfl

/-- The low nibble, in the high four bits. -/
theorem pay7_at (a : IVec S256x768 8) (r : Fin 256) (l : Fin 768) : k0_pay7 (F := Ideal) a (ix2 r l) = (a (ix2 r l)) <<< 4 := by
  apply BitVec.eq_of_getLsbD_eq
  intro q hq
  unfold k0_pay7
  rw [back _ r l q hq ⟨r.val / 4, by omega⟩ rfl]
  show (IntOp.andi (IntOp.shli .vector (k0_pay6 (F := Ideal) a (ix2 ⟨r.val / 4, _⟩ l)) 4#32) 4042322160#32).getLsbD _ = _
  rw [shl4]
  show (((k0_pay6 (F := Ideal) a (ix2 ⟨r.val / 4, _⟩ l)) <<< 4) &&& 4042322160#32).getLsbD _ = _
  rw [BitVec.getLsbD_and, maskBit _ (by omega), BitVec.getLsbD_shiftLeft, BitVec.getLsbD_shiftLeft]
  by_cases h4 : 4 ≤ q
  · rw [pay6_bit a _ l (8 * (r.val % 4) + q - 4) (by omega) r (by dsimp only; omega)]
    have e : (8 * (r.val % 4) + q - 4) % 8 = q - 4 := by omega
    rw [e]
    have d1 : decide (8 * (r.val % 4) + q < 32) = true := decide_eq_true (by omega)
    have d2 : decide (8 * (r.val % 4) + q < 4) = false := decide_eq_false (by omega)
    have d3 : decide (4 ≤ (8 * (r.val % 4) + q) % 8) = true := decide_eq_true (by omega)
    have d4 : decide (q < 8) = true := decide_eq_true (by omega)
    have d5 : decide (q < 4) = false := decide_eq_false (by omega)
    rw [d1, d2, d3, d4, d5]
    simp
  · have d3 : decide (4 ≤ (8 * (r.val % 4) + q) % 8) = false := decide_eq_false (by omega)
    have d5 : decide (q < 4) = true := decide_eq_true (by omega)
    rw [d3, d5]
    simp

/-- The high nibble, in the high four bits. -/
theorem pay8_at (a : IVec S256x768 8) (r : Fin 256) (l : Fin 768) : k0_pay8 (F := Ideal) a (ix2 r l) = (a (ix2 r l)) &&& 0xF0#8 := by
  apply BitVec.eq_of_getLsbD_eq
  intro q hq
  unfold k0_pay8
  rw [back _ r l q hq ⟨r.val / 4, by omega⟩ rfl]
  show (k0_pay6 (F := Ideal) a (ix2 ⟨r.val / 4, _⟩ l) &&& 4042322160#32).getLsbD _ = _
  rw [BitVec.getLsbD_and, maskBit _ (by omega), BitVec.getLsbD_and, maskBit8 _ hq,
    pay6_bit a _ l (8 * (r.val % 4) + q) (by omega) r (by dsimp only; omega)]
  have e : (8 * (r.val % 4) + q) % 8 = q := by omega
  rw [e]

end Cert.KernelIdeal.Gen

end
-- ==== Proof.My.Spec.lean ====
/- What one element of the result is: the sum over a row of the gradient times the dequantised weights. -/
module

public import proofs.«01_k».proof.Proof.My.Quant
public import proofs.«01_k».proof.Proof.My.Nib
public import Mathlib.Algebra.BigOperators.Fin

@[expose] public section

noncomputable section

namespace Cert.Spec

open scoped BigOperators

/-- A row of finite numbers no larger than a float. -/
def Ok (v : Fin 1536 → EReal) : Prop := ∃ x : Fin 1536 → ℝ, (∀ j, v j = (x j : EReal)) ∧ ∀ j, |x j| ≤ 2 ^ (128 : ℤ)

/-- The even lanes of a row by the low nibbles, and the odd lanes by the high ones. -/
def T (v : Fin 1536 → EReal) (w : Fin 768 → BitVec 8) (s : Fin 48 → EReal) : EReal :=
  (∑ i : Fin 768, v ⟨2 * i.val, by omega⟩ * ((((lo (w i) : ℤ) : ℝ) : EReal) * s ⟨i.val / 16, by omega⟩))
    + ∑ i : Fin 768, v ⟨2 * i.val + 1, by omega⟩ * ((((hi (w i) : ℤ) : ℝ) : EReal) * s ⟨i.val / 16, by omega⟩)

/-- The kernel's exponent of a row, as a number. -/
def ex (v : Fin 1536 → EReal) : ℤ := ((Cert.Quant.word v + 126#32).toNat : ℤ) - 126

theorem ex_spec (v : Fin 1536 → EReal) (h : Ok v) : ∃ n : ℕ, n ≤ 246 ∧ Cert.Quant.word v = BitVec.ofNat 32 n - 126#32 ∧ ex v = (n : ℤ) - 126
    ∧ ∀ x : Fin 1536 → ℝ, (∀ j, v j = (x j : EReal)) → ∀ j, |x j| ≤ 57344 * (2 : ℝ) ^ (ex v) := by
  obtain ⟨x, hx, hb⟩ := h
  obtain ⟨n, hn, hw, hle⟩ := Cert.Quant.word_spec v x hx hb
  have he : ex v = (n : ℤ) - 126 := by
    unfold ex
    rw [hw]
    have : (BitVec.ofNat 32 n - 126#32 + 126#32).toNat = n := by
      simp only [BitVec.toNat_add, BitVec.toNat_sub, BitVec.toNat_ofNat]
      omega
    rw [this]
  refine ⟨n, hn, hw, he, fun y hy j => ?_⟩
  have : y j = x j := by
    have := (hy j).symm.trans (hx j)
    exact_mod_cast this
  rw [this, he]
  exact hle j

/-- A power of two comes out of a sum. -/
theorem sum_mul {n : ℕ} (f : Fin n → EReal) (c : ℝ) (hc : 0 ≤ c) : (∑ i, f i) * (c : EReal) = ∑ i, f i * (c : EReal) := by
  induction n with
  | zero => simp
  | succ n ih =>
    rw [Fin.sum_univ_succ, Fin.sum_univ_succ, EReal.right_distrib_of_nonneg_of_ne_top (by exact_mod_cast hc) (EReal.coe_ne_top c), ih]

theorem two_pow (e : ℤ) : (2 : ℝ) ^ (-e) * 2 ^ e = 1 := by
  rw [← zpow_add₀ (by norm_num : (2 : ℝ) ≠ 0), neg_add_cancel, zpow_zero]

theorem term16 (a s : EReal) (k : ℤ) (e : ℤ) :
    a * (((2 : ℝ) ^ (-e) * (1 / 16) : ℝ) : EReal) * ((((16 * k : ℤ) : ℝ) : EReal) * s) * (((2 : ℝ) ^ e : ℝ) : EReal)
      = a * ((((k : ℤ) : ℝ) : EReal) * s) := by
  have h : (((2 : ℝ) ^ (-e) * (1 / 16) : ℝ) : EReal) * (((16 * k : ℤ) : ℝ) : EReal) * (((2 : ℝ) ^ e : ℝ) : EReal) = (((k : ℤ) : ℝ) : EReal) := by
    rw [← EReal.coe_mul, ← EReal.coe_mul]
    congr 1
    have := two_pow e
    push_cast
    calc (2 : ℝ) ^ (-e) * (1 / 16) * (16 * (k : ℝ)) * 2 ^ e = (2 ^ (-e) * 2 ^ e) * k := by ring
      _ = k := by rw [this, one_mul]
  calc _ = a * (((((2 : ℝ) ^ (-e) * (1 / 16) : ℝ) : EReal) * (((16 * k : ℤ) : ℝ) : EReal) * (((2 : ℝ) ^ e : ℝ) : EReal)) * s) := by
        simp only [mul_assoc, mul_comm, mul_left_comm]
    _ = _ := by rw [h]

theorem term1 (a s : EReal) (e : ℤ) :
    a * (((2 : ℝ) ^ (-e) : ℝ) : EReal) * s * (((2 : ℝ) ^ e : ℝ) : EReal) = a * s := by
  have h : (((2 : ℝ) ^ (-e) : ℝ) : EReal) * (((2 : ℝ) ^ e : ℝ) : EReal) = 1 := by
    rw [← EReal.coe_mul, two_pow, EReal.coe_one]
  calc _ = a * s * ((((2 : ℝ) ^ (-e) : ℝ) : EReal) * (((2 : ℝ) ^ e : ℝ) : EReal)) := by
        simp only [mul_assoc, mul_comm, mul_left_comm]
    _ = _ := by rw [h, mul_one]

/-- The kernel's product of a row of codes and a row of weights, rescaled. -/
theorem comb (v : Fin 1536 → EReal) (w : Fin 768 → BitVec 8) (s : Fin 48 → EReal) (e : ℤ) (C W : Fin 1536 → EReal)
    (hC0 : ∀ i : Fin 768, C ⟨i.val, by omega⟩ = v ⟨2 * i.val, by omega⟩ * (((2 : ℝ) ^ (-e) * (1 / 16) : ℝ) : EReal))
    (hC1 : ∀ i : Fin 768, C ⟨768 + i.val, by omega⟩ = v ⟨2 * i.val + 1, by omega⟩ * (((2 : ℝ) ^ (-e) * (1 / 16) : ℝ) : EReal))
    (hW0 : ∀ i : Fin 768, W ⟨i.val, by omega⟩ = (((16 * lo (w i) : ℤ) : ℝ) : EReal) * s ⟨i.val / 16, by omega⟩)
    (hW1 : ∀ i : Fin 768, W ⟨768 + i.val, by omega⟩ = (((16 * hi (w i) : ℤ) : ℝ) : EReal) * s ⟨i.val / 16, by omega⟩) :
    (∑ x, C x * W x) * (((2 : ℝ) ^ e : ℝ) : EReal) = T v w s := by
  have hp : (0 : ℝ) ≤ (2 : ℝ) ^ e := by positivity
  have hs : (∑ x : Fin 1536, C x * W x) = (∑ i : Fin 768, C ⟨i.val, by omega⟩ * W ⟨i.val, by omega⟩)
      + ∑ i : Fin 768, C ⟨768 + i.val, by omega⟩ * W ⟨768 + i.val, by omega⟩ :=
    Fin.sum_univ_add (a := 768) (b := 768) (fun x : Fin (768 + 768) => C x * W x)
  rw [hs, EReal.right_distrib_of_nonneg_of_ne_top (by exact_mod_cast hp) (EReal.coe_ne_top _), sum_mul _ _ hp, sum_mul _ _ hp]
  unfold T
  congr 1
  · refine Finset.sum_congr rfl fun i _ => ?_
    rw [hC0, hW0, term16]
  · refine Finset.sum_congr rfl fun i _ => ?_
    rw [hC1, hW1, term16]

/-- The reference's two products of codes and weights, rescaled. -/
theorem comb2 (v : Fin 1536 → EReal) (w : Fin 768 → BitVec 8) (s : Fin 48 → EReal) (e : ℤ) :
    ((∑ i : Fin 768, v ⟨2 * i.val, by omega⟩ * (((2 : ℝ) ^ (-e) : ℝ) : EReal) * ((((lo (w i) : ℤ) : ℝ) : EReal) * s ⟨i.val / 16, by omega⟩))
      + ∑ i : Fin 768, v ⟨2 * i.val + 1, by omega⟩ * (((2 : ℝ) ^ (-e) : ℝ) : EReal) * ((((hi (w i) : ℤ) : ℝ) : EReal) * s ⟨i.val / 16, by omega⟩))
      * (((2 : ℝ) ^ e : ℝ) : EReal) = T v w s := by
  have hp : (0 : ℝ) ≤ (2 : ℝ) ^ e := by positivity
  rw [EReal.right_distrib_of_nonneg_of_ne_top (by exact_mod_cast hp) (EReal.coe_ne_top _), sum_mul _ _ hp, sum_mul _ _ hp]
  unfold T
  congr 1
  · exact Finset.sum_congr rfl fun i _ => term1 _ _ _
  · exact Finset.sum_congr rfl fun i _ => term1 _ _ _

end Cert.Spec

end
-- ==== Proof.My.Fin.lean ====
/- The value claim's precondition read: the row counts, and every activation a finite number no larger than a float. -/
module

public import proofs.«01_k».proof.Proof.My.Counts
public import proofs.«01_k».proof.Proof.My.Spec
public import proofs.«01_k».proof.Proof.Gen.Pre_finite_and_every_token_has_an_expert

@[expose] public section

set_option maxRecDepth 8192

noncomputable section

namespace Cert.Counts

open Idealize.ShloMosaic

variable {F : FTy → Type} [FloatOps F]

open Cert.Pre_finite_and_every_token_has_an_expert in
theorem of_finite (a0 : FVec F S24576x1536 .bf16) (a1 : IVec S16 32) (a2 : IVec S16x5120x768 8) (a3 : FVec F S16x5120x48 .f32)
    (h : (fn a0 a1 a2 a3).1 = (fun _ => 1#1) ∧ (fn a0 a1 a2 a3).2.1 = (fun _ => 1#1)) : ∃ f, Are a1 f :=
  of a1 _ (fun _ => rfl) _ _ (congrFun h.1 ix0) (congrFun h.2 ix0)

/-- The greatest finite number of the activations' format. -/
theorem most : Ideal.ofBits .f32 2139029504#32 = ((16711680 * 2 ^ (104 : ℤ) : ℝ) : EReal) := by
  show Ideal.ieee 8 23 2139029504#32 = _
  unfold Ideal.ieee
  have e1 : ((2139029504#32 : BitVec 32).extractLsb' (8 + 23) 1 == 1#1) = false := by decide
  have e2 : ((2139029504#32 : BitVec 32).extractLsb' 23 8).toNat = 254 := by decide
  have e3 : ((2139029504#32 : BitVec 32).extractLsb' 0 23).toNat = 8323072 := by decide
  simp only [e1, e2, e3]
  norm_num

theorem num (x : EReal) (h : max x (-x) ≤ ((16711680 * 2 ^ (104 : ℤ) : ℝ) : EReal)) : ∃ r : ℝ, x = (r : EReal) ∧ |r| ≤ 2 ^ (128 : ℤ) := by
  have h1 := le_trans (le_max_left _ _) h
  have h2 := le_trans (le_max_right _ _) h
  lift x to ℝ using ⟨fun e => by rw [e] at h1; exact absurd (top_le_iff.1 h1) (EReal.coe_ne_top _),
    fun e => by rw [e, EReal.neg_bot] at h2; exact absurd (top_le_iff.1 h2) (EReal.coe_ne_top _)⟩
  refine ⟨x, rfl, ?_⟩
  rw [← EReal.coe_neg] at h2
  have h3 := EReal.coe_le_coe_iff.1 h1
  have h4 := EReal.coe_le_coe_iff.1 h2
  have h5 : (16711680 * 2 ^ (104 : ℤ) : ℝ) ≤ 2 ^ (128 : ℤ) := by norm_num
  exact abs_le.2 ⟨by linarith, by linarith⟩

/-- Every row is one of finite numbers, from what the reduction says. -/
theorem rows (x : FVec Ideal (⟨2, ![24576, 1536]⟩ : Shape) .bf16) (y : IVec (⟨2, ![24576, 1536]⟩ : Shape) 1)
    (hy : ∀ i, y i = BitVec.ofBool (decide (max (x i : EReal) (-(x i : EReal)) ≤ Ideal.ofBits .f32 2139029504#32)))
    (hr : (⟨2, ![24576, 1536]⟩ : Shape).ReducesTo [0, 1] (⟨0, ![]⟩ : Shape)) (hu : 0 < (⟨0, ![]⟩ : Shape).numel)
    (h : Host.reduce IntOp.andi y (constantI (⟨0, ![]⟩ : Shape) 1 1#1) hr hu ix0 = 1#1) (R : Fin 24576) :
    Cert.Spec.Ok (fun j => x (ix2 R j)) := by
  have hi : ∀ i, ∃ r : ℝ, x i = (r : EReal) ∧ |r| ≤ 2 ^ (128 : ℤ) := fun i => by
    have h2 := (hy i).symm.trans (Host.reduce_andi_all _ _ _ _ ix0 h i)
    have h3 : max (x i : EReal) (-(x i : EReal)) ≤ Ideal.ofBits .f32 2139029504#32 := by
      by_contra hc
      rw [decide_eq_false hc] at h2
      exact absurd h2 (by decide)
    rw [most] at h3
    exact num _ h3
  choose r hr hb using hi
  exact ⟨fun j => r (ix2 R j), fun j => hr _, fun j => hb _⟩

/-- The comparison at an element. -/
theorem cmp_at (x : FVec Ideal (⟨2, ![24576, 1536]⟩ : Shape) .bf16) (hb : FTy.bits .bf16 < FTy.bits .f32)
    (hc : (⟨0, ![]⟩ : Shape).BroadcastsInDim (⟨2, ![24576, 1536]⟩ : Shape) (![] : Fin 0 → Fin 2)) (i : (⟨2, ![24576, 1536]⟩ : Shape).Idx) :
    cmpf .ole (Host.absf (extf .f32 x hb)) (broadcastInDim (⟨2, ![24576, 1536]⟩ : Shape) ![] hc (constant (F := Ideal) (⟨0, ![]⟩ : Shape) .f32 2139029504#32)) i
      = BitVec.ofBool (decide (max (x i : EReal) (-(x i : EReal)) ≤ Ideal.ofBits .f32 2139029504#32)) := rfl

open Cert.Pre_finite_and_every_token_has_an_expert in
theorem row_ok [Cert.Pre_finite_and_every_token_has_an_expert.Facts] (a0 : FVec Ideal S24576x1536 .bf16) (a1 : IVec S16 32) (a2 : IVec S16x5120x768 8) (a3 : FVec Ideal S16x5120x48 .f32)
    (h : (fn a0 a1 a2 a3).2.2 = (fun _ => 1#1)) (R : Fin 24576) : Cert.Spec.Ok (fun j => a0 (ix2 R j)) := by
  have h' := congrFun h ix0
  unfold fn at h'
  dsimp only at h'
  exact rows a0 _ (cmp_at a0 _ _) _ _ h' R

end Cert.Counts
end
-- ==== Proof.My.Deq.lean ====
/- The dequantising loop's stored values: sixteen times a signed nibble, times its group's scale. -/
module

public import proofs.«01_k».proof.Proof.My.Nib

@[expose] public section

set_option maxRecDepth 8192

noncomputable section

namespace Cert.KernelIdeal.Gen

open Idealize.ShloMosaic

/-- The group of a lane: sixteen lanes a group. -/
theorem lane (r : Fin 256) (j : Fin 128) : k0_pay13 k0_pay10 k0_pay11 k0_pay12 0#32 (ix2 r j) = BitVec.ofNat 32 (j.val / 16) := by
  pointwise [k0_pay13, k0_pay10, k0_pay11, k0_pay12]
  clear r
  revert j
  decide +kernel

/-- The gather's lane, eight groups on for every block of 128. -/
theorem sel (o : Fin 41) (j : Fin 128) :
    (Scalar.select (IntOp.cmpi CmpIPredicate.slt (IntOp.addi (BitVec.ofNat 32 (j.val / 16)) (BitVec.ofNat 32 o.val)) 0#32)
      (IntOp.addi (IntOp.addi (BitVec.ofNat 32 (j.val / 16)) (BitVec.ofNat 32 o.val)) 128#32)
      (IntOp.addi (BitVec.ofNat 32 (j.val / 16)) (BitVec.ofNat 32 o.val))).toNat % 128 = j.val / 16 + o.val := by
  revert o j
  decide +kernel

/-- The scales, widened to 128 lanes. -/
theorem scl (s : Vec Ideal S256x48 .f32) (r : Fin 256) (n m : ℕ) (h : n < 128) (hm : m < 48) (e : n = m) :
    k0_pay9 s (ix2 r ⟨n, h⟩) = s (ix2 r ⟨m, hm⟩) := by
  subst e
  pointwise [k0_pay9]
  rw [dif_pos hm]

/-- A byte as a float, at the low nibble and at the high one. -/
theorem cvt_lo (a : Vec Ideal S256x768 .i8) (r : Fin 256) (l : Fin 768) :
    (FloatOps.sitofp FTy.bf16 (k0_pay7 (F := Ideal) a (ix2 r l)) : Ideal .bf16) = (((16 * Cert.Spec.lo (a (ix2 r l)) : ℤ) : ℝ) : EReal) := by
  show (((k0_pay7 (F := Ideal) a (ix2 r l)).toInt : ℝ) : EReal) = _
  rw [pay7_at, Cert.Spec.lo_shl]

theorem cvt_hi (a : Vec Ideal S256x768 .i8) (r : Fin 256) (l : Fin 768) :
    (FloatOps.sitofp FTy.bf16 (k0_pay8 (F := Ideal) a (ix2 r l)) : Ideal .bf16) = (((16 * Cert.Spec.hi (a (ix2 r l)) : ℤ) : ℝ) : EReal) := by
  show (((k0_pay8 (F := Ideal) a (ix2 r l)).toInt : ℝ) : EReal) = _
  rw [pay8_at, Cert.Spec.hi_and]

theorem st15 (a : Vec Ideal S256x768 .i8) (s : Vec Ideal S256x48 .f32) (r : Fin 256) (j : Fin 128) :
    k0_pay15 (k0_pay7 (F := Ideal) a) (k0_pay9 s) k0_pay10 k0_pay11 k0_pay12 0#32 (ix2 r j)
      = (((16 * Cert.Spec.lo (a (ix2 r ⟨0 + j.val, by omega⟩)) : ℤ) : ℝ) : EReal) * s (ix2 r ⟨(0 + j.val) / 16, by omega⟩) := by
  pointwise [k0_pay15, k0_pay14]
  rw [cvt_lo]
  first
    | exact congrArg₂ _ (congrArg _ (congrArg _ (congrArg _ (congrArg _ (congrArg a (congrArg (ix2 r) (Fin.ext (by dsimp only; omega)))))))) (scl s r _ _ _ _ (by rw [lane r j]; exact (sel 0 j).trans (by show j.val / 16 + 0 = _; omega)))
    | exact congrArg₂ _ rfl (scl s r _ _ _ _ (by rw [lane r j]; exact (sel 0 j).trans (by show j.val / 16 + 0 = _; omega)))

theorem st16 (a : Vec Ideal S256x768 .i8) (s : Vec Ideal S256x48 .f32) (r : Fin 256) (j : Fin 128) :
    k0_pay16 (k0_pay8 (F := Ideal) a) (k0_pay9 s) k0_pay10 k0_pay11 k0_pay12 0#32 (ix2 r j)
      = (((16 * Cert.Spec.hi (a (ix2 r ⟨0 + j.val, by omega⟩)) : ℤ) : ℝ) : EReal) * s (ix2 r ⟨(0 + j.val) / 16, by omega⟩) := by
  pointwise [k0_pay16, k0_pay14]
  rw [cvt_hi]
  first
    | exact congrArg₂ _ (congrArg _ (congrArg _ (congrArg _ (congrArg _ (congrArg a (congrArg (ix2 r) (Fin.ext (by dsimp only; omega)))))))) (scl s r _ _ _ _ (by rw [lane r j]; exact (sel 0 j).trans (by show j.val / 16 + 0 = _; omega)))
    | exact congrArg₂ _ rfl (scl s r _ _ _ _ (by rw [lane r j]; exact (sel 0 j).trans (by show j.val / 16 + 0 = _; omega)))

theorem st19 (a : Vec Ideal S256x768 .i8) (s : Vec Ideal S256x48 .f32) (r : Fin 256) (j : Fin 128) :
    k0_pay19 (k0_pay18 (k0_pay7 (F := Ideal) a) (k0_pay9 s) k0_pay10 k0_pay11 k0_pay12 0#32) (ix2 r j)
      = (((16 * Cert.Spec.lo (a (ix2 r ⟨128 + j.val, by omega⟩)) : ℤ) : ℝ) : EReal) * s (ix2 r ⟨(128 + j.val) / 16, by omega⟩) := by
  pointwise [k0_pay19, k0_pay18, k0_pay17]
  rw [cvt_lo]
  first
    | exact congrArg₂ _ (congrArg _ (congrArg _ (congrArg _ (congrArg _ (congrArg a (congrArg (ix2 r) (Fin.ext (by dsimp only; omega)))))))) (scl s r _ _ _ _ (by rw [lane r j]; exact (sel 8 j).trans (by show j.val / 16 + 8 = _; omega)))
    | exact congrArg₂ _ rfl (scl s r _ _ _ _ (by rw [lane r j]; exact (sel 8 j).trans (by show j.val / 16 + 8 = _; omega)))

theorem st20 (a : Vec Ideal S256x768 .i8) (s : Vec Ideal S256x48 .f32) (r : Fin 256) (j : Fin 128) :
    k0_pay20 (k0_pay8 (F := Ideal) a) (k0_pay17 (k0_pay9 s) k0_pay10 k0_pay11 k0_pay12 0#32) (ix2 r j)
      = (((16 * Cert.Spec.hi (a (ix2 r ⟨128 + j.val, by omega⟩)) : ℤ) : ℝ) : EReal) * s (ix2 r ⟨(128 + j.val) / 16, by omega⟩) := by
  pointwise [k0_pay20, k0_pay17]
  rw [cvt_hi]
  first
    | exact congrArg₂ _ (congrArg _ (congrArg _ (congrArg _ (congrArg _ (congrArg a (congrArg (ix2 r) (Fin.ext (by dsimp only; omega)))))))) (scl s r _ _ _ _ (by rw [lane r j]; exact (sel 8 j).trans (by show j.val / 16 + 8 = _; omega)))
    | exact congrArg₂ _ rfl (scl s r _ _ _ _ (by rw [lane r j]; exact (sel 8 j).trans (by show j.val / 16 + 8 = _; omega)))

theorem st22 (a : Vec Ideal S256x768 .i8) (s : Vec Ideal S256x48 .f32) (r : Fin 256) (j : Fin 128) :
    k0_pay22 (k0_pay7 (F := Ideal) a) (k0_pay9 s) (k0_pay13 k0_pay10 k0_pay11 k0_pay12 0#32) (ix2 r j)
      = (((16 * Cert.Spec.lo (a (ix2 r ⟨256 + j.val, by omega⟩)) : ℤ) : ℝ) : EReal) * s (ix2 r ⟨(256 + j.val) / 16, by omega⟩) := by
  pointwise [k0_pay22, k0_pay21]
  rw [cvt_lo]
  first
    | exact congrArg₂ _ (congrArg _ (congrArg _ (congrArg _ (congrArg _ (congrArg a (congrArg (ix2 r) (Fin.ext (by dsimp only; omega)))))))) (scl s r _ _ _ _ (by rw [lane r j]; exact (sel 16 j).trans (by show j.val / 16 + 16 = _; omega)))
    | exact congrArg₂ _ rfl (scl s r _ _ _ _ (by rw [lane r j]; exact (sel 16 j).trans (by show j.val / 16 + 16 = _; omega)))

theorem st23 (a : Vec Ideal S256x768 .i8) (s : Vec Ideal S256x48 .f32) (r : Fin 256) (j : Fin 128) :
    k0_pay23 (k0_pay8 (F := Ideal) a) (k0_pay9 s) (k0_pay13 k0_pay10 k0_pay11 k0_pay12 0#32) (ix2 r j)
      = (((16 * Cert.Spec.hi (a (ix2 r ⟨256 + j.val, by omega⟩)) : ℤ) : ℝ) : EReal) * s (ix2 r ⟨(256 + j.val) / 16, by omega⟩) := by
  pointwise [k0_pay23, k0_pay21]
  rw [cvt_hi]
  first
    | exact congrArg₂ _ (congrArg _ (congrArg _ (congrArg _ (congrArg _ (congrArg a (congrArg (ix2 r) (Fin.ext (by dsimp only; omega)))))))) (scl s r _ _ _ _ (by rw [lane r j]; exact (sel 16 j).trans (by show j.val / 16 + 16 = _; omega)))
    | exact congrArg₂ _ rfl (scl s r _ _ _ _ (by rw [lane r j]; exact (sel 16 j).trans (by show j.val / 16 + 16 = _; omega)))

theorem st26 (a : Vec Ideal S256x768 .i8) (s : Vec Ideal S256x48 .f32) (r : Fin 256) (j : Fin 128) :
    k0_pay26 (k0_pay25 (k0_pay7 (F := Ideal) a) (k0_pay9 s) (k0_pay13 k0_pay10 k0_pay11 k0_pay12 0#32)) (ix2 r j)
      = (((16 * Cert.Spec.lo (a (ix2 r ⟨384 + j.val, by omega⟩)) : ℤ) : ℝ) : EReal) * s (ix2 r ⟨(384 + j.val) / 16, by omega⟩) := by
  pointwise [k0_pay26, k0_pay25, k0_pay24]
  rw [cvt_lo]
  first
    | exact congrArg₂ _ (congrArg _ (congrArg _ (congrArg _ (congrArg _ (congrArg a (congrArg (ix2 r) (Fin.ext (by dsimp only; omega)))))))) (scl s r _ _ _ _ (by rw [lane r j]; exact (sel 24 j).trans (by show j.val / 16 + 24 = _; omega)))
    | exact congrArg₂ _ rfl (scl s r _ _ _ _ (by rw [lane r j]; exact (sel 24 j).trans (by show j.val / 16 + 24 = _; omega)))

theorem st27 (a : Vec Ideal S256x768 .i8) (s : Vec Ideal S256x48 .f32) (r : Fin 256) (j : Fin 128) :
    k0_pay27 (k0_pay8 (F := Ideal) a) (k0_pay24 (k0_pay9 s) (k0_pay13 k0_pay10 k0_pay11 k0_pay12 0#32)) (ix2 r j)
      = (((16 * Cert.Spec.hi (a (ix2 r ⟨384 + j.val, by omega⟩)) : ℤ) : ℝ) : EReal) * s (ix2 r ⟨(384 + j.val) / 16, by omega⟩) := by
  pointwise [k0_pay27, k0_pay24]
  rw [cvt_hi]
  first
    | exact congrArg₂ _ (congrArg _ (congrArg _ (congrArg _ (congrArg _ (congrArg a (congrArg (ix2 r) (Fin.ext (by dsimp only; omega)))))))) (scl s r _ _ _ _ (by rw [lane r j]; exact (sel 24 j).trans (by show j.val / 16 + 24 = _; omega)))
    | exact congrArg₂ _ rfl (scl s r _ _ _ _ (by rw [lane r j]; exact (sel 24 j).trans (by show j.val / 16 + 24 = _; omega)))

theorem st29 (a : Vec Ideal S256x768 .i8) (s : Vec Ideal S256x48 .f32) (r : Fin 256) (j : Fin 128) :
    k0_pay29 (k0_pay7 (F := Ideal) a) (k0_pay9 s) (k0_pay13 k0_pay10 k0_pay11 k0_pay12 0#32) (ix2 r j)
      = (((16 * Cert.Spec.lo (a (ix2 r ⟨512 + j.val, by omega⟩)) : ℤ) : ℝ) : EReal) * s (ix2 r ⟨(512 + j.val) / 16, by omega⟩) := by
  pointwise [k0_pay29, k0_pay28]
  rw [cvt_lo]
  first
    | exact congrArg₂ _ (congrArg _ (congrArg _ (congrArg _ (congrArg _ (congrArg a (congrArg (ix2 r) (Fin.ext (by dsimp only; omega)))))))) (scl s r _ _ _ _ (by rw [lane r j]; exact (sel 32 j).trans (by show j.val / 16 + 32 = _; omega)))
    | exact congrArg₂ _ rfl (scl s r _ _ _ _ (by rw [lane r j]; exact (sel 32 j).trans (by show j.val / 16 + 32 = _; omega)))

theorem st30 (a : Vec Ideal S256x768 .i8) (s : Vec Ideal S256x48 .f32) (r : Fin 256) (j : Fin 128) :
    k0_pay30 (k0_pay8 (F := Ideal) a) (k0_pay9 s) (k0_pay13 k0_pay10 k0_pay11 k0_pay12 0#32) (ix2 r j)
      = (((16 * Cert.Spec.hi (a (ix2 r ⟨512 + j.val, by omega⟩)) : ℤ) : ℝ) : EReal) * s (ix2 r ⟨(512 + j.val) / 16, by omega⟩) := by
  pointwise [k0_pay30, k0_pay28]
  rw [cvt_hi]
  first
    | exact congrArg₂ _ (congrArg _ (congrArg _ (congrArg _ (congrArg _ (congrArg a (congrArg (ix2 r) (Fin.ext (by dsimp only; omega)))))))) (scl s r _ _ _ _ (by rw [lane r j]; exact (sel 32 j).trans (by show j.val / 16 + 32 = _; omega)))
    | exact congrArg₂ _ rfl (scl s r _ _ _ _ (by rw [lane r j]; exact (sel 32 j).trans (by show j.val / 16 + 32 = _; omega)))

theorem st2 (a : Vec Ideal S256x768 .i8) (s : Vec Ideal S256x48 .f32) (r : Fin 256) (j : Fin 128) :
    k0_pay2 (k0_pay7 (F := Ideal) a) (k0_pay31 (k0_pay9 s) (k0_pay13 k0_pay10 k0_pay11 k0_pay12 0#32)) (ix2 r j)
      = (((16 * Cert.Spec.lo (a (ix2 r ⟨640 + j.val, by omega⟩)) : ℤ) : ℝ) : EReal) * s (ix2 r ⟨(640 + j.val) / 16, by omega⟩) := by
  pointwise [k0_pay2, k0_pay31, k0_pay1]
  rw [cvt_lo]
  first
    | exact congrArg₂ _ (congrArg _ (congrArg _ (congrArg _ (congrArg _ (congrArg a (congrArg (ix2 r) (Fin.ext (by dsimp only; omega)))))))) (scl s r _ _ _ _ (by rw [lane r j]; exact (sel 40 j).trans (by show j.val / 16 + 40 = _; omega)))
    | exact congrArg₂ _ rfl (scl s r _ _ _ _ (by rw [lane r j]; exact (sel 40 j).trans (by show j.val / 16 + 40 = _; omega)))

theorem st3 (a : Vec Ideal S256x768 .i8) (s : Vec Ideal S256x48 .f32) (r : Fin 256) (j : Fin 128) :
    k0_pay3 (k0_pay8 (F := Ideal) a) (k0_pay31 (k0_pay9 s) (k0_pay13 k0_pay10 k0_pay11 k0_pay12 0#32)) (ix2 r j)
      = (((16 * Cert.Spec.hi (a (ix2 r ⟨640 + j.val, by omega⟩)) : ℤ) : ℝ) : EReal) * s (ix2 r ⟨(640 + j.val) / 16, by omega⟩) := by
  pointwise [k0_pay3, k0_pay31, k0_pay1]
  rw [cvt_hi]
  first
    | exact congrArg₂ _ (congrArg _ (congrArg _ (congrArg _ (congrArg _ (congrArg a (congrArg (ix2 r) (Fin.ext (by dsimp only; omega)))))))) (scl s r _ _ _ _ (by rw [lane r j]; exact (sel 40 j).trans (by show j.val / 16 + 40 = _; omega)))
    | exact congrArg₂ _ rfl (scl s r _ _ _ _ (by rw [lane r j]; exact (sel 40 j).trans (by show j.val / 16 + 40 = _; omega)))

end Cert.KernelIdeal.Gen

end
-- ==== Proof.My.Codes.lean ====
/- The quantiser's stored values: the codes, even lanes first, and the row scales. -/
module

public import proofs.«01_k».proof.Proof.My.Spec

@[expose] public section

set_option maxRecDepth 8192

noncomputable section

namespace Cert.KernelIdeal.Gen

open Idealize.ShloMosaic

/-- A row of the tile. -/
abbrev rowOf (v : Vec Ideal S256x1536 .bf16) (r : Fin 256) : Fin 1536 → EReal := fun j => v (ix2 r j)

theorem pay33_at (v : Vec Ideal S256x1536 .bf16) (r : Fin 256) : k0_pay33 v (ix2 r 0) = Cert.Quant.word (rowOf v r) := by
  pointwise [k0_pay33, k0_pay32]
  rfl

theorem pay34_at (v : Vec Ideal S256x1536 .bf16) (r : Fin 256) (h : Cert.Spec.Ok (rowOf v r)) :
    k0_pay34 v (ix2 r 0) = (((2 : ℝ) ^ (Cert.Spec.ex (rowOf v r)) : ℝ) : EReal) := by
  obtain ⟨n, hn, hw, he, _⟩ := Cert.Spec.ex_spec _ h
  pointwise [k0_pay34]
  rw [pay33_at, hw, he]
  exact Cert.Quant.scale_word n hn

theorem pay36_at (v : Vec Ideal S256x1536 .bf16) (r : Fin 256) (q : Fin 1536) (h : Cert.Spec.Ok (rowOf v r)) :
    k0_pay36 (k0_pay32 v) (k0_pay35 v) (ix2 r q) = v (ix2 r q) * (((2 : ℝ) ^ (-(Cert.Spec.ex (rowOf v r))) : ℝ) : EReal) := by
  obtain ⟨n, hn, hw, he, hb⟩ := Cert.Spec.ex_spec _ h
  obtain ⟨x, hx, _⟩ := h
  have hx' : v (ix2 r q) = (x q : EReal) := hx q
  pointwise [k0_pay36, k0_pay35, k0_pay32]
  rw [pay33_at, hw, Cert.Quant.inv_word n hn, Cert.Quant.top, Cert.Quant.bot, hx', Cert.Quant.clip (x q) ((2 : ℝ) ^ ((n : ℤ) - 126)) _ (by positivity), he, neg_sub, EReal.coe_mul]
  · rw [← zpow_add₀ (by norm_num : (2 : ℝ) ≠ 0)]
    have : (n : ℤ) - 126 + (126 - (n : ℤ)) = 0 := by ring
    rw [this, zpow_zero]
  · rw [← he]
    exact hb x hx q

/-- The lane the even lanes are gathered from. -/
theorem even (j : Fin 128) :
    (Scalar.select (IntOp.cmpi CmpIPredicate.slt (IntOp.andi (IntOp.muli (2#32) (BitVec.ofNat 32 j.val)) 127#32) 0#32)
      (IntOp.addi (IntOp.andi (IntOp.muli (2#32) (BitVec.ofNat 32 j.val)) 127#32) 128#32)
      (IntOp.andi (IntOp.muli (2#32) (BitVec.ofNat 32 j.val)) 127#32)).toNat % 128 = 2 * j.val % 128 := by
  revert j; decide +kernel

/-- The lane the odd lanes are gathered from. -/
theorem odd (j : Fin 128) :
    (Scalar.select (IntOp.cmpi CmpIPredicate.slt (IntOp.addi (IntOp.andi (IntOp.muli (2#32) (BitVec.ofNat 32 j.val)) 127#32) 1#32) 0#32)
      (IntOp.addi (IntOp.addi (IntOp.andi (IntOp.muli (2#32) (BitVec.ofNat 32 j.val)) 127#32) 1#32) 128#32)
      (IntOp.addi (IntOp.andi (IntOp.muli (2#32) (BitVec.ofNat 32 j.val)) 127#32) 1#32)).toNat % 128 = 2 * j.val % 128 + 1 := by
  revert j; decide +kernel

theorem below (j : Fin 128) : IntOp.cmpi CmpIPredicate.slt (BitVec.ofNat 32 j.val) 64#32 = BitVec.ofBool (decide (j.val < 64)) := by
  revert j; decide +kernel

theorem at_lane (x : FVec Ideal S256x128 .f32) (r : Fin 256) (n m : ℕ) (h : n < 128) (hm : m < 128) (e : n = m) :
    x (ix2 r ⟨n, h⟩) = x (ix2 r ⟨m, hm⟩) := by
  subst e; rfl

theorem gath_even (l q : FVec Ideal S256x128 .f32) (r : Fin 256) (j : Fin 128) :
    (gath l q k0_pay38 (ix2 r j) : EReal) = (if j.val < 64 then l (ix2 r ⟨2 * j.val % 128, by omega⟩) else q (ix2 r ⟨2 * j.val % 128, by omega⟩)) * ((1 / 16 : ℝ) : EReal) := by
  pointwise [gath, k0_pay38, k0_pay37]
  rw [below, Ideal.ofBits_sixteenth_bf16, at_lane l r _ _ _ (by omega) (even j), at_lane q r _ _ _ (by omega) (even j)]
  by_cases h : j.val < 64
  · rw [if_pos h, decide_eq_true h]; rfl
  · rw [if_neg h, decide_eq_false h]; rfl

theorem gath_odd (l q : FVec Ideal S256x128 .f32) (r : Fin 256) (j : Fin 128) :
    (gath l q k0_pay39 (ix2 r j) : EReal) = (if j.val < 64 then l (ix2 r ⟨2 * j.val % 128 + 1, by omega⟩) else q (ix2 r ⟨2 * j.val % 128 + 1, by omega⟩)) * ((1 / 16 : ℝ) : EReal) := by
  pointwise [gath, k0_pay39, k0_pay38, k0_pay37]
  rw [below, Ideal.ofBits_sixteenth_bf16, at_lane l r _ _ _ (by omega) (odd j), at_lane q r _ _ _ (by omega) (odd j)]
  by_cases h : j.val < 64
  · rw [if_pos h, decide_eq_true h]; rfl
  · rw [if_neg h, decide_eq_false h]; rfl

end Cert.KernelIdeal.Gen

end
-- ==== Proof.My.LawQ.lean ====
/- The quantiser's stores establish what is said of the codes and of the scales. -/
module

public import proofs.«01_k».proof.Proof.My.Codes
public import Idealize.ShloMosaic.Lib.Writes
public import Idealize.ShloMosaic.Lib.VecWindow
public import Idealize.ShloMosaic.Lib.Pipeline.ValueKit.Geometry

@[expose] public section

set_option maxRecDepth 8192

noncomputable section

namespace Cert.KernelIdeal.Gen

open Idealize.ShloMosaic

/-- The codes as laid out: even lanes in the first half, odd lanes in the second, each a sixteenth. -/
def G10 (q : FVec Ideal S256x1536 .f32) : S256x1536.Idx → Elt Ideal .bf16 := fun p =>
  if h : (p 1).val < 768 then (q (ix2 (p 0) ⟨2 * (p 1).val, by omega⟩) : EReal) * ((1 / 16 : ℝ) : EReal)
  else (q (ix2 (p 0) ⟨2 * ((p 1).val - 768) + 1, by have : (p 1).val < 1536 := (p 1).isLt; omega⟩) : EReal) * ((1 / 16 : ℝ) : EReal)

theorem G10_lo (q : FVec Ideal S256x1536 .f32) (r : Fin 256) (l : Fin 1536) (h : l.val < 768) :
    G10 q (ix2 r l) = (q (ix2 r ⟨2 * l.val, by omega⟩) : EReal) * ((1 / 16 : ℝ) : EReal) := dif_pos h

theorem G10_hi (q : FVec Ideal S256x1536 .f32) (r : Fin 256) (l : Fin 1536) (h : ¬ l.val < 768) :
    G10 q (ix2 r l) = (q (ix2 r ⟨2 * (l.val - 768) + 1, by omega⟩) : EReal) * ((1 / 16 : ℝ) : EReal) := dif_neg h

theorem q_lane (q : FVec Ideal S256x1536 .f32) (r : Fin 256) (n m : ℕ) (h : n < 1536) (hm : m < 1536) (e : n = m) :
    q (ix2 r ⟨n, h⟩) = q (ix2 r ⟨m, hm⟩) := by
  subst e; rfl

theorem emb2 (o : ℕ) (inb : ∀ a, (![0, o] : Fin 2 → ℕ) a + S256x128.size a ≤ S256x1536.size a) (r : Fin 256) (j : Fin 128) (h : o + j.val < 1536) :
    (Rect.unit (s := S256x1536) ![0, o] S256x128.size inb).emb (ix2 r j) = ix2 r ⟨o + j.val, h⟩ := by
  funext a
  apply Fin.ext
  rw [ValueKit.rect_emb_unit_val]
  match a with
  | ⟨0, _⟩ => exact Nat.zero_add _
  | ⟨1, _⟩ => rfl

theorem in2 (o : ℕ) (inb : ∀ a, (![0, o] : Fin 2 → ℕ) a + S256x128.size a ≤ S256x1536.size a) (y : S256x1536.Idx)
    (h : o ≤ (y 1).val ∧ (y 1).val < o + 128) : y ∈ (Rect.unit (s := S256x1536) ![0, o] S256x128.size inb).set := by
  refine Rect.mem_set_unit.2 (Fin.forall_fin_two.2 ⟨⟨Nat.zero_le _, ?_⟩, h⟩)
  show (y 0).val < 0 + 256
  have : (y 0).val < 256 := (y 0).isLt
  omega

theorem lane_at (q : FVec Ideal S256x1536 .f32) (o : ℕ) (sl : S256x1536.Slices ![0, o] S256x128) (r : Fin 256) (j : Fin 128) (h : o + j.val < 1536) :
    extractStridedSlice S256x128 ![0, o] q sl (ix2 r j) = q (ix2 r ⟨o + j.val, h⟩) := by
  pointwise []

theorem pieceE (q : FVec Ideal S256x1536 .f32) (o o2 o3 : ℕ) (h2 : o2 = 2 * o) (h3 : o3 = 2 * o + 128) (ho : o + 128 ≤ 768)
    (inb : ∀ a, (![0, o] : Fin 2 → ℕ) a + S256x128.size a ≤ S256x1536.size a)
    (s2 : S256x1536.Slices ![0, o2] S256x128) (s3 : S256x1536.Slices ![0, o3] S256x128) (x : S256x128.Idx) :
    gath (extractStridedSlice S256x128 ![0, o2] q s2) (extractStridedSlice S256x128 ![0, o3] q s3) k0_pay38 x
      = G10 q ((Rect.unit (s := S256x1536) ![0, o] S256x128.size inb).emb x) := by
  obtain ⟨r, j, rfl⟩ : ∃ (r : Fin 256) (j : Fin 128), ix2 r j = x := ⟨x 0, x 1, by funext a; match a with | ⟨0, _⟩ => rfl | ⟨1, _⟩ => rfl⟩
  rw [emb2 o inb r j (by omega), G10_lo _ _ _ (by show o + j.val < 768; omega), gath_even]
  congr 1
  by_cases h : j.val < 64
  · rw [if_pos h, lane_at q o2 s2 r _ (by dsimp only; omega)]
    exact q_lane q r _ _ _ _ (by dsimp only; omega)
  · rw [if_neg h, lane_at q o3 s3 r _ (by dsimp only; omega)]
    exact q_lane q r _ _ _ _ (by dsimp only; omega)

theorem pieceO (q : FVec Ideal S256x1536 .f32) (o o2 o3 : ℕ) (h2 : o2 = 2 * (o - 768)) (h3 : o3 = 2 * (o - 768) + 128) (ho : 768 ≤ o ∧ o + 128 ≤ 1536)
    (inb : ∀ a, (![0, o] : Fin 2 → ℕ) a + S256x128.size a ≤ S256x1536.size a)
    (s2 : S256x1536.Slices ![0, o2] S256x128) (s3 : S256x1536.Slices ![0, o3] S256x128) (x : S256x128.Idx) :
    gath (extractStridedSlice S256x128 ![0, o2] q s2) (extractStridedSlice S256x128 ![0, o3] q s3) k0_pay39 x
      = G10 q ((Rect.unit (s := S256x1536) ![0, o] S256x128.size inb).emb x) := by
  obtain ⟨r, j, rfl⟩ : ∃ (r : Fin 256) (j : Fin 128), ix2 r j = x := ⟨x 0, x 1, by funext a; match a with | ⟨0, _⟩ => rfl | ⟨1, _⟩ => rfl⟩
  rw [emb2 o inb r j (by omega), G10_hi _ _ _ (by show ¬ o + j.val < 768; omega), gath_odd]
  congr 1
  by_cases h : j.val < 64
  · rw [if_pos h, lane_at q o2 s2 r _ (by dsimp only; omega)]
    exact q_lane q r _ _ _ _ (by dsimp only; omega)
  · rw [if_neg h, lane_at q o3 s3 r _ (by dsimp only; omega)]
    exact q_lane q r _ _ _ _ (by dsimp only; omega)

theorem qB_pieces (v : Vec Ideal S256x1536 .bf16) :
    ∀ p ∈ qB v, ∀ x : p.1.shape.Idx, p.2 x = G10 (k0_pay36 (k0_pay32 v) (k0_pay35 v)) (p.1.emb x) := by
  intro p hp
  unfold qB at hp
  dsimp only at hp
  simp only [List.mem_cons, List.not_mem_nil, or_false] at hp
  rcases hp with rfl | rfl | rfl | rfl | rfl | rfl | rfl | rfl | rfl | rfl | rfl | rfl
  · exact pieceO _ 1408 1280 1408 rfl rfl (by omega) inb_S256x1536_S256x128_0_1408 slices_S256x1536_o0_1280_S256x128 slices_S256x1536_o0_1408_S256x128
  · exact pieceE _ 640 1280 1408 rfl rfl (by omega) inb_S256x1536_S256x128_0_640 slices_S256x1536_o0_1280_S256x128 slices_S256x1536_o0_1408_S256x128
  · exact pieceO _ 1280 1024 1152 rfl rfl (by omega) inb_S256x1536_S256x128_0_1280 slices_S256x1536_o0_1024_S256x128 slices_S256x1536_o0_1152_S256x128
  · exact pieceE _ 512 1024 1152 rfl rfl (by omega) inb_S256x1536_S256x128_0_512 slices_S256x1536_o0_1024_S256x128 slices_S256x1536_o0_1152_S256x128
  · exact pieceO _ 1152 768 896 rfl rfl (by omega) inb_S256x1536_S256x128_0_1152 slices_S256x1536_o0_768_S256x128 slices_S256x1536_o0_896_S256x128
  · exact pieceE _ 384 768 896 rfl rfl (by omega) inb_S256x1536_S256x128_0_384 slices_S256x1536_o0_768_S256x128 slices_S256x1536_o0_896_S256x128
  · exact pieceO _ 1024 512 640 rfl rfl (by omega) inb_S256x1536_S256x128_0_1024 slices_S256x1536_o0_512_S256x128 slices_S256x1536_o0_640_S256x128
  · exact pieceE _ 256 512 640 rfl rfl (by omega) inb_S256x1536_S256x128_0_256 slices_S256x1536_o0_512_S256x128 slices_S256x1536_o0_640_S256x128
  · exact pieceO _ 896 256 384 rfl rfl (by omega) inb_S256x1536_S256x128_0_896 slices_S256x1536_o0_256_S256x128 slices_S256x1536_o0_384_S256x128
  · exact pieceE _ 128 256 384 rfl rfl (by omega) inb_S256x1536_S256x128_0_128 slices_S256x1536_o0_256_S256x128 slices_S256x1536_o0_384_S256x128
  · exact pieceO _ 768 0 128 rfl rfl (by omega) inb_S256x1536_S256x128_0_768 slices_S256x1536_o0_0_S256x128 slices_S256x1536_o0_128_S256x128
  · exact pieceE _ 0 0 128 rfl rfl (by omega) inb_S256x1536_S256x128_0_0 slices_S256x1536_o0_0_S256x128 slices_S256x1536_o0_128_S256x128

theorem qB_cover (v : Vec Ideal S256x1536 .bf16) (y : S256x1536.Idx) : ∃ p ∈ qB v, y ∈ p.1.set := by
  have hy : (y 1).val < 1536 := (y 1).isLt
  unfold qB
  dsimp only
  have h : (1408 ≤ (y 1).val ∧ (y 1).val < 1408 + 128) ∨ (640 ≤ (y 1).val ∧ (y 1).val < 640 + 128) ∨ (1280 ≤ (y 1).val ∧ (y 1).val < 1280 + 128) ∨ (512 ≤ (y 1).val ∧ (y 1).val < 512 + 128) ∨ (1152 ≤ (y 1).val ∧ (y 1).val < 1152 + 128) ∨ (384 ≤ (y 1).val ∧ (y 1).val < 384 + 128) ∨ (1024 ≤ (y 1).val ∧ (y 1).val < 1024 + 128) ∨ (256 ≤ (y 1).val ∧ (y 1).val < 256 + 128) ∨ (896 ≤ (y 1).val ∧ (y 1).val < 896 + 128) ∨ (128 ≤ (y 1).val ∧ (y 1).val < 128 + 128) ∨ (768 ≤ (y 1).val ∧ (y 1).val < 768 + 128) ∨ (0 ≤ (y 1).val ∧ (y 1).val < 0 + 128) := by omega
  rcases h with h | h | h | h | h | h | h | h | h | h | h | h
  · exact ⟨_, .head _, in2 1408 inb_S256x1536_S256x128_0_1408 y h⟩
  · exact ⟨_, .tail _ (.head _), in2 640 inb_S256x1536_S256x128_0_640 y h⟩
  · exact ⟨_, .tail _ (.tail _ (.head _)), in2 1280 inb_S256x1536_S256x128_0_1280 y h⟩
  · exact ⟨_, .tail _ (.tail _ (.tail _ (.head _))), in2 512 inb_S256x1536_S256x128_0_512 y h⟩
  · exact ⟨_, .tail _ (.tail _ (.tail _ (.tail _ (.head _)))), in2 1152 inb_S256x1536_S256x128_0_1152 y h⟩
  · exact ⟨_, .tail _ (.tail _ (.tail _ (.tail _ (.tail _ (.head _))))), in2 384 inb_S256x1536_S256x128_0_384 y h⟩
  · exact ⟨_, .tail _ (.tail _ (.tail _ (.tail _ (.tail _ (.tail _ (.head _)))))), in2 1024 inb_S256x1536_S256x128_0_1024 y h⟩
  · exact ⟨_, .tail _ (.tail _ (.tail _ (.tail _ (.tail _ (.tail _ (.tail _ (.head _))))))), in2 256 inb_S256x1536_S256x128_0_256 y h⟩
  · exact ⟨_, .tail _ (.tail _ (.tail _ (.tail _ (.tail _ (.tail _ (.tail _ (.tail _ (.head _)))))))), in2 896 inb_S256x1536_S256x128_0_896 y h⟩
  · exact ⟨_, .tail _ (.tail _ (.tail _ (.tail _ (.tail _ (.tail _ (.tail _ (.tail _ (.tail _ (.head _))))))))), in2 128 inb_S256x1536_S256x128_0_128 y h⟩
  · exact ⟨_, .tail _ (.tail _ (.tail _ (.tail _ (.tail _ (.tail _ (.tail _ (.tail _ (.tail _ (.tail _ (.head _)))))))))), in2 768 inb_S256x1536_S256x128_0_768 y h⟩
  · exact ⟨_, .tail _ (.tail _ (.tail _ (.tail _ (.tail _ (.tail _ (.tail _ (.tail _ (.tail _ (.tail _ (.tail _ (.head _))))))))))), in2 0 inb_S256x1536_S256x128_0_0 y h⟩

/-- What is said of the codes. -/
def PCi (Y5 : Vec Ideal S256x1536 .bf16) (C : Vec Ideal S256x1536 .bf16) : Prop :=
  ∀ r : Fin 256, Cert.Spec.Ok (rowOf Y5 r) → ∀ i : Fin 768,
    (C (ix2 r ⟨i.val, by omega⟩) : EReal) = Y5 (ix2 r ⟨2 * i.val, by omega⟩) * (((2 : ℝ) ^ (-(Cert.Spec.ex (rowOf Y5 r))) * (1 / 16) : ℝ) : EReal)
    ∧ (C (ix2 r ⟨768 + i.val, by omega⟩) : EReal) = Y5 (ix2 r ⟨2 * i.val + 1, by omega⟩) * (((2 : ℝ) ^ (-(Cert.Spec.ex (rowOf Y5 r))) * (1 / 16) : ℝ) : EReal)

/-- What is said of the scales. -/
def PSi (Y5 : Vec Ideal S256x1536 .bf16) (S : Vec Ideal S256x1 .f32) : Prop :=
  ∀ r : Fin 256, Cert.Spec.Ok (rowOf Y5 r) → (S (ix2 r 0) : EReal) = (((2 : ℝ) ^ (Cert.Spec.ex (rowOf Y5 r)) : ℝ) : EReal)

theorem lawC (arg5 : Memref sig .tc .vmem S256x1536 .bf16) (arg10 : Memref sig .tc .vmem S256x1536 .bf16)
    (X5 : BufTy.Contents (Elt Ideal) arg5.view.ty) (X10 : BufTy.Contents (Elt Ideal) arg10.view.ty) :
    PCi (arg5.view.read (Elt Ideal) X5) (arg10.view.read (Elt Ideal) (arg10.view.writes (Elt Ideal) X10 (qL10 arg5 X5))) := by
  intro r hr i
  unfold qL10
  rw [View.readAt_full]
  generalize arg5.view.read (Elt Ideal) X5 = v at hr ⊢
  rw [View.read_writes_apply_of_pieces _ _ (G10 (k0_pay36 (k0_pay32 v) (k0_pay35 v))) (qB v) (qB_pieces v) _ (qB_cover v _), View.read_writes_apply_of_pieces _ _ (G10 (k0_pay36 (k0_pay32 v) (k0_pay35 v))) (qB v) (qB_pieces v) _ (qB_cover v _),
    G10_lo _ _ _ (by show i.val < 768; omega), G10_hi _ _ _ (by show ¬ 768 + i.val < 768; omega), pay36_at v r _ hr, pay36_at v r _ hr,
    EReal.coe_mul, mul_assoc, mul_assoc]
  refine ⟨rfl, ?_⟩
  congr 1
  exact congrArg (fun l => v (ix2 r l)) (Fin.ext (by dsimp only; omega))

theorem lawS (arg5 : Memref sig .tc .vmem S256x1536 .bf16) (arg11 : Memref sig .tc .vmem S256x1 .f32)
    (X5 : BufTy.Contents (Elt Ideal) arg5.view.ty) (X11 : BufTy.Contents (Elt Ideal) arg11.view.ty) :
    PSi (arg5.view.read (Elt Ideal) X5) (arg11.view.read (Elt Ideal) (arg11.view.writes (Elt Ideal) X11 (qL11 arg5 X5))) := by
  intro r hr
  unfold qL11
  rw [View.readAt_full]
  generalize arg5.view.read (Elt Ideal) X5 = v at hr ⊢
  rw [View.read_writes_apply_of_pieces _ _ (k0_pay34 v) _ ?_ _ ?_]
  · exact pay34_at v r hr
  · intro p hp
    rcases List.mem_singleton.1 hp with rfl
    intro x
    refine congrArg (k0_pay34 v) ?_
    funext a
    apply Fin.ext
    rw [ValueKit.rect_emb_unit_val]
    match a with
    | ⟨0, _⟩ => exact (Nat.zero_add _).symm
    | ⟨1, _⟩ => exact (Nat.zero_add _).symm
  · refine ⟨_, List.mem_singleton_self _, (Rect.mem_set_unit (inb := inb_S256x1_S256x1_0_0)).2 (Fin.forall_fin_two.2 ⟨⟨Nat.zero_le _, ?_⟩, ⟨Nat.zero_le _, ?_⟩⟩)⟩
    · show r.val < 0 + 256
      omega
    · show 0 < 0 + 1
      omega

end Cert.KernelIdeal.Gen

end
-- ==== Proof.My.LawD.lean ====
/- The dequantising loop's stores establish what is said of the weights. -/
module

public import proofs.«01_k».proof.Proof.My.Deq
public import proofs.«01_k».proof.Proof.My.LawQ
public import Idealize.ShloMosaic.Lib.ValueLayout

@[expose] public section

set_option maxRecDepth 8192

noncomputable section

namespace Cert.KernelIdeal.Gen

open Idealize.ShloMosaic

/-- Sixteen times a byte's low nibble for the first half of the columns and its high nibble for the second, times
    the group's scale. -/
def G9 (w : Fin 5120 → Fin 768 → BitVec 8) (s : Fin 5120 → Fin 48 → EReal) : S5120x1536.Idx → Elt Ideal .bf16 := fun p =>
  if h : (p 1).val < 768 then
    (((16 * Cert.Spec.lo (w (p 0) ⟨(p 1).val, h⟩) : ℤ) : ℝ) : EReal) * s (p 0) ⟨(p 1).val / 16, by omega⟩
  else
    (((16 * Cert.Spec.hi (w (p 0) ⟨(p 1).val - 768, by have : (p 1).val < 1536 := (p 1).isLt; omega⟩) : ℤ) : ℝ) : EReal)
      * s (p 0) ⟨((p 1).val - 768) / 16, by have : (p 1).val < 1536 := (p 1).isLt; omega⟩

theorem G9_lo (w s) (m : Fin 5120) (l : Fin 1536) (h : l.val < 768) :
    G9 w s (ix2 m l) = (((16 * Cert.Spec.lo (w m ⟨l.val, h⟩) : ℤ) : ℝ) : EReal) * s m ⟨l.val / 16, by omega⟩ := dif_pos h

theorem G9_hi (w s) (m : Fin 5120) (l : Fin 1536) (h : ¬ l.val < 768) :
    G9 w s (ix2 m l) = (((16 * Cert.Spec.hi (w m ⟨l.val - 768, by omega⟩) : ℤ) : ℝ) : EReal) * s m ⟨(l.val - 768) / 16, by omega⟩ := dif_neg h

theorem emb9 (k : Fin k0_t1_loop.trips) (o : ℕ) (off : Fin 2 → ℕ) (ho : off = ![256 * k.val, o])
    (inb : ∀ a, off a + (![256, 128] : Fin 2 → ℕ) a ≤ S5120x1536.size a) (r : Fin 256) (j : Fin 128) (h0 : 256 * k.val + r.val < 5120) (h : o + j.val < 1536) :
    (Rect.unit (s := S5120x1536) off ![256, 128] inb).emb (ix2 r j) = ix2 ⟨256 * k.val + r.val, h0⟩ ⟨o + j.val, h⟩ := by
  subst ho
  funext a
  apply Fin.ext
  rw [ValueKit.rect_emb_unit_val]
  match a with
  | ⟨0, _⟩ => rfl
  | ⟨1, _⟩ => rfl

theorem in9 (k : Fin k0_t1_loop.trips) (o : ℕ) (off : Fin 2 → ℕ) (ho : off = ![256 * k.val, o])
    (inb : ∀ a, off a + (![256, 128] : Fin 2 → ℕ) a ≤ S5120x1536.size a) (y : S5120x1536.Idx)
    (h0 : 256 * k.val ≤ (y 0).val ∧ (y 0).val < 256 * k.val + 256) (h : o ≤ (y 1).val ∧ (y 1).val < o + 128) :
    y ∈ (Rect.unit (s := S5120x1536) off ![256, 128] inb).set := by
  subst ho
  exact Rect.mem_set_unit.2 (Fin.forall_fin_two.2 ⟨h0, h⟩)

theorem trips1 (k : Fin k0_t1_loop.trips) : k.val < 20 := Nat.lt_of_lt_of_le k.isLt k0_t1_abs.2.1

theorem at2 {α : Type} {n m : ℕ} (f : Fin n → Fin m → α) (a a' : Fin n) (b b' : Fin m) (h : a.val = a'.val) (h' : b.val = b'.val) : f a b = f a' b' := by
  rw [Fin.ext h, Fin.ext h']

theorem lo_piece (w s) (k : Fin k0_t1_loop.trips) (o : ℕ) (hlt : o + 128 ≤ 768) (off : Fin 2 → ℕ) (ho : off = ![256 * k.val, o])
    (inb : ∀ a, off a + (![256, 128] : Fin 2 → ℕ) a ≤ S5120x1536.size a) (f : S256x128.Idx → EReal)
    (a : Vec Ideal S256x768 .i8) (b : Vec Ideal S256x48 .f32)
    (ha : ∀ (r : Fin 256) (l : Fin 768), a (ix2 r l) = w ⟨256 * k.val + r.val, by have := trips1 k; omega⟩ l)
    (hb : ∀ (r : Fin 256) (l : Fin 48), b (ix2 r l) = s ⟨256 * k.val + r.val, by have := trips1 k; omega⟩ l)
    (hf : ∀ (r : Fin 256) (j : Fin 128), f (ix2 r j)
      = (((16 * Cert.Spec.lo (a (ix2 r ⟨o + j.val, by omega⟩)) : ℤ) : ℝ) : EReal) * b (ix2 r ⟨(o + j.val) / 16, by omega⟩)) (x : S256x128.Idx) :
    f x = G9 w s ((Rect.unit (s := S5120x1536) off ![256, 128] inb).emb x) := by
  have := trips1 k
  obtain ⟨r, j, rfl⟩ : ∃ (r : Fin 256) (j : Fin 128), ix2 r j = x := ⟨x 0, x 1, by funext a; match a with | ⟨0, _⟩ => rfl | ⟨1, _⟩ => rfl⟩
  rw [emb9 k o off ho inb r j (by omega) (by omega), G9_lo _ _ _ _ (by show o + j.val < 768; omega), hf, ha, hb]

theorem hi_piece (w s) (k : Fin k0_t1_loop.trips) (o : ℕ) (hlt : o + 128 ≤ 768) (off : Fin 2 → ℕ) (ho : off = ![256 * k.val, 768 + o])
    (inb : ∀ a, off a + (![256, 128] : Fin 2 → ℕ) a ≤ S5120x1536.size a) (f : S256x128.Idx → EReal)
    (a : Vec Ideal S256x768 .i8) (b : Vec Ideal S256x48 .f32)
    (ha : ∀ (r : Fin 256) (l : Fin 768), a (ix2 r l) = w ⟨256 * k.val + r.val, by have := trips1 k; omega⟩ l)
    (hb : ∀ (r : Fin 256) (l : Fin 48), b (ix2 r l) = s ⟨256 * k.val + r.val, by have := trips1 k; omega⟩ l)
    (hf : ∀ (r : Fin 256) (j : Fin 128), f (ix2 r j)
      = (((16 * Cert.Spec.hi (a (ix2 r ⟨o + j.val, by omega⟩)) : ℤ) : ℝ) : EReal) * b (ix2 r ⟨(o + j.val) / 16, by omega⟩)) (x : S256x128.Idx) :
    f x = G9 w s ((Rect.unit (s := S5120x1536) off ![256, 128] inb).emb x) := by
  have := trips1 k
  obtain ⟨r, j, rfl⟩ : ∃ (r : Fin 256) (j : Fin 128), ix2 r j = x := ⟨x 0, x 1, by funext a; match a with | ⟨0, _⟩ => rfl | ⟨1, _⟩ => rfl⟩
  rw [emb9 k (768 + o) off ho inb r j (by omega) (by omega), G9_hi _ _ _ _ (by show ¬ 768 + o + j.val < 768; omega), hf, ha, hb]
  refine congrArg₂ (· * ·) (congrArg (fun z : BitVec 8 => (((16 * Cert.Spec.hi z : ℤ) : ℝ) : EReal)) (at2 w _ _ _ _ rfl (by dsimp only; omega))) (at2 s _ _ _ _ rfl (by dsimp only; omega))

theorem off16 (k : Fin k0_t1_loop.trips) : k0_off16 k = ![256 * k.val, 768 + 640] := by
  revert k; decide +kernel
theorem off15 (k : Fin k0_t1_loop.trips) : k0_off15 k = ![256 * k.val, 640] := by
  revert k; decide +kernel
theorem off14 (k : Fin k0_t1_loop.trips) : k0_off14 k = ![256 * k.val, 768 + 512] := by
  revert k; decide +kernel
theorem off13 (k : Fin k0_t1_loop.trips) : k0_off13 k = ![256 * k.val, 512] := by
  revert k; decide +kernel
theorem off12 (k : Fin k0_t1_loop.trips) : k0_off12 k = ![256 * k.val, 768 + 384] := by
  revert k; decide +kernel
theorem off11 (k : Fin k0_t1_loop.trips) : k0_off11 k = ![256 * k.val, 384] := by
  revert k; decide +kernel
theorem off10 (k : Fin k0_t1_loop.trips) : k0_off10 k = ![256 * k.val, 768 + 256] := by
  revert k; decide +kernel
theorem off9 (k : Fin k0_t1_loop.trips) : k0_off9 k = ![256 * k.val, 256] := by
  revert k; decide +kernel
theorem off8 (k : Fin k0_t1_loop.trips) : k0_off8 k = ![256 * k.val, 768 + 128] := by
  revert k; decide +kernel
theorem off7 (k : Fin k0_t1_loop.trips) : k0_off7 k = ![256 * k.val, 128] := by
  revert k; decide +kernel
theorem off6 (k : Fin k0_t1_loop.trips) : k0_off6 k = ![256 * k.val, 768 + 0] := by
  revert k; decide +kernel
theorem off5 (k : Fin k0_t1_loop.trips) : k0_off5 k = ![256 * k.val, 0] := by
  revert k; decide +kernel

theorem off3 (k : Fin k0_t1_loop.trips) : k0_off3 k = ![256 * k.val, 0] := by
  revert k; decide +kernel
theorem off4 (k : Fin k0_t1_loop.trips) : k0_off4 k = ![256 * k.val, 0] := by
  revert k; decide +kernel

theorem trip_pieces (w s) (c : Dev nD) (bd : Option Variants.none.V) (i : grid0.Coords) (arg1 : Memref sig .tc .smem S111 .i32) (harg1 : arg1.IsWhole) (arg2 : Memref sig .tc .smem S111 .i32) (harg2 : arg2.IsWhole) (arg3 : Memref sig .tc .smem S17 .i32) (harg3 : arg3.IsWhole) (arg4 : Memref sig .tc .smem S1 .i32) (harg4 : arg4.IsWhole) (arg5 : Memref sig .tc .vmem S256x1536 .bf16) (harg5 : arg5.IsWhole) (arg6 : Memref sig .tc .vmem S1x5120x768 .i8) (harg6 : arg6.IsWhole) (arg7 : Memref sig .tc .vmem S1x5120x48 .f32) (harg7 : arg7.IsWhole) (arg8 : Memref sig .tc .vmem S256x5120 .bf16) (harg8 : arg8.IsWhole) (arg9 : Memref sig .tc .vmem S5120x1536 .bf16) (harg9 : arg9.IsWhole) (arg10 : Memref sig .tc .vmem S256x1536 .bf16) (harg10 : arg10.IsWhole) (arg11 : Memref sig .tc .vmem S256x1 .f32) (harg11 : arg11.IsWhole)
    (X6 : BufTy.Contents (Elt Ideal) (v43 arg6).view.ty) (X7 : BufTy.Contents (Elt Ideal) (v56 arg7).view.ty)
    (hw : ∀ (m : Fin 5120) (l : Fin 768), (v43 arg6).view.read (Elt Ideal) X6 (ix2 m l) = w m l)
    (hs : ∀ (m : Fin 5120) (l : Fin 48), (v56 arg7).view.read (Elt Ideal) X7 (ix2 m l) = s m l) (k : Fin k0_t1_loop.trips) :
    ∀ p ∈ tripL_k0_t1 (F := Ideal) Variants.none c bd i arg1 harg1 arg2 harg2 arg3 harg3 arg4 harg4 arg5 harg5 arg6 harg6 arg7 harg7 arg8 harg8 arg9 harg9 arg10 harg10 arg11 harg11 (v43 arg6) rfl (v56 arg7) rfl X6 X7 k,
      ∀ x : p.1.shape.Idx, p.2 x = G9 w s (p.1.emb x) := by
  have hk := trips1 k
  have ha : ∀ (r : Fin 256) (l : Fin 768), View.readAt (Elt Ideal) (v43 arg6).view (Rect.unit (s := S5120x768) (k0_off3 k) S256x768.size (k0_off3_inb k)).toLoadRect X6 (ix2 r l)
      = w ⟨256 * k.val + r.val, by omega⟩ l := fun r l => by
    rw [← hw]
    refine congrArg ((v43 arg6).view.read (Elt Ideal) X6) ?_
    funext a
    apply Fin.ext
    match a with
    | ⟨0, _⟩ => show k0_off3 k 0 + 1 * r.val = 256 * k.val + r.val; rw [off3]; show 256 * k.val + 1 * r.val = _; omega
    | ⟨1, _⟩ => show k0_off3 k 1 + 1 * l.val = l.val; rw [off3]; show 0 + 1 * l.val = _; omega
  have hb : ∀ (r : Fin 256) (l : Fin 48), View.readAt (Elt Ideal) (v56 arg7).view (Rect.unit (s := S5120x48) (k0_off4 k) S256x48.size (k0_off4_inb k)).toLoadRect X7 (ix2 r l)
      = s ⟨256 * k.val + r.val, by omega⟩ l := fun r l => by
    rw [← hs]
    refine congrArg ((v56 arg7).view.read (Elt Ideal) X7) ?_
    funext a
    apply Fin.ext
    match a with
    | ⟨0, _⟩ => show k0_off4 k 0 + 1 * r.val = 256 * k.val + r.val; rw [off4]; show 256 * k.val + 1 * r.val = _; omega
    | ⟨1, _⟩ => show k0_off4 k 1 + 1 * l.val = l.val; rw [off4]; show 0 + 1 * l.val = _; omega
  intro p hp
  unfold tripL_k0_t1 trip_k0_t1 at hp
  dsimp only at hp
  simp only [List.mem_cons, List.not_mem_nil, or_false] at hp
  rcases hp with rfl | rfl | rfl | rfl | rfl | rfl | rfl | rfl | rfl | rfl | rfl | rfl
  · exact hi_piece w s k 640 (by omega) _ (off16 k) (k0_off16_inb k) _ _ _ ha hb (st3 _ _)
  · exact lo_piece w s k 640 (by omega) _ (off15 k) (k0_off15_inb k) _ _ _ ha hb (st2 _ _)
  · exact hi_piece w s k 512 (by omega) _ (off14 k) (k0_off14_inb k) _ _ _ ha hb (st30 _ _)
  · exact lo_piece w s k 512 (by omega) _ (off13 k) (k0_off13_inb k) _ _ _ ha hb (st29 _ _)
  · exact hi_piece w s k 384 (by omega) _ (off12 k) (k0_off12_inb k) _ _ _ ha hb (st27 _ _)
  · exact lo_piece w s k 384 (by omega) _ (off11 k) (k0_off11_inb k) _ _ _ ha hb (st26 _ _)
  · exact hi_piece w s k 256 (by omega) _ (off10 k) (k0_off10_inb k) _ _ _ ha hb (st23 _ _)
  · exact lo_piece w s k 256 (by omega) _ (off9 k) (k0_off9_inb k) _ _ _ ha hb (st22 _ _)
  · exact hi_piece w s k 128 (by omega) _ (off8 k) (k0_off8_inb k) _ _ _ ha hb (st20 _ _)
  · exact lo_piece w s k 128 (by omega) _ (off7 k) (k0_off7_inb k) _ _ _ ha hb (st19 _ _)
  · exact hi_piece w s k 0 (by omega) _ (off6 k) (k0_off6_inb k) _ _ _ ha hb (st16 _ _)
  · exact lo_piece w s k 0 (by omega) _ (off5 k) (k0_off5_inb k) _ _ _ ha hb (st15 _ _)

theorem trip_cover (c : Dev nD) (bd : Option Variants.none.V) (i : grid0.Coords) (arg1 : Memref sig .tc .smem S111 .i32) (harg1 : arg1.IsWhole) (arg2 : Memref sig .tc .smem S111 .i32) (harg2 : arg2.IsWhole) (arg3 : Memref sig .tc .smem S17 .i32) (harg3 : arg3.IsWhole) (arg4 : Memref sig .tc .smem S1 .i32) (harg4 : arg4.IsWhole) (arg5 : Memref sig .tc .vmem S256x1536 .bf16) (harg5 : arg5.IsWhole) (arg6 : Memref sig .tc .vmem S1x5120x768 .i8) (harg6 : arg6.IsWhole) (arg7 : Memref sig .tc .vmem S1x5120x48 .f32) (harg7 : arg7.IsWhole) (arg8 : Memref sig .tc .vmem S256x5120 .bf16) (harg8 : arg8.IsWhole) (arg9 : Memref sig .tc .vmem S5120x1536 .bf16) (harg9 : arg9.IsWhole) (arg10 : Memref sig .tc .vmem S256x1536 .bf16) (harg10 : arg10.IsWhole) (arg11 : Memref sig .tc .vmem S256x1 .f32) (harg11 : arg11.IsWhole)
    (X6 : BufTy.Contents (Elt Ideal) (v43 arg6).view.ty) (X7 : BufTy.Contents (Elt Ideal) (v56 arg7).view.ty) (k : Fin k0_t1_loop.trips) (y : S5120x1536.Idx)
    (h0 : 256 * k.val ≤ (y 0).val ∧ (y 0).val < 256 * k.val + 256) :
    ∃ p ∈ tripL_k0_t1 (F := Ideal) Variants.none c bd i arg1 harg1 arg2 harg2 arg3 harg3 arg4 harg4 arg5 harg5 arg6 harg6 arg7 harg7 arg8 harg8 arg9 harg9 arg10 harg10 arg11 harg11 (v43 arg6) rfl (v56 arg7) rfl X6 X7 k, y ∈ p.1.set := by
  have hy : (y 1).val < 1536 := (y 1).isLt
  unfold tripL_k0_t1 trip_k0_t1
  dsimp only
  have h : (1408 ≤ (y 1).val ∧ (y 1).val < 1408 + 128) ∨ (640 ≤ (y 1).val ∧ (y 1).val < 640 + 128) ∨ (1280 ≤ (y 1).val ∧ (y 1).val < 1280 + 128) ∨ (512 ≤ (y 1).val ∧ (y 1).val < 512 + 128) ∨ (1152 ≤ (y 1).val ∧ (y 1).val < 1152 + 128) ∨ (384 ≤ (y 1).val ∧ (y 1).val < 384 + 128) ∨ (1024 ≤ (y 1).val ∧ (y 1).val < 1024 + 128) ∨ (256 ≤ (y 1).val ∧ (y 1).val < 256 + 128) ∨ (896 ≤ (y 1).val ∧ (y 1).val < 896 + 128) ∨ (128 ≤ (y 1).val ∧ (y 1).val < 128 + 128) ∨ (768 ≤ (y 1).val ∧ (y 1).val < 768 + 128) ∨ (0 ≤ (y 1).val ∧ (y 1).val < 0 + 128) := by omega
  rcases h with h | h | h | h | h | h | h | h | h | h | h | h
  · exact ⟨_, .head _, in9 k 1408 _ (off16 k) (k0_off16_inb k) y h0 h⟩
  · exact ⟨_, .tail _ (.head _), in9 k 640 _ (off15 k) (k0_off15_inb k) y h0 h⟩
  · exact ⟨_, .tail _ (.tail _ (.head _)), in9 k 1280 _ (off14 k) (k0_off14_inb k) y h0 h⟩
  · exact ⟨_, .tail _ (.tail _ (.tail _ (.head _))), in9 k 512 _ (off13 k) (k0_off13_inb k) y h0 h⟩
  · exact ⟨_, .tail _ (.tail _ (.tail _ (.tail _ (.head _)))), in9 k 1152 _ (off12 k) (k0_off12_inb k) y h0 h⟩
  · exact ⟨_, .tail _ (.tail _ (.tail _ (.tail _ (.tail _ (.head _))))), in9 k 384 _ (off11 k) (k0_off11_inb k) y h0 h⟩
  · exact ⟨_, .tail _ (.tail _ (.tail _ (.tail _ (.tail _ (.tail _ (.head _)))))), in9 k 1024 _ (off10 k) (k0_off10_inb k) y h0 h⟩
  · exact ⟨_, .tail _ (.tail _ (.tail _ (.tail _ (.tail _ (.tail _ (.tail _ (.head _))))))), in9 k 256 _ (off9 k) (k0_off9_inb k) y h0 h⟩
  · exact ⟨_, .tail _ (.tail _ (.tail _ (.tail _ (.tail _ (.tail _ (.tail _ (.tail _ (.head _)))))))), in9 k 896 _ (off8 k) (k0_off8_inb k) y h0 h⟩
  · exact ⟨_, .tail _ (.tail _ (.tail _ (.tail _ (.tail _ (.tail _ (.tail _ (.tail _ (.tail _ (.head _))))))))), in9 k 128 _ (off7 k) (k0_off7_inb k) y h0 h⟩
  · exact ⟨_, .tail _ (.tail _ (.tail _ (.tail _ (.tail _ (.tail _ (.tail _ (.tail _ (.tail _ (.tail _ (.head _)))))))))), in9 k 768 _ (off6 k) (k0_off6_inb k) y h0 h⟩
  · exact ⟨_, .tail _ (.tail _ (.tail _ (.tail _ (.tail _ (.tail _ (.tail _ (.tail _ (.tail _ (.tail _ (.tail _ (.head _))))))))))), in9 k 0 _ (off5 k) (k0_off5_inb k) y h0 h⟩

theorem pb_pieces (w s) (c : Dev nD) (bd : Option Variants.none.V) (i : grid0.Coords) (arg1 : Memref sig .tc .smem S111 .i32) (harg1 : arg1.IsWhole) (arg2 : Memref sig .tc .smem S111 .i32) (harg2 : arg2.IsWhole) (arg3 : Memref sig .tc .smem S17 .i32) (harg3 : arg3.IsWhole) (arg4 : Memref sig .tc .smem S1 .i32) (harg4 : arg4.IsWhole) (arg5 : Memref sig .tc .vmem S256x1536 .bf16) (harg5 : arg5.IsWhole) (arg6 : Memref sig .tc .vmem S1x5120x768 .i8) (harg6 : arg6.IsWhole) (arg7 : Memref sig .tc .vmem S1x5120x48 .f32) (harg7 : arg7.IsWhole) (arg8 : Memref sig .tc .vmem S256x5120 .bf16) (harg8 : arg8.IsWhole) (arg9 : Memref sig .tc .vmem S5120x1536 .bf16) (harg9 : arg9.IsWhole) (arg10 : Memref sig .tc .vmem S256x1536 .bf16) (harg10 : arg10.IsWhole) (arg11 : Memref sig .tc .vmem S256x1 .f32) (harg11 : arg11.IsWhole)
    (X6 : BufTy.Contents (Elt Ideal) (v43 arg6).view.ty) (X7 : BufTy.Contents (Elt Ideal) (v56 arg7).view.ty)
    (hw : ∀ (m : Fin 5120) (l : Fin 768), (v43 arg6).view.read (Elt Ideal) X6 (ix2 m l) = w m l)
    (hs : ∀ (m : Fin 5120) (l : Fin 48), (v56 arg7).view.read (Elt Ideal) X7 (ix2 m l) = s m l) (n : ℕ) (hn : n ≤ k0_t1_loop.trips) :
    ∀ p ∈ pb_k0_t1 (F := Ideal) Variants.none c bd i arg1 harg1 arg2 harg2 arg3 harg3 arg4 harg4 arg5 harg5 arg6 harg6 arg7 harg7 arg8 harg8 arg9 harg9 arg10 harg10 arg11 harg11 (v43 arg6) rfl (v56 arg7) rfl X6 X7 n, ∀ x : p.1.shape.Idx, p.2 x = G9 w s (p.1.emb x) := by
  induction n with
  | zero => intro p hp; exact absurd hp List.not_mem_nil
  | succ n ih =>
    intro p hp
    rw [pb_k0_t1_succ Variants.none c bd i arg1 harg1 arg2 harg2 arg3 harg3 arg4 harg4 arg5 harg5 arg6 harg6 arg7 harg7 arg8 harg8 arg9 harg9 arg10 harg10 arg11 harg11 (v43 arg6) rfl (v56 arg7) rfl X6 X7 ⟨n, hn⟩] at hp
    rcases List.mem_append.1 hp with h | h
    · exact trip_pieces w s c bd i arg1 harg1 arg2 harg2 arg3 harg3 arg4 harg4 arg5 harg5 arg6 harg6 arg7 harg7 arg8 harg8 arg9 harg9 arg10 harg10 arg11 harg11 X6 X7 hw hs ⟨n, hn⟩ p h
    · exact ih (by omega) p h

theorem pb_cover (c : Dev nD) (bd : Option Variants.none.V) (i : grid0.Coords) (arg1 : Memref sig .tc .smem S111 .i32) (harg1 : arg1.IsWhole) (arg2 : Memref sig .tc .smem S111 .i32) (harg2 : arg2.IsWhole) (arg3 : Memref sig .tc .smem S17 .i32) (harg3 : arg3.IsWhole) (arg4 : Memref sig .tc .smem S1 .i32) (harg4 : arg4.IsWhole) (arg5 : Memref sig .tc .vmem S256x1536 .bf16) (harg5 : arg5.IsWhole) (arg6 : Memref sig .tc .vmem S1x5120x768 .i8) (harg6 : arg6.IsWhole) (arg7 : Memref sig .tc .vmem S1x5120x48 .f32) (harg7 : arg7.IsWhole) (arg8 : Memref sig .tc .vmem S256x5120 .bf16) (harg8 : arg8.IsWhole) (arg9 : Memref sig .tc .vmem S5120x1536 .bf16) (harg9 : arg9.IsWhole) (arg10 : Memref sig .tc .vmem S256x1536 .bf16) (harg10 : arg10.IsWhole) (arg11 : Memref sig .tc .vmem S256x1 .f32) (harg11 : arg11.IsWhole)
    (X6 : BufTy.Contents (Elt Ideal) (v43 arg6).view.ty) (X7 : BufTy.Contents (Elt Ideal) (v56 arg7).view.ty) (n : ℕ) (hn : n ≤ k0_t1_loop.trips) (y : S5120x1536.Idx) (h0 : (y 0).val < 256 * n) :
    ∃ p ∈ pb_k0_t1 (F := Ideal) Variants.none c bd i arg1 harg1 arg2 harg2 arg3 harg3 arg4 harg4 arg5 harg5 arg6 harg6 arg7 harg7 arg8 harg8 arg9 harg9 arg10 harg10 arg11 harg11 (v43 arg6) rfl (v56 arg7) rfl X6 X7 n, y ∈ p.1.set := by
  induction n with
  | zero => omega
  | succ n ih =>
    rw [pb_k0_t1_succ Variants.none c bd i arg1 harg1 arg2 harg2 arg3 harg3 arg4 harg4 arg5 harg5 arg6 harg6 arg7 harg7 arg8 harg8 arg9 harg9 arg10 harg10 arg11 harg11 (v43 arg6) rfl (v56 arg7) rfl X6 X7 ⟨n, hn⟩]
    by_cases h : (y 0).val < 256 * n
    · obtain ⟨p, hp, hy⟩ := ih (by omega) h
      exact ⟨p, List.mem_append_right _ hp, hy⟩
    · obtain ⟨p, hp, hy⟩ := trip_cover c bd i arg1 harg1 arg2 harg2 arg3 harg3 arg4 harg4 arg5 harg5 arg6 harg6 arg7 harg7 arg8 harg8 arg9 harg9 arg10 harg10 arg11 harg11 X6 X7 ⟨n, hn⟩ y ⟨by show 256 * n ≤ _; omega, by show _ < 256 * n + 256; omega⟩
      exact ⟨p, List.mem_append_left _ hp, hy⟩

/-- What is said of the weights. -/
def PWi (Y6 : Vec Ideal S1x5120x768 .i8) (Y7 : Vec Ideal S1x5120x48 .f32) (W : Vec Ideal S5120x1536 .bf16) : Prop :=
  ∀ y : S5120x1536.Idx, W y = G9 (fun m l => Y6 (ix3 0 m l)) (fun m l => Y7 (ix3 0 m l)) y

theorem lawD (c : Dev nD) (bd : Option Variants.none.V) (i : grid0.Coords) (arg1 : Memref sig .tc .smem S111 .i32) (harg1 : arg1.IsWhole) (arg2 : Memref sig .tc .smem S111 .i32) (harg2 : arg2.IsWhole) (arg3 : Memref sig .tc .smem S17 .i32) (harg3 : arg3.IsWhole) (arg4 : Memref sig .tc .smem S1 .i32) (harg4 : arg4.IsWhole) (arg5 : Memref sig .tc .vmem S256x1536 .bf16) (harg5 : arg5.IsWhole) (arg6 : Memref sig .tc .vmem S1x5120x768 .i8) (harg6 : arg6.IsWhole) (arg7 : Memref sig .tc .vmem S1x5120x48 .f32) (harg7 : arg7.IsWhole) (arg8 : Memref sig .tc .vmem S256x5120 .bf16) (harg8 : arg8.IsWhole) (arg9 : Memref sig .tc .vmem S5120x1536 .bf16) (harg9 : arg9.IsWhole) (arg10 : Memref sig .tc .vmem S256x1536 .bf16) (harg10 : arg10.IsWhole) (arg11 : Memref sig .tc .vmem S256x1 .f32) (harg11 : arg11.IsWhole)
    (X6 : BufTy.Contents (Elt Ideal) arg6.view.ty) (X7 : BufTy.Contents (Elt Ideal) arg7.view.ty) (X9 : BufTy.Contents (Elt Ideal) arg9.view.ty) :
    PWi (arg6.view.read (Elt Ideal) X6) (arg7.view.read (Elt Ideal) X7) (arg9.view.read (Elt Ideal) (arg9.view.writes (Elt Ideal) X9 (dqL (F := Ideal) c bd i arg1 harg1 arg2 harg2 arg3 harg3 arg4 harg4 arg5 harg5 arg6 harg6 arg7 harg7 arg8 harg8 arg9 harg9 arg10 harg10 arg11 harg11 X6 X7))) := by
  intro y
  have e20 : Scf.trips k0_t1_loop.lb k0_t1_loop.ub k0_t1_loop.st = 20 := by decide +kernel
  refine View.read_writes_apply_of_pieces _ _ _ _ (pb_pieces _ _ c bd i arg1 harg1 arg2 harg2 arg3 harg3 arg4 harg4 arg5 harg5 arg6 harg6 arg7 harg7 arg8 harg8 arg9 harg9 arg10 harg10 arg11 harg11 X6 X7 ?_ ?_ _ (Nat.le_refl _)) y
    (pb_cover c bd i arg1 harg1 arg2 harg2 arg3 harg3 arg4 harg4 arg5 harg5 arg6 harg6 arg7 harg7 arg8 harg8 arg9 harg9 arg10 harg10 arg11 harg11 X6 X7 _ (Nat.le_refl _) y ?_)
  · intro m l
    rw [Memref.read_squeeze_full]
    exact congrArg (arg6.view.read (Elt Ideal) X6) (ValueIdx.reshapeEquiv_ix2_1ab _ m l)
  · intro m l
    rw [Memref.read_squeeze_full]
    exact congrArg (arg7.view.read (Elt Ideal) X7) (ValueIdx.reshapeEquiv_ix2_1ab _ m l)
  · have : (y 0).val < 5120 := (y 0).isLt
    show (y 0).val < 256 * Scf.trips k0_t1_loop.lb k0_t1_loop.ub k0_t1_loop.st
    rw [e20]
    omega

end Cert.KernelIdeal.Gen

end
-- ==== Proof.My.LawO.lean ====
/- The output loop's stores establish what is said of the result's elements. -/
module

public import proofs.«01_k».proof.Proof.My.LawD

@[expose] public section

set_option maxRecDepth 8192

noncomputable section

namespace Cert.KernelIdeal.Gen

open Idealize.ShloMosaic

theorem signed (a v : BitVec 32) (ha : a.toNat ≤ 24576) (hv : v.toNat < 96) :
    (Scalar.subi a (Scalar.muli v 256#32)).toInt = (a.toNat : ℤ) - v.toNat * 256 := by
  show (a - v * 256#32).toInt = _
  have h1 : (v * 256#32).toNat = v.toNat * 256 := by
    rw [BitVec.toNat_mul, BitVec.toNat_ofNat]
    omega
  rw [BitVec.toInt_eq_toNat_cond, BitVec.toNat_sub, h1]
  split <;> omega

/-- The mask of a row. -/
theorem mask (v1 v24 v29 : BitVec 32) (h1 : v1.toNat < 96) (h24 : v24.toNat ≤ 24576) (h29 : v29.toNat ≤ 24576) (r : Fin 256) :
    IntOp.andi (IntOp.cmpi CmpIPredicate.sge (BitVec.ofNat 32 r.val) (Scalar.subi v24 (Scalar.muli v1 256#32)))
        (IntOp.cmpi CmpIPredicate.slt (BitVec.ofNat 32 r.val) (Scalar.subi v29 (Scalar.muli v1 256#32)))
      = BitVec.ofBool (decide (v24.toNat ≤ v1.toNat * 256 + r.val ∧ v1.toNat * 256 + r.val < v29.toNat)) := by
  have hr : (BitVec.ofNat 32 r.val).toInt = r.val := by
    rw [BitVec.toInt_eq_toNat_cond, BitVec.toNat_ofNat]
    split <;> omega
  have e1 : IntOp.cmpi CmpIPredicate.sge (BitVec.ofNat 32 r.val) (Scalar.subi v24 (Scalar.muli v1 256#32)) = BitVec.ofBool (decide (v24.toNat ≤ v1.toNat * 256 + r.val)) := by
    by_cases h : v24.toNat ≤ v1.toNat * 256 + r.val
    · rw [decide_eq_true h]
      refine IntOp.cmpi_sge.2 ?_
      rw [hr, signed _ _ h24 h1]; omega
    · rw [decide_eq_false h]
      have hn : ¬ ((Scalar.subi v24 (Scalar.muli v1 256#32)).toInt ≤ (BitVec.ofNat 32 r.val).toInt) := by rw [hr, signed _ _ h24 h1]; omega
      have := mt IntOp.cmpi_sge.1 hn
      revert this
      generalize IntOp.cmpi CmpIPredicate.sge (BitVec.ofNat 32 r.val) (Scalar.subi v24 (Scalar.muli v1 256#32)) = b
      revert b; decide
  have e2 : IntOp.cmpi CmpIPredicate.slt (BitVec.ofNat 32 r.val) (Scalar.subi v29 (Scalar.muli v1 256#32)) = BitVec.ofBool (decide (v1.toNat * 256 + r.val < v29.toNat)) := by
    by_cases h : v1.toNat * 256 + r.val < v29.toNat
    · rw [decide_eq_true h]
      refine IntOp.cmpi_slt.2 ?_
      rw [hr, signed _ _ h29 h1]; omega
    · rw [decide_eq_false h]
      have hn : ¬ ((BitVec.ofNat 32 r.val).toInt < (Scalar.subi v29 (Scalar.muli v1 256#32)).toInt) := by rw [hr, signed _ _ h29 h1]; omega
      have := mt IntOp.cmpi_slt.1 hn
      revert this
      generalize IntOp.cmpi CmpIPredicate.slt (BitVec.ofNat 32 r.val) (Scalar.subi v29 (Scalar.muli v1 256#32)) = b
      revert b; decide
  rw [e1, e2]
  by_cases h : v24.toNat ≤ v1.toNat * 256 + r.val <;> by_cases h' : v1.toNat * 256 + r.val < v29.toNat <;> simp only [h, h'] <;> decide

/-- What the loop leaves of one element: the rescaled product under the mask, and what was there elsewhere. -/
def newOut (v1 v24 v29 : BitVec 32) (C : Vec Ideal S256x1536 .bf16) (W : Vec Ideal S5120x1536 .bf16) (S : Vec Ideal S256x1 .f32)
    (old : Vec Ideal S256x5120 .bf16) (r : Fin 256) (l : Fin 5120) : EReal :=
  Scalar.select (IntOp.andi (IntOp.cmpi CmpIPredicate.sge (BitVec.ofNat 32 r.val) (Scalar.subi v24 (Scalar.muli v1 256#32)))
        (IntOp.cmpi CmpIPredicate.slt (BitVec.ofNat 32 r.val) (Scalar.subi v29 (Scalar.muli v1 256#32))))
      ((∑ x : Fin 1536, (C (ix2 r x) : EReal) * W (ix2 l x)) * (S (ix2 r 0) : EReal)) (old (ix2 r l))

theorem pay5_at (v1 v24 v29 : BitVec 32) (C : Vec Ideal S256x1536 .bf16) (W : Vec Ideal S5120x1536 .bf16) (S : Vec Ideal S256x1 .f32) (old : Vec Ideal S256x5120 .bf16)
    (Wk : Vec Ideal S512x1536 .bf16) (ok : Vec Ideal S256x512 .bf16) (k : ℕ) (hk : k < 10)
    (hW : ∀ (j : Fin 512) (x : Fin 1536), Wk (ix2 j x) = W (ix2 ⟨512 * k + j.val, by omega⟩ x))
    (ho : ∀ (r : Fin 256) (j : Fin 512), ok (ix2 r j) = old (ix2 r ⟨512 * k + j.val, by omega⟩)) (r : Fin 256) (j : Fin 512) :
    k0_pay5 (F := Ideal) v1 v24 v29 C Wk S ok (ix2 r j) = newOut v1 v24 v29 C W S old r ⟨512 * k + j.val, by omega⟩ := by
  pointwise [k0_pay5]
  unfold newOut
  rw [ho]
  simp only [hW]

theorem off20 (k : Fin k0_t2_loop.trips) : k0_off20 k = ![512 * k.val, 0] := by
  revert k; decide +kernel
theorem off21 (k : Fin k0_t2_loop.trips) : k0_off21 k = ![0, 512 * k.val] := by
  revert k; decide +kernel

theorem trips2 (k : Fin k0_t2_loop.trips) : k.val < 10 := Nat.lt_of_lt_of_le k.isLt k0_t2_abs.2.1

theorem emb8 (k : ℕ) (hk : k < 10) (off : Fin 2 → ℕ) (ho : off = ![0, 512 * k])
    (inb : ∀ a, off a + (![256, 512] : Fin 2 → ℕ) a ≤ S256x5120.size a) (r : Fin 256) (j : Fin 512) :
    (Rect.unit (s := S256x5120) off ![256, 512] inb).emb (ix2 r j) = ix2 r ⟨512 * k + j.val, by omega⟩ := by
  subst ho
  funext a
  apply Fin.ext
  rw [ValueKit.rect_emb_unit_val]
  match a with
  | ⟨0, _⟩ => exact Nat.zero_add _
  | ⟨1, _⟩ => rfl

theorem out_step (c : Dev nD) (bd : Option Variants.none.V) (i : grid0.Coords) (arg1 : Memref sig .tc .smem S111 .i32) (harg1 : arg1.IsWhole) (arg2 : Memref sig .tc .smem S111 .i32) (harg2 : arg2.IsWhole) (arg3 : Memref sig .tc .smem S17 .i32) (harg3 : arg3.IsWhole) (arg4 : Memref sig .tc .smem S1 .i32) (harg4 : arg4.IsWhole) (arg5 : Memref sig .tc .vmem S256x1536 .bf16) (harg5 : arg5.IsWhole) (arg6 : Memref sig .tc .vmem S1x5120x768 .i8) (harg6 : arg6.IsWhole) (arg7 : Memref sig .tc .vmem S1x5120x48 .f32) (harg7 : arg7.IsWhole) (arg8 : Memref sig .tc .vmem S256x5120 .bf16) (harg8 : arg8.IsWhole) (arg9 : Memref sig .tc .vmem S5120x1536 .bf16) (harg9 : arg9.IsWhole) (arg10 : Memref sig .tc .vmem S256x1536 .bf16) (harg10 : arg10.IsWhole) (arg11 : Memref sig .tc .vmem S256x1 .f32) (harg11 : arg11.IsWhole) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (v1 v24 v29 : BitVec 32) (n : ℕ) (hn : n ≤ k0_t2_loop.trips) (r : Fin 256) (l : Fin 5120) :
    arg8.view.read (Elt Ideal) (arg8.view.writes (Elt Ideal) X8 (pb_k0_t2 (F := Ideal) Variants.none c bd i arg1 harg1 arg2 harg2 arg3 harg3 arg4 harg4 arg5 harg5 arg6 harg6 arg7 harg7 arg8 harg8 arg9 harg9 arg10 harg10 arg11 harg11 v1 v24 v29 X9 X10 X11 X8 n)) (ix2 r l)
      = if l.val < 512 * n then newOut v1 v24 v29 (arg10.view.read (Elt Ideal) X10) (arg9.view.read (Elt Ideal) X9) (arg11.view.read (Elt Ideal) X11) (arg8.view.read (Elt Ideal) X8) r l
        else arg8.view.read (Elt Ideal) X8 (ix2 r l) := by
  induction n generalizing r l with
  | zero => rw [if_neg (by omega)]; rfl
  | succ n ih =>
    have hk : n < 10 := trips2 ⟨n, hn⟩
    rw [pb_k0_t2_succ Variants.none c bd i arg1 harg1 arg2 harg2 arg3 harg3 arg4 harg4 arg5 harg5 arg6 harg6 arg7 harg7 arg8 harg8 arg9 harg9 arg10 harg10 arg11 harg11 v1 v24 v29 X9 X10 X11 X8 ⟨n, hn⟩, View.writes_append]
    have ih := ih (by omega)
    generalize hG : arg8.view.writes (Elt Ideal) X8 (pb_k0_t2 (F := Ideal) Variants.none c bd i arg1 harg1 arg2 harg2 arg3 harg3 arg4 harg4 arg5 harg5 arg6 harg6 arg7 harg7 arg8 harg8 arg9 harg9 arg10 harg10 arg11 harg11 v1 v24 v29 X9 X10 X11 X8 n) = G at ih
    unfold tripL_k0_t2 trip_k0_t2
    dsimp only
    rw [View.readAt_full, View.readAt_full]
    by_cases hin : 512 * n ≤ l.val ∧ l.val < 512 * n + 512
    · obtain ⟨j, hj⟩ : ∃ j : Fin 512, (⟨512 * n + j.val, by omega⟩ : Fin 5120) = l := ⟨⟨l.val - 512 * n, by omega⟩, Fin.ext (by dsimp only; omega)⟩
      rw [if_pos (by omega), ← hj, ← emb8 n hk _ (off21 ⟨n, hn⟩) (k0_off21_inb ⟨n, hn⟩) r j, View.read_writes_cons_emb]
      refine pay5_at v1 v24 v29 _ _ _ _ _ _ n hk ?_ ?_ r j
      · intro j x
        refine congrArg (arg9.view.read (Elt Ideal) X9) ?_
        funext a
        apply Fin.ext
        match a with
        | ⟨0, _⟩ => show k0_off20 ⟨n, hn⟩ 0 + 1 * j.val = 512 * n + j.val; rw [off20]; show 512 * n + 1 * j.val = _; omega
        | ⟨1, _⟩ => show k0_off20 ⟨n, hn⟩ 1 + 1 * x.val = x.val; rw [off20]; show 0 + 1 * x.val = _; omega
      · intro r j
        have h := ih r ⟨512 * n + j.val, by omega⟩
        rw [if_neg (by dsimp only; omega)] at h
        rw [← h]
        exact congrArg (arg8.view.read (Elt Ideal) G) (emb8 n hk _ (off21 ⟨n, hn⟩) (k0_off21_inb ⟨n, hn⟩) r j)
    · rw [View.read_writes_apply_of_forall_not_mem, ih]
      · by_cases h : l.val < 512 * n
        · rw [if_pos h, if_pos (by omega)]
        · rw [if_neg h, if_neg (by omega)]
      · intro p hp hy
        rcases List.mem_singleton.1 hp with rfl
        have h := ((Rect.mem_set_unit (inb := k0_off21_inb ⟨n, hn⟩)).1 hy) 1
        have e : k0_off21 ⟨n, hn⟩ 1 = 512 * n := by rw [off21]; rfl
        apply hin
        have h1 : k0_off21 ⟨n, hn⟩ 1 ≤ l.val := h.1
        have h2 : l.val < k0_off21 ⟨n, hn⟩ 1 + 512 := h.2
        omega

/-- What is said of one element of the output block. -/
def RVi (Y5 : Vec Ideal S256x1536 .bf16) (Y6 : Vec Ideal S1x5120x768 .i8) (Y7 : Vec Ideal S1x5120x48 .f32) (y : S256x5120.Idx) (x : Elt Ideal .bf16) : Prop :=
  Cert.Spec.Ok (rowOf Y5 (y 0)) → x = Cert.Spec.T (rowOf Y5 (y 0)) (fun l => Y6 (ix3 0 (y 1) l)) (fun l => Y7 (ix3 0 (y 1) l))

theorem lawO (c : Dev nD) (bd : Option Variants.none.V) (i : grid0.Coords) (arg1 : Memref sig .tc .smem S111 .i32) (harg1 : arg1.IsWhole) (arg2 : Memref sig .tc .smem S111 .i32) (harg2 : arg2.IsWhole) (arg3 : Memref sig .tc .smem S17 .i32) (harg3 : arg3.IsWhole) (arg4 : Memref sig .tc .smem S1 .i32) (harg4 : arg4.IsWhole) (arg5 : Memref sig .tc .vmem S256x1536 .bf16) (harg5 : arg5.IsWhole) (arg6 : Memref sig .tc .vmem S1x5120x768 .i8) (harg6 : arg6.IsWhole) (arg7 : Memref sig .tc .vmem S1x5120x48 .f32) (harg7 : arg7.IsWhole) (arg8 : Memref sig .tc .vmem S256x5120 .bf16) (harg8 : arg8.IsWhole) (arg9 : Memref sig .tc .vmem S5120x1536 .bf16) (harg9 : arg9.IsWhole) (arg10 : Memref sig .tc .vmem S256x1536 .bf16) (harg10 : arg10.IsWhole) (arg11 : Memref sig .tc .vmem S256x1 .f32) (harg11 : arg11.IsWhole) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (v1 v24 v29 : BitVec 32) (Y5 : Vec Ideal S256x1536 .bf16) (Y6 : Vec Ideal S1x5120x768 .i8) (Y7 : Vec Ideal S1x5120x48 .f32)
    (h1 : v1.toNat < 96) (h24 : v24.toNat ≤ 24576) (h29 : v29.toNat ≤ 24576)
    (hW : PWi Y6 Y7 (arg9.view.read (Elt Ideal) X9)) (hC : PCi Y5 (arg10.view.read (Elt Ideal) X10)) (hS : PSi Y5 (arg11.view.read (Elt Ideal) X11)) (y : S256x5120.Idx) :
      (v24.toNat ≤ v1.toNat * 256 + (y 0).val ∧ v1.toNat * 256 + (y 0).val < v29.toNat →
        RVi Y5 Y6 Y7 y (arg8.view.read (Elt Ideal) (arg8.view.writes (Elt Ideal) X8 (outL (F := Ideal) c bd i arg1 harg1 arg2 harg2 arg3 harg3 arg4 harg4 arg5 harg5 arg6 harg6 arg7 harg7 arg8 harg8 arg9 harg9 arg10 harg10 arg11 harg11 X8 X9 X10 X11 v1 v24 v29)) y))
      ∧ (¬ (v24.toNat ≤ v1.toNat * 256 + (y 0).val ∧ v1.toNat * 256 + (y 0).val < v29.toNat) →
        ∀ Y6' Y7', RVi Y5 Y6' Y7' y (arg8.view.read (Elt Ideal) X8 y) →
          RVi Y5 Y6' Y7' y (arg8.view.read (Elt Ideal) (arg8.view.writes (Elt Ideal) X8 (outL (F := Ideal) c bd i arg1 harg1 arg2 harg2 arg3 harg3 arg4 harg4 arg5 harg5 arg6 harg6 arg7 harg7 arg8 harg8 arg9 harg9 arg10 harg10 arg11 harg11 X8 X9 X10 X11 v1 v24 v29)) y)) := by
  obtain ⟨r, l, rfl⟩ : ∃ (r : Fin 256) (l : Fin 5120), ix2 r l = y := ⟨y 0, y 1, by funext a; match a with | ⟨0, _⟩ => rfl | ⟨1, _⟩ => rfl⟩
  have e10 : Scf.trips k0_t2_loop.lb k0_t2_loop.ub k0_t2_loop.st = 10 := by decide +kernel
  have h := out_step c bd i arg1 harg1 arg2 harg2 arg3 harg3 arg4 harg4 arg5 harg5 arg6 harg6 arg7 harg7 arg8 harg8 arg9 harg9 arg10 harg10 arg11 harg11 X8 X9 X10 X11 v1 v24 v29 (Scf.trips k0_t2_loop.lb k0_t2_loop.ub k0_t2_loop.st) (Nat.le_refl _) r l
  rw [if_pos (by rw [e10]; omega)] at h
  unfold newOut at h
  rw [mask v1 v24 v29 h1 h24 h29 r] at h
  show (v24.toNat ≤ v1.toNat * 256 + r.val ∧ v1.toNat * 256 + r.val < v29.toNat → _) ∧ (¬ (v24.toNat ≤ v1.toNat * 256 + r.val ∧ v1.toNat * 256 + r.val < v29.toNat) → _)
  constructor
  · intro hin hok
    refine h.trans ?_
    rw [decide_eq_true hin]
    show (∑ x : Fin 1536, _ * _) * _ = _
    rw [hS r hok]
    refine Cert.Spec.comb (rowOf Y5 r) (fun l' => Y6 (ix3 0 l l')) (fun l' => Y7 (ix3 0 l l')) _ _ (fun x => arg9.view.read (Elt Ideal) X9 (ix2 l x)) (fun i => (hC r hok i).1) (fun i => (hC r hok i).2) ?_ ?_
    · intro i
      refine (hW (ix2 l ⟨i.val, by omega⟩)).trans ?_
      exact G9_lo _ _ _ _ (by dsimp only; omega)
    · intro i
      refine (hW (ix2 l ⟨768 + i.val, by omega⟩)).trans ?_
      refine (G9_hi _ _ _ _ (by dsimp only; omega)).trans ?_
      refine congrArg₂ (· * ·) (congrArg (fun z : Fin 768 => (((16 * Cert.Spec.hi (Y6 (ix3 0 l z)) : ℤ) : ℝ) : EReal)) (Fin.ext (by dsimp only; omega)))
        (congrArg (fun z : Fin 48 => Y7 (ix3 0 l z)) (Fin.ext (by dsimp only; omega)))
  · intro hout Y6' Y7' hold hok
    refine h.trans ?_
    rw [decide_eq_false hout]
    exact hold hok

/-- What the value proof carries through the kernel's run. -/
def lawsI : Laws Ideal where
  PW := PWi
  PC := PCi
  PS := PSi
  RV := RVi
  lawD := by
    intros
    apply lawD
  lawC := lawC
  lawS := lawS
  lawO := by
    intros
    apply lawO <;> assumption

end Cert.KernelIdeal.Gen

end
-- ==== Proof.My.Visits.lean ====
/- Every row belongs to one expert, and is reached by one of the visits. -/
module

public import proofs.«01_k».proof.Proof.My.Sched

@[expose] public section

namespace Cert.Sched

variable (f : ℕ → ℕ)

/-- The row `R` is one of the expert `e`'s. -/
def Of (R e : ℕ) : Prop := S f e ≤ R ∧ R < S f (e + 1)

theorem of_unique {R a b : ℕ} (ha : Of f R a) (hb : Of f R b) : a = b := by
  unfold Of at ha hb
  rcases Nat.lt_trichotomy a b with h | h | h
  · have := S_mono f (by omega : a + 1 ≤ b); omega
  · exact h
  · have := S_mono f (by omega : b + 1 ≤ a); omega

theorem of_exists (R n : ℕ) (h : R < S f n) : ∃ e < n, Of f R e := by
  induction n with
  | zero => rw [S_zero] at h; omega
  | succ n ih =>
    rcases Nat.lt_or_ge R (S f n) with h' | h'
    · obtain ⟨e, he, h⟩ := ih h'; exact ⟨e, by omega, h⟩
    · exact ⟨n, by omega, h', h⟩

/-- The row `R`, one of the expert `e`'s, has been reached by a visit before the point `t`. -/
def Done (t R e : ℕ) : Prop := ∃ t' < t, t' < Vv f 16 ∧ R / 256 = Ti f t' ∧ Ex f t' = e ∧ Of f R e

theorem done_zero (R e : ℕ) : ¬ Done f 0 R e := fun ⟨_, h, _⟩ => by omega

theorem done_succ {t R e : ℕ} (h : Done f (t + 1) R e) :
    Done f t R e ∨ (t < Vv f 16 ∧ R / 256 = Ti f t ∧ Ex f t = e ∧ Of f R e) := by
  obtain ⟨t', h1, h2⟩ := h
  rcases Nat.lt_or_ge t' t with h' | h'
  · exact .inl ⟨t', h', h2⟩
  · have : t' = t := by omega
    subst this
    exact .inr h2

section
variable (hsum : S f 16 = 24576)
include hsum

theorem Ti_mono (i : ℕ) : Ti f i ≤ Ti f (i + 1) := by
  have h := ok f hsum
  rcases Nat.lt_or_ge (i + 1) (Vv f 16) with hi | hi
  · rcases h.step i hi with h | h <;> omega
  · have e1 := (h.tail (i + 1) hi).1
    rcases Nat.lt_or_ge i (Vv f 16) with h' | h'
    · have : Vv f 16 - 1 = i := by omega
      rw [this] at e1; omega
    · have := (h.tail i h').1; omega

theorem Ti_le {i j : ℕ} (h : i ≤ j) : Ti f i ≤ Ti f j := monotone_nat_of_le_succ (Ti_mono f hsum) h

/-- Every row of an expert is reached in the end. -/
theorem done_all (R e : ℕ) (he : e < 16) (h : Of f R e) : Done f 111 R e := by
  unfold Of at h
  have h1 := S_succ f e
  have h2 := Vv_succ f e
  have h3 : C f e = (S f (e + 1) + 255) / 256 - S f e / 256 := by unfold C; rw [if_pos (by omega)]
  have h4 := Vv_mono f (by omega : e + 1 ≤ 16)
  have hk := ok f hsum
  have hle := hk.le
  set t := Vv f e + (R / 256 - S f e / 256) with ht
  have ht1 : t < Vv f (e + 1) := by omega
  have hn : nn f t = t := by unfold nn; omega
  have hs := spec f hsum t
  rw [hn] at hs
  have hE : Ex f t = e := by
    rcases Nat.lt_trichotomy (Ex f t) e with hh | hh | hh
    · have := Vv_mono f (by omega : Ex f t + 1 ≤ e); omega
    · exact hh
    · have := Vv_mono f (by omega : e + 1 ≤ Ex f t); omega
  have hT := tile f hsum t
  rw [hE, hn] at hT
  exact ⟨t, by omega, by omega, by omega, hE, h⟩

end

end Cert.Sched
-- ==== Proof.My.Arr.lean ====
/- What the result array holds in the end: every row's products, with the row's expert's weights. -/
module

public import proofs.«01_k».proof.Proof.My.LawO
public import proofs.«01_k».proof.Proof.My.Visits
public import proofs.«01_k».proof.Proof.My.Frame

@[expose] public section

set_option maxRecDepth 8192

noncomputable section

namespace Cert.KernelIdeal.Gen

open Idealize.ShloMosaic Idealize.ShloMosaic.TcCoe Idealize.ShloMosaic.Tactic
open Idealize.ShloMosaic.Pipeline (RDat Cfg)

/-- A row of the activations. -/
def rowD (D : FVec Ideal S24576x1536 .bf16) (R : Fin 24576) : Fin 1536 → EReal := fun j => D (ix2 R j)

/-- An element of the product: the row `R` with the weights of column `l` of the expert `e`. -/
def Dot (D : FVec Ideal S24576x1536 .bf16) (W : IVec S16x5120x768 8) (Sc : FVec Ideal S16x5120x48 .f32)
    (R : Fin 24576) (e : Fin 16) (l : Fin 5120) : EReal :=
  Cert.Spec.T (rowD D R) (fun i => W (ix3 e l i)) (fun i => Sc (ix3 e l i))

/-- The element is the product, if the row is finite. -/
def Good (D : FVec Ideal S24576x1536 .bf16) (W : IVec S16x5120x768 8) (Sc : FVec Ideal S16x5120x48 .f32)
    (R : Fin 24576) (e : Fin 16) (l : Fin 5120) (x : EReal) : Prop :=
  Cert.Spec.Ok (rowD D R) → x = Dot D W Sc R e l

variable (m : (ℓ : Loc nD τ sig) → Buf (Elt Ideal) ℓ) (pf : pre0.Contents (Elt Ideal)) (hok : ok0 pf) (c : Dev nD)

/-- The three arrays the kernel reads. -/
abbrev aD : FVec Ideal S24576x1536 .bf16 := Vk m c main_arg0
abbrev aW : IVec S16x5120x768 8 := Vk m c main_arg2
abbrev aS : FVec Ideal S16x5120x48 .f32 := Vk m c main_arg3

theorem blk_read (w : Fin 4) (t : Fin (cfgK pf hok).N) (y : ((cfgK pf hok).win w).block.Idx) :
    blkK m pf hok c w t y = (((cfgK pf hok).win w).blk t).view.read (Elt Ideal) (Vk m c (Pipeline.arrRef spec0 w)) fun a => ⟨(y a).val, (y a).isLt⟩ := by
  have hm : ((cfgK pf hok).win w).moved ((cfgK pf hok).grid.coords t) y = true :=
    (((cfgK pf hok).win w).moved_iff _ y).mpr fun a => (y a).isLt
  unfold blkK Pipeline.Window.fill
  rw [dif_pos hm]

theorem place0 (t : Fin (cfgK pf hok).N) (r : Fin 256) (j : Fin 1536) (R : Fin 24576) (hR : R.val = (tT pf t.val).toNat * 256 + r.val) :
    (((cfgK pf hok).win 0).blk t).view.emb (ix2 r j) = (ix2 R j) := by
  have h := index0 pf hok t
  funext a
  apply Fin.ext
  match a with
  | ⟨0, _⟩ =>
    show ((cfgK pf hok).win 0).index t (0 : Fin 2) * 256 + 1 * r.val = R.val
    rw [h]; show (tT pf t.val).toNat * 256 + 1 * r.val = R.val; omega
  | ⟨1, _⟩ =>
    show ((cfgK pf hok).win 0).index t (1 : Fin 2) * 1536 + 1 * j.val = j.val
    rw [h]; show 0 * 1536 + 1 * j.val = j.val; omega

theorem blk0_at (t : Fin (cfgK pf hok).N) (r : Fin 256) (j : Fin 1536) (R : Fin 24576) (hR : R.val = (tT pf t.val).toNat * 256 + r.val) :
    (blkK m pf hok c 0 t : FVec Ideal S256x1536 .bf16) (ix2 r j) = aD m c (ix2 R j) :=
  (blk_read m pf hok c 0 t (ix2 r j)).trans (congrArg (aD m c) (place0 pf hok t r j R hR))

theorem place1 (t : Fin (cfgK pf hok).N) (l : Fin 5120) (j : Fin 768) (e : Fin 16) (he : (tE pf t.val).toNat = e.val) :
    (((cfgK pf hok).win 1).blk t).view.emb (ix3 (0 : Fin 1) l j) = (ix3 e l j) := by
  have h := index1 pf hok t
  funext a
  apply Fin.ext
  match a with
  | ⟨0, _⟩ =>
    show ((cfgK pf hok).win 1).index t (0 : Fin 3) * 1 + 1 * 0 = e.val
    rw [h]; show (tE pf t.val).toNat * 1 + 1 * 0 = e.val; omega
  | ⟨1, _⟩ =>
    show ((cfgK pf hok).win 1).index t (1 : Fin 3) * 5120 + 1 * l.val = l.val
    rw [h]; show 0 * 5120 + 1 * l.val = l.val; omega
  | ⟨2, _⟩ =>
    show ((cfgK pf hok).win 1).index t (2 : Fin 3) * 768 + 1 * j.val = j.val
    rw [h]; show 0 * 768 + 1 * j.val = j.val; omega

theorem blk1_at (t : Fin (cfgK pf hok).N) (l : Fin 5120) (j : Fin 768) (e : Fin 16) (he : (tE pf t.val).toNat = e.val) :
    (blkK m pf hok c 1 t : IVec S1x5120x768 8) (ix3 (0 : Fin 1) l j) = aW m c (ix3 e l j) :=
  (blk_read m pf hok c 1 t (ix3 (0 : Fin 1) l j)).trans (congrArg (aW m c) (place1 pf hok t l j e he))

theorem place2 (t : Fin (cfgK pf hok).N) (l : Fin 5120) (j : Fin 48) (e : Fin 16) (he : (tE pf t.val).toNat = e.val) :
    (((cfgK pf hok).win 2).blk t).view.emb (ix3 (0 : Fin 1) l j) = (ix3 e l j) := by
  have h := index2 pf hok t
  funext a
  apply Fin.ext
  match a with
  | ⟨0, _⟩ =>
    show ((cfgK pf hok).win 2).index t (0 : Fin 3) * 1 + 1 * 0 = e.val
    rw [h]; show (tE pf t.val).toNat * 1 + 1 * 0 = e.val; omega
  | ⟨1, _⟩ =>
    show ((cfgK pf hok).win 2).index t (1 : Fin 3) * 5120 + 1 * l.val = l.val
    rw [h]; show 0 * 5120 + 1 * l.val = l.val; omega
  | ⟨2, _⟩ =>
    show ((cfgK pf hok).win 2).index t (2 : Fin 3) * 48 + 1 * j.val = j.val
    rw [h]; show 0 * 48 + 1 * j.val = j.val; omega

theorem blk2_at (t : Fin (cfgK pf hok).N) (l : Fin 5120) (j : Fin 48) (e : Fin 16) (he : (tE pf t.val).toNat = e.val) :
    (blkK m pf hok c 2 t : FVec Ideal S1x5120x48 .f32) (ix3 (0 : Fin 1) l j) = aS m c (ix3 e l j) :=
  (blk_read m pf hok c 2 t (ix3 (0 : Fin 1) l j)).trans (congrArg (aS m c) (place2 pf hok t l j e he))

theorem row_at (t : Fin (cfgK pf hok).N) (r : Fin 256) (R : Fin 24576) (hR : R.val = (tT pf t.val).toNat * 256 + r.val) :
    rowOf (blkK m pf hok c 0 t) r = rowD (aD m c) R := funext fun j => blk0_at m pf hok c t r j R hR

/-- What the run says of an element at the point of its own expert. -/
theorem rv_own (t : Fin (cfgK pf hok).N) (r : Fin 256) (l : Fin 5120) (R : Fin 24576) (hR : R.val = (tT pf t.val).toNat * 256 + r.val)
    (e : Fin 16) (he : (tE pf t.val).toNat = e.val) (x : EReal)
    (h : RVi (blkK m pf hok c 0 t) (blkK m pf hok c 1 t) (blkK m pf hok c 2 t) (ix2 r l) x) : Good (aD m c) (aW m c) (aS m c) R e l x := by
  intro hk
  have h' := h ((congrArg Cert.Spec.Ok (row_at m pf hok c t r R hR)).mpr hk)
  refine h'.trans ?_
  unfold Dot
  have e0 : rowOf (blkK m pf hok c 0 t) ((ix2 r l : S256x5120.Idx) 0) = rowD (aD m c) R := row_at m pf hok c t r R hR
  rw [e0]
  exact congrArg₂ (Cert.Spec.T _) (funext fun i => blk1_at m pf hok c t l i e he) (funext fun i => blk2_at m pf hok c t l i e he)

/-- The weights of one expert, laid out as a block of them. -/
def wOf (e : Fin 16) : IVec S1x5120x768 8 := fun i => aW m c (ix3 e (i 1) (i 2))
def sOf (e : Fin 16) : FVec Ideal S1x5120x48 .f32 := fun i => aS m c (ix3 e (i 1) (i 2))

theorem rv_any (t : Fin (cfgK pf hok).N) (r : Fin 256) (l : Fin 5120) (R : Fin 24576) (hR : R.val = (tT pf t.val).toNat * 256 + r.val)
    (e : Fin 16) (x : EReal) :
    RVi (blkK m pf hok c 0 t) (wOf m c e) (sOf m c e) (ix2 r l) x ↔ Good (aD m c) (aW m c) (aS m c) R e l x := by
  have e0 : rowOf (blkK m pf hok c 0 t) ((ix2 r l : S256x5120.Idx) 0) = rowD (aD m c) R := row_at m pf hok c t r R hR
  unfold RVi Good Dot
  rw [e0]
  exact Iff.rfl

variable {m} {f : ℕ → ℕ} (hf : Cert.Counts.Are (sizesAt m) f)

/-- What holds of a block of the result at a point: the rows of its tile that have been reached hold their products. -/
def Rows (n t : ℕ) (X : FVec Ideal S256x5120 .bf16) : Prop :=
  ∀ (r : Fin 256) (l : Fin 5120) (R : Fin 24576) (e : Fin 16), R.val = Cert.Sched.Ti f t * 256 + r.val → Cert.Sched.Done f n R e →
    Good (aD m c) (aW m c) (aS m c) R e l (X (ix2 r l))

include hf in
theorem leaves_of (t : Fin (cfgK (pfK m) (okK hf)).N) (Y X : FVec Ideal S256x5120 .bf16)
    (hY : Rows c (m := m) (f := f) t.val t.val Y) (h : (rdat m (pfK m) (okK hf) lawsI c).after 3 t Y X) : Rows c (m := m) (f := f) (t.val + 1) t.val X := by
  intro r l R e hR hD
  have ht : t.val < 111 := t.isLt.trans_eq (N_eq _ _)
  have hE := (Cert.Sched.spec f hf.sum t.val).1
  obtain ⟨h1, h2⟩ := (show Step lawsI _ _ _ _ _ _ _ Y X from h)
  rw [tN_nat hf, tT_nat hf _ ht, tE_nat hf _ ht, tS_nat hf _ (by omega), tS_nat hf _ (by omega)] at h2
  rw [tN_nat hf] at h1
  have hT : R.val = (tT (pfK m) t.val).toNat * 256 + r.val := by rw [tT_nat hf _ ht]; exact hR
  by_cases hw : t.val < Cert.Sched.Vv f 16
  · obtain ⟨h3, h4⟩ := h2 hw (ix2 r l)
    have hr : (((ix2 r l : S256x5120.Idx) 0).val) = r.val := rfl
    rw [hr, ← hR] at h3 h4
    by_cases hin : Cert.Sched.Of f R.val (Cert.Sched.Ex f t.val)
    · have he : Cert.Sched.Ex f t.val = e.val := by
        obtain ⟨_, _, _, _, _, ho⟩ := hD
        exact Cert.Sched.of_unique f hin ho
      exact rv_own m (pfK m) (okK hf) c t r l R hT e (by rw [tE_nat hf _ ht]; exact he) _ (h3 hin)
    · rcases Cert.Sched.done_succ f hD with hd | ⟨_, _, he, ho⟩
      · exact (rv_any m (pfK m) (okK hf) c t r l R hT e _).1 (h4 hin (wOf m c e) (sOf m c e) ((rv_any m (pfK m) (okK hf) c t r l R hT e _).2 (hY r l R e hR hd)))
      · exact absurd (he ▸ ho) hin
  · rw [h1 hw]
    rcases Cert.Sched.done_succ f hD with hd | ⟨hw', _⟩
    · exact hY r l R e hR hd
    · exact absurd hw' hw

theorem flush_false (t : Fin (cfgK (pfK m) (okK hf)).N) (h : ((cfgK (pfK m) (okK hf)).win 3).flush t = false) :
    t.val + 1 < 111 ∧ Cert.Sched.Ti f (t.val + 1) = Cert.Sched.Ti f t.val := by
  have hN := N_eq (pfK m) (okK hf)
  have ht : t.val < 111 := t.isLt.trans_eq hN
  have h' : (true && (decide (t.val + 1 = (cfgK (pfK m) (okK hf)).N) || decide (∃ h : t.val + 1 < (cfgK (pfK m) (okK hf)).N, ((cfgK (pfK m) (okK hf)).win 3).index ⟨t.val + 1, h⟩ ≠ ((cfgK (pfK m) (okK hf)).win 3).index t))) = false := h
  rw [Bool.true_and, Bool.or_eq_false_iff, decide_eq_false_iff_not, decide_eq_false_iff_not] at h'
  obtain ⟨h1, h2⟩ := h'
  have h1 : t.val + 1 ≠ 111 := fun hc => h1 (hc.trans hN.symm)
  have hlt : t.val + 1 < 111 := by omega
  refine ⟨hlt, ?_⟩
  by_contra hne
  refine h2 ⟨lt_of_lt_of_eq hlt hN.symm, fun he => hne ?_⟩
  have e := (index3 (pfK m) (okK hf) ⟨t.val + 1, lt_of_lt_of_eq hlt hN.symm⟩).symm.trans (he.trans (index3 (pfK m) (okK hf) t))
  have e0 : (tT (pfK m) (t.val + 1)).toNat = (tT (pfK m) t.val).toNat := congrFun e 0
  rwa [tT_nat hf _ hlt, tT_nat hf _ ht] at e0

theorem flush_true (t : Fin (cfgK (pfK m) (okK hf)).N) (h : ((cfgK (pfK m) (okK hf)).win 3).flush t = true) (ht : t.val + 1 < 111) :
    Cert.Sched.Ti f (t.val + 1) ≠ Cert.Sched.Ti f t.val := by
  have hN := N_eq (pfK m) (okK hf)
  have h' : (true && (decide (t.val + 1 = (cfgK (pfK m) (okK hf)).N) || decide (∃ h : t.val + 1 < (cfgK (pfK m) (okK hf)).N, ((cfgK (pfK m) (okK hf)).win 3).index ⟨t.val + 1, h⟩ ≠ ((cfgK (pfK m) (okK hf)).win 3).index t))) = true := h
  rw [Bool.true_and, Bool.or_eq_true_iff, decide_eq_true_iff, decide_eq_true_iff] at h'
  rcases h' with h1 | ⟨h1, h2⟩
  · have := h1.trans hN; omega
  · intro he
    refine h2 ((index3 (pfK m) (okK hf) ⟨t.val + 1, h1⟩).trans (Eq.trans ?_ (index3 (pfK m) (okK hf) t).symm))
    show ![(tT (pfK m) (t.val + 1)).toNat, 0] = _
    rw [tT_nat hf _ ht, tT_nat hf _ (by omega), he]

theorem fetch_false (t : Fin (cfgK (pfK m) (okK hf)).N) : ((cfgK (pfK m) (okK hf)).win 3).fetch t = false := rfl

/-- The block a point finds, and the one it leaves. -/
theorem rows_at (n : ℕ) : ∀ (t : Fin (cfgK (pfK m) (okK hf)).N), t.val = n →
    (∀ Y, (rdat m (pfK m) (okK hf) lawsI c).Finds 3 t Y → Rows c (m := m) (f := f) t.val t.val Y)
    ∧ ∀ X, (rdat m (pfK m) (okK hf) lawsI c).Leaves 3 t X → Rows c (m := m) (f := f) (t.val + 1) t.val X := by
  induction n with
  | zero =>
    intro t ht
    have h1 : ∀ Y : FVec Ideal S256x5120 .bf16, Rows c (m := m) (f := f) t.val t.val Y := by
      intro Y r l R e _ hD
      rw [ht] at hD
      exact absurd hD (Cert.Sched.done_zero f _ _)
    exact ⟨fun Y _ => h1 Y, fun X ⟨Y, _, h⟩ => leaves_of c hf t Y X (h1 Y) h⟩
  | succ n ih =>
    intro t ht
    have hN := N_eq (pfK m) (okK hf)
    have hlt : t.val < 111 := t.isLt.trans_eq hN
    have h1 : ∀ Y, (rdat m (pfK m) (okK hf) lawsI c).Finds 3 t Y → Rows c (m := m) (f := f) t.val t.val Y := by
      intro Y hY
      rw [(rdat m (pfK m) (okK hf) lawsI c).finds_of_pos (fetch_false hf t) (by omega)] at hY
      have hp : (⟨t.val - 1, Nat.lt_of_le_of_lt (Nat.sub_le _ _) t.isLt⟩ : Fin (cfgK (pfK m) (okK hf)).N).val = n := by show t.val - 1 = n; omega
      have hm : ∀ {i j : ℕ}, i ≤ j → Cert.Sched.Ti f i ≤ Cert.Sched.Ti f j := Cert.Sched.Ti_le f hf.sum
      generalize (⟨t.val - 1, Nat.lt_of_le_of_lt (Nat.sub_le _ _) t.isLt⟩ : Fin (cfgK (pfK m) (okK hf)).N) = p at hY hp
      have e1 : t.val = p.val + 1 := by omega
      rw [e1]
      rcases hY with hfl | hle
      · have hne := flush_true hf p hfl (by omega)
        intro r l R e hR hD
        obtain ⟨t', h1, h2, h3, h4⟩ := hD
        have := hm (by omega : t' ≤ p.val)
        have := hm (by omega : p.val ≤ p.val + 1)
        omega
      · by_cases hfl : ((cfgK (pfK m) (okK hf)).win 3).flush p = true
        · have hne := flush_true hf p hfl (by omega)
          intro r l R e hR hD
          obtain ⟨t', h1, h2, h3, h4⟩ := hD
          have := hm (by omega : t' ≤ p.val)
          have := hm (by omega : p.val ≤ p.val + 1)
          omega
        · have he := (flush_false hf p (Bool.not_eq_true _ ▸ hfl)).2
          have := (ih p hp).2 Y hle
          intro r l R e hR hD
          exact this r l R e (by rw [← he]; exact hR) hD
    exact ⟨h1, fun X ⟨Y, hY, h⟩ => leaves_of c hf t Y X (h1 Y hY) h⟩

/-- Where the result's block lies in the array. -/
theorem out_pos (t : Fin (cfgK (pfK m) (okK hf)).N) (r : Fin 256) (l : Fin 5120) (R : Fin 24576) (hR : R.val = Cert.Sched.Ti f t.val * 256 + r.val) :
    (((cfgK (pfK m) (okK hf)).win 3).blk t).view.emb (ix2 r l : S256x5120.Idx) = (ix2 R l : S24576x5120.Idx) := by
  have hix := index3 (pfK m) (okK hf) t
  rw [tT_nat hf _ (t.isLt.trans_eq (N_eq _ _))] at hix
  funext a
  apply Fin.ext
  match a with
  | ⟨0, _⟩ =>
    show ((cfgK (pfK m) (okK hf)).win 3).index t (0 : Fin 2) * 256 + 1 * r.val = R.val
    rw [hix, hR]; show Cert.Sched.Ti f t.val * 256 + 1 * r.val = _; omega
  | ⟨1, _⟩ =>
    show ((cfgK (pfK m) (okK hf)).win 3).index t (1 : Fin 2) * 5120 + 1 * l.val = l.val
    rw [hix]; show 0 * 5120 + 1 * l.val = _; omega

theorem out_row (t : Fin (cfgK (pfK m) (okK hf)).N) (y : S256x5120.Idx) (l : Fin 5120) (R : Fin 24576)
    (h : (((cfgK (pfK m) (okK hf)).win 3).blk t).view.emb y = (ix2 R l : S24576x5120.Idx)) :
    Cert.Sched.Ti f t.val * 256 + (y 0).val = R.val := by
  have ht96 := (Cert.Sched.ok f hf.sum).hT t.val (t.isLt.trans_eq (N_eq _ _))
  have hy : (y 0).val < 256 := (y 0).isLt
  have e := out_pos hf t (y 0) (y 1) ⟨Cert.Sched.Ti f t.val * 256 + (y 0).val, by omega⟩ rfl
  have e' : (ix2 (y 0) (y 1) : S256x5120.Idx) = y := by funext a; match a with | ⟨0, _⟩ => rfl | ⟨1, _⟩ => rfl
  rw [e', h] at e
  exact (congrArg (fun i : S24576x5120.Idx => (i 0).val) e).symm

set_option maxHeartbeats 1000000 in
/-- The array after the write-backs of the points below `n`. -/
theorem arr_at (n : ℕ) (hn : n ≤ 111) (G : FVec Ideal S24576x5120 .bf16) (h : (rdat m (pfK m) (okK hf) lawsI c).ArrAt 3 n G)
    (R : Fin 24576) (e : Fin 16) (l : Fin 5120) (hD : Cert.Sched.Done f n R e) (hT : n < 111 → R.val / 256 ≠ Cert.Sched.Ti f n) :
    Good (aD m c) (aW m c) (aS m c) R e l (G (ix2 R l)) := by
  induction n generalizing G with
  | zero => exact absurd hD (Cert.Sched.done_zero f _ _)
  | succ n ih =>
    have hN := N_eq (pfK m) (okK hf)
    obtain ⟨t, rfl⟩ : ∃ t : Fin (cfgK (pfK m) (okK hf)).N, t.val = n := ⟨⟨n, hN ▸ hn⟩, rfl⟩
    rw [RDat.ArrAt_succ] at h
    by_cases hfl : ((cfgK (pfK m) (okK hf)).win 3).flush t = true
    · rw [if_pos hfl] at h
      obtain ⟨G₀, X, hG₀, hX, hG⟩ := h
      have hX := (rows_at c hf t.val t rfl).2 X hX
      have ht96 := (Cert.Sched.ok f hf.sum).hT t.val (by omega)
      by_cases hin : R.val / 256 = Cert.Sched.Ti f t.val
      · have hr : R.val = Cert.Sched.Ti f t.val * 256 + R.val % 256 := by omega
        have hpos := out_pos hf t (⟨R.val % 256, by omega⟩ : Fin 256) l R hr
        have hval : G (ix2 R l) = X (ix2 (⟨R.val % 256, by omega⟩ : Fin 256) l) := by
          rw [← hpos, hG]
          exact View.write_emb_of_mem _ _ (Finset.mem_univ _)
        rw [hval]
        exact hX _ l R e hr hD
      · have hval : G (ix2 R l) = (G₀ : FVec Ideal S24576x5120 .bf16) (ix2 R l) := by
          rw [hG]
          refine View.write_of_not_mem _ _ _ fun hmem => hin ?_
          obtain ⟨y, _, hy⟩ := Finset.mem_map.1 hmem
          have e1 := out_row hf t y l R hy
          have e2 : (y (0 : Fin 2)).val < 256 := (y (0 : Fin 2)).isLt
          omega
        rw [hval]
        rcases Cert.Sched.done_succ f hD with hd | ⟨_, he, _⟩
        · exact ih (by omega) G₀ hG₀ hd (fun _ => hin)
        · exact absurd he hin
    · rw [if_neg hfl] at h
      obtain ⟨h1, h2⟩ := flush_false hf t (Bool.not_eq_true _ ▸ hfl)
      have hne := hT h1
      rw [h2] at hne
      rcases Cert.Sched.done_succ f hD with hd | ⟨_, he, _⟩
      · exact ih (by omega) G h hd (fun _ => hne)
      · exact absurd he hne

/-- The kernel's result: at every row, the product with the weights of the row's expert. -/
theorem result (r : PUnit × MemSt nD τ sig (Elt Ideal)) (h : RDat.FramePost (cfgK (pfK m) (okK hf)) (rdat m (pfK m) (okK hf) lawsI) (Vk m) r) (c : Dev nD)
    (R : Fin 24576) (e : Fin 16) (l : Fin 5120) (ho : Cert.Sched.Of f R e) :
    Good (m ((c.tc : Thread nD τ).loc main_arg0)) (m ((c.tc : Thread nD τ).loc main_arg2)) (m ((c.tc : Thread nD τ).loc main_arg3)) R e l
      ((r.2.mem ((c.tc : Thread nD τ).loc main_v47) : FVec Ideal S24576x5120 .bf16) (ix2 R l)) := by
  have ha := (h c).1 3
  rw [N_eq] at ha
  have := arr_at c hf 111 (Nat.le_refl _) _ ha R e l (Cert.Sched.done_all f hf.sum R e e.isLt ho) (fun h => absurd h (Nat.lt_irrefl _))
  rw [← Vk_arg0 (m := m) c, ← Vk_arg2 (m := m) c, ← Vk_arg3 (m := m) c]
  exact this

end Cert.KernelIdeal.Gen

end
-- ==== Proof.My.RefE.lean ====
/- The reference's exponent of a row, over the reals: the least power of two above the row's peak over 57344,
   so that no code is clipped. -/
module

public import proofs.«01_k».proof.Proof.My.Spec

@[expose] public section

noncomputable section

namespace Cert.RefQ

open Idealize.ShloMosaic

theorem two : Ideal.ofBits .f32 1073741824#32 = ((2 : ℝ) : EReal) := by
  show Ideal.ieee 8 23 1073741824#32 = _
  unfold Ideal.ieee
  have e1 : ((1073741824#32 : BitVec 32).extractLsb' (8 + 23) 1 == 1#1) = false := by decide
  have e2 : ((1073741824#32 : BitVec 32).extractLsb' 23 8).toNat = 128 := by decide
  have e3 : ((1073741824#32 : BitVec 32).extractLsb' 0 23).toNat = 0 := by decide
  simp only [e1, e2, e3]
  norm_num

theorem low : Ideal.ofBits .f32 3272867840#32 = ((-148 : ℝ) : EReal) := by
  show Ideal.ieee 8 23 3272867840#32 = _
  unfold Ideal.ieee
  have e1 : ((3272867840#32 : BitVec 32).extractLsb' (8 + 23) 1 == 1#1) = true := by decide
  have e2 : ((3272867840#32 : BitVec 32).extractLsb' 23 8).toNat = 134 := by decide
  have e3 : ((3272867840#32 : BitVec 32).extractLsb' 0 23).toNat = 1310720 := by decide
  simp only [e1, e2, e3]
  norm_num

theorem last : Ideal.ofBits .f32 1124139008#32 = ((129 : ℝ) : EReal) := by
  show Ideal.ieee 8 23 1124139008#32 = _
  unfold Ideal.ieee
  have e1 : ((1124139008#32 : BitVec 32).extractLsb' (8 + 23) 1 == 1#1) = false := by decide
  have e2 : ((1124139008#32 : BitVec 32).extractLsb' 23 8).toNat = 134 := by decide
  have e3 : ((1124139008#32 : BitVec 32).extractLsb' 0 23).toNat = 65536 := by decide
  simp only [e1, e2, e3]
  norm_num

theorem pinf : Ideal.ofBits .f32 2139095040#32 = ⊤ := by
  show Ideal.ieee 8 23 2139095040#32 = _
  unfold Ideal.ieee
  have e1 : ((2139095040#32 : BitVec 32).extractLsb' (8 + 23) 1 == 1#1) = false := by decide
  have e2 : ((2139095040#32 : BitVec 32).extractLsb' 23 8).toNat = 255 := by decide
  have e3 : ((2139095040#32 : BitVec 32).extractLsb' 0 23).toNat = 0 := by decide
  simp only [e1, e2, e3]
  norm_num

/-- Two to a whole number. -/
theorem pow_two (k : ℤ) : Ideal.pow (Ideal.ofBits .f32 1073741824#32) (((k : ℤ) : ℝ) : EReal) = (((2 : ℝ) ^ k : ℝ) : EReal) := by
  rw [two, Ideal.pow_coe_coe]
  congr 1
  exact Real.rpow_intCast 2 k

/-- The table's entry. -/
theorem entry (k : Fin 277) : Ideal.ofBits FTy.f32 3272867840#32 + (((BitVec.ofNat 32 k.val).toInt : ℝ) : EReal)
    = ((((k.val : ℤ) - 148 : ℤ) : ℝ) : EReal) := by
  have h : (BitVec.ofNat 32 k.val).toInt = (k.val : ℤ) := by
    rw [BitVec.toInt_eq_toNat_cond, BitVec.toNat_ofNat]
    have := k.isLt
    rw [Nat.mod_eq_of_lt (by omega), if_pos (by omega)]
  rw [low, h, ← EReal.coe_add]
  congr 1
  push_cast
  ring

/-- The peak over 57344 is below the table's power. -/
abbrev below (a : EReal) (k : Fin 277) : Prop := a * Ideal.ofBits FTy.f32 932333861#32
  < Ideal.pow (Ideal.ofBits FTy.f32 1073741824#32) (Ideal.ofBits FTy.f32 3272867840#32 + (((BitVec.ofNat 32 k.val).toInt : ℝ) : EReal))

abbrev isZero (a : EReal) : Prop := a = 0

abbrev opp (a : EReal) : EReal := -a

/-- The least of the table's exponents, or 129. -/
def least (a : EReal) : EReal :=
  Finset.fold min (Ideal.ofBits FTy.f32 2139095040#32) (fun k : Fin 277 =>
    Scalar.select (BitVec.ofBool (decide (a * Ideal.ofBits FTy.f32 932333861#32
      < Ideal.pow (Ideal.ofBits FTy.f32 1073741824#32) (Ideal.ofBits FTy.f32 3272867840#32 + (((BitVec.ofNat 32 k.val).toInt : ℝ) : EReal)))))
      (Ideal.ofBits FTy.f32 3272867840#32 + (((BitVec.ofNat 32 k.val).toInt : ℝ) : EReal))
      (Ideal.ofBits FTy.f32 1124139008#32)) Finset.univ

/-- The reference's exponent of a row whose peak is `a`. -/
def expo (a : EReal) : EReal := Scalar.select (BitVec.ofBool (decide (a = 0))) 0 (least a)

theorem sel_true {α : Type} (p : Prop) [Decidable p] (h : p) (x y : α) : Scalar.select (BitVec.ofBool (decide p)) x y = x := by
  rw [decide_eq_true h]
  rfl
theorem sel_false {α : Type} (p : Prop) [Decidable p] (h : ¬ p) (x y : α) : Scalar.select (BitVec.ofBool (decide p)) x y = y := by
  rw [decide_eq_false h]
  rfl

/-- It is one of the table's, with its power above the peak over 57344. -/
theorem least_spec (A c : ℝ) (hc : Ideal.ofBits FTy.f32 932333861#32 = (c : EReal)) (hlt : A * c < 2 ^ (128 : ℤ)) :
    ∃ k : ℤ, least (A : EReal) = (((k : ℤ) : ℝ) : EReal) ∧ A * c < 2 ^ k := by
  have hg : ∀ k : Fin 277, Scalar.select (BitVec.ofBool (decide ((A : EReal) * Ideal.ofBits FTy.f32 932333861#32
      < Ideal.pow (Ideal.ofBits FTy.f32 1073741824#32) (Ideal.ofBits FTy.f32 3272867840#32 + (((BitVec.ofNat 32 k.val).toInt : ℝ) : EReal)))))
      (Ideal.ofBits FTy.f32 3272867840#32 + (((BitVec.ofNat 32 k.val).toInt : ℝ) : EReal))
      (Ideal.ofBits FTy.f32 1124139008#32) = if A * c < (2 : ℝ) ^ ((k.val : ℤ) - 148) then ((((k.val : ℤ) - 148 : ℤ) : ℝ) : EReal) else ((129 : ℝ) : EReal) := fun k => by
    rw [entry, pow_two, hc, ← EReal.coe_mul, last]
    by_cases h : A * c < (2 : ℝ) ^ ((k.val : ℤ) - 148)
    · rw [if_pos h]; exact sel_true _ (EReal.coe_lt_coe_iff.2 h) _ _
    · rw [if_neg h]; exact sel_false _ (fun h' => h (EReal.coe_lt_coe_iff.1 h')) _ _
  have he : least (A : EReal) = Finset.fold min (⊤ : EReal) (fun k : Fin 277 =>
      if A * c < (2 : ℝ) ^ ((k.val : ℤ) - 148) then ((((k.val : ℤ) - 148 : ℤ) : ℝ) : EReal) else ((129 : ℝ) : EReal)) Finset.univ := by
    unfold least
    rw [pinf]
    exact congrArg (fun g => Finset.fold min (⊤ : EReal) g Finset.univ) (funext hg)
  rw [he]
  obtain ⟨k, _, hk⟩ := Finset.exists_min_image Finset.univ (fun k : Fin 277 =>
      if A * c < (2 : ℝ) ^ ((k.val : ℤ) - 148) then ((((k.val : ℤ) - 148 : ℤ) : ℝ) : EReal) else ((129 : ℝ) : EReal)) ⟨0, Finset.mem_univ _⟩
  have hm : Finset.fold min (⊤ : EReal) (fun k : Fin 277 =>
      if A * c < (2 : ℝ) ^ ((k.val : ℤ) - 148) then ((((k.val : ℤ) - 148 : ℤ) : ℝ) : EReal) else ((129 : ℝ) : EReal)) Finset.univ
      = if A * c < (2 : ℝ) ^ ((k.val : ℤ) - 148) then ((((k.val : ℤ) - 148 : ℤ) : ℝ) : EReal) else ((129 : ℝ) : EReal) :=
    le_antisymm (Finset.fold_min_le _ |>.2 (Or.inr ⟨k, Finset.mem_univ _, le_refl _⟩))
      (Finset.le_fold_min _ |>.2 ⟨le_top, fun x hx => hk x hx⟩)
  rw [hm]
  by_cases h : A * c < (2 : ℝ) ^ ((k.val : ℤ) - 148)
  · exact ⟨_, if_pos h, h⟩
  · exfalso
    have h1 := hk ⟨276, by omega⟩ (Finset.mem_univ _)
    dsimp only at h1
    rw [if_neg h, if_pos (by norm_num at hlt ⊢; exact hlt)] at h1
    have := EReal.coe_le_coe_iff.1 h1
    norm_num at this

/-- A row's exponent is large enough for the row. -/
theorem expo_spec (v : Fin 1536 → EReal) (x : Fin 1536 → ℝ) (hv : ∀ j, v j = (x j : EReal)) (hB : ∀ j, |x j| ≤ 2 ^ (128 : ℤ)) :
    ∃ k : ℤ, expo (Finset.fold max (Ideal.ofBits FTy.f32 4286578688#32) (fun j => max (v j) (-(v j))) Finset.univ) = (((k : ℤ) : ℝ) : EReal)
      ∧ ∀ j, |x j| ≤ 57344 * (2 : ℝ) ^ k := by
  obtain ⟨A, hA, hA0, hAB, hx⟩ := Cert.Quant.peak v x hv _ hB
  obtain ⟨c, hc, hc1, hc2⟩ := Cert.Quant.cst
  have hcp : 0 < c := lt_of_lt_of_le (by norm_num) hc1
  have hr : A * c < 2 ^ (128 : ℤ) := by
    have : A * c ≤ 2 ^ (128 : ℤ) * (1 / 32768) := mul_le_mul hAB hc2 hcp.le (by positivity)
    refine lt_of_le_of_lt this ?_
    norm_num
  have key : ∀ p : ℝ, A * c < p → ∀ j, |x j| ≤ 57344 * p := fun p hp j => by
    have h1 : |x j| ≤ A := hx j
    have h2 : A * (1 / 57344) ≤ A * c := mul_le_mul_of_nonneg_left hc1 hA0
    linarith
  rw [Cert.Quant.ninf, hA]
  unfold expo
  by_cases h0 : (A : EReal) = 0
  · refine ⟨0, ?_, fun j => ?_⟩
    · rw [sel_true _ h0]; norm_num
    · have hA' : A = 0 := by exact_mod_cast h0
      have h1 := hx j
      rw [hA'] at h1
      refine le_trans h1 (by positivity)
  · obtain ⟨k, hk, hlt⟩ := least_spec A c hc hr
    exact ⟨k, (sel_false _ h0 _ _).trans hk, key _ hlt⟩

end Cert.RefQ

end
-- ==== Proof.My.RefS.lean ====
/- The reference's quantiser, stage by stage: the peak of a row, the table of powers, the exponent, the scale. -/
module

public import proofs.«01_k».proof.Proof.Gen.ReferenceIdeal.Frame
public import proofs.«01_k».proof.Proof.My.RefE
public import Idealize.ShloMosaic.Lib.StableHlo.ReadAt
public import Idealize.ShloMosaic.Lib.Routing.Ops
public import Idealize.ShloMosaic.Lib.Routing.OpsSet
public import Idealize.ShloMosaic.Lib.Pointwise

@[expose] public section

set_option maxRecDepth 8192

noncomputable section

namespace Cert.ReferenceIdeal.Gen

open Idealize.ShloMosaic Idealize.ShloMosaic.TcCoe Idealize.ShloMosaic.Tactic
open Idealize.ShloMosaic.StableHlo (after)

section
variable {F : FTy → Type} [FloatOps F]

/-- The host's first operations: the peak of a row. -/
abbrev opsA : List (HloOp τ sig (Elt F)) :=
  [ StableHlo.unary main_arg0 main_v0 ((extf .f32 · bitsLt_bf16_f32) : (⟨S24576x1536, .bf16⟩ : BufTy).Contents (Elt F) → (⟨S24576x1536, .f32⟩ : BufTy).Contents (Elt F)),
    StableHlo.unary main_v0 main_v1 (Host.absf : (⟨S24576x1536, .f32⟩ : BufTy).Contents (Elt F) → (⟨S24576x1536, .f32⟩ : BufTy).Contents (Elt F)),
    StableHlo.nullary main_cst (constant S_ .f32 0xFF800000#32),
    StableHlo.binary main_v1 main_cst main_v2 ((fun x v => Host.reduce FloatOps.maximumf x v reducesTo_S24576x1536_S24576_d1 h_S_) : (⟨S24576x1536, .f32⟩ : BufTy).Contents (Elt F) → (⟨S_, .f32⟩ : BufTy).Contents (Elt F) → (⟨S24576, .f32⟩ : BufTy).Contents (Elt F)),
    StableHlo.unary main_v2 main_v3 (broadcastInDim S24576x1 ![0] bcast_S24576_S24576x1_0 : (⟨S24576, .f32⟩ : BufTy).Contents (Elt F) → (⟨S24576x1, .f32⟩ : BufTy).Contents (Elt F)) ]

/-- And the comparison of the peak with the powers. -/
abbrev opsB : List (HloOp τ sig (Elt F)) :=
  [ StableHlo.nullary main_cst_0 (constant S_ .f32 0x37924925#32),
    StableHlo.unary main_cst_0 main_v4 (broadcastInDim S24576x1 ![] bcast_S_S24576x1 : (⟨S_, .f32⟩ : BufTy).Contents (Elt F) → (⟨S24576x1, .f32⟩ : BufTy).Contents (Elt F)),
    StableHlo.binary main_v3 main_v4 main_v5 (mulf : (⟨S24576x1, .f32⟩ : BufTy).Contents (Elt F) → (⟨S24576x1, .f32⟩ : BufTy).Contents (Elt F) → (⟨S24576x1, .f32⟩ : BufTy).Contents (Elt F)),
    StableHlo.nullary main_v6 (sitofp .f32 (iotaInDim S277 32 0)),
    StableHlo.nullary main_cst_1 (constant S_ .f32 0xC3140000#32),
    StableHlo.unary main_cst_1 main_v7 (broadcastInDim S277 ![] bcast_S_S277 : (⟨S_, .f32⟩ : BufTy).Contents (Elt F) → (⟨S277, .f32⟩ : BufTy).Contents (Elt F)),
    StableHlo.binary main_v7 main_v6 main_v8 (addf : (⟨S277, .f32⟩ : BufTy).Contents (Elt F) → (⟨S277, .f32⟩ : BufTy).Contents (Elt F) → (⟨S277, .f32⟩ : BufTy).Contents (Elt F)),
    StableHlo.unary main_v8 main_v9 (broadcastInDim S1x277 ![1] bcast_S277_S1x277_1 : (⟨S277, .f32⟩ : BufTy).Contents (Elt F) → (⟨S1x277, .f32⟩ : BufTy).Contents (Elt F)),
    StableHlo.nullary main_cst_2 (constant S_ .f32 0x40000000#32),
    StableHlo.unary main_cst_2 main_v10 (broadcastInDim S1x277 ![] bcast_S_S1x277 : (⟨S_, .f32⟩ : BufTy).Contents (Elt F) → (⟨S1x277, .f32⟩ : BufTy).Contents (Elt F)),
    StableHlo.binary main_v10 main_v9 main_v11 (Host.powf : (⟨S1x277, .f32⟩ : BufTy).Contents (Elt F) → (⟨S1x277, .f32⟩ : BufTy).Contents (Elt F) → (⟨S1x277, .f32⟩ : BufTy).Contents (Elt F)),
    StableHlo.unary main_v5 main_v12 (broadcastInDim S24576x277 ![0, 1] bcast_S24576x1_S24576x277_0_1 : (⟨S24576x1, .f32⟩ : BufTy).Contents (Elt F) → (⟨S24576x277, .f32⟩ : BufTy).Contents (Elt F)),
    StableHlo.unary main_v11 main_v13 (broadcastInDim S24576x277 ![0, 1] bcast_S1x277_S24576x277_0_1 : (⟨S1x277, .f32⟩ : BufTy).Contents (Elt F) → (⟨S24576x277, .f32⟩ : BufTy).Contents (Elt F)),
    StableHlo.binary main_v12 main_v13 main_v14 (cmpf .olt : (⟨S24576x277, .f32⟩ : BufTy).Contents (Elt F) → (⟨S24576x277, .f32⟩ : BufTy).Contents (Elt F) → (⟨S24576x277, .i1⟩ : BufTy).Contents (Elt F)),
    StableHlo.nullary main_cst_3 (constant S_ .f32 0x43010000#32) ]

theorem ops_eq : (hostOps0 : List (HloOp τ sig (Elt F))) = opsA ++ opsB := rfl

end

variable (V : Valuation τ sig (Elt Ideal))

/-- A row of an array. -/
abbrev row (D : FVec Ideal S24576x1536 .bf16) (R : Fin 24576) : Fin 1536 → EReal := fun j => D (ix2 R j)

theorem st_v3 (R : Fin 24576) : (after (opsA : List (HloOp τ sig (Elt Ideal))) V main_v3 (ix2 R 0) : EReal) =
    Finset.fold max (Ideal.ofBits FTy.f32 4286578688#32) (fun j => max (row (V main_arg0) R j) (-(row (V main_arg0) R j))) Finset.univ := by
  after_reads_at
  rfl

theorem st_v14 (R : Fin 24576) (k : Fin 277) : after (opsB : List (HloOp τ sig (Elt Ideal))) V main_v14 (ix2 R k) =
    BitVec.ofBool (decide (Cert.RefQ.below (V main_v3 (ix2 R 0)) k)) := by
  after_reads_at
  rfl

theorem st_v9 (k : Fin 277) : (after (opsB : List (HloOp τ sig (Elt Ideal))) V main_v9 (ix2 0 k) : EReal) =
    Ideal.ofBits FTy.f32 3272867840#32 + (((BitVec.ofNat 32 k.val).toInt : ℝ) : EReal) := by
  after_reads_at
  rfl

theorem st_c3 : (after (opsB : List (HloOp τ sig (Elt Ideal))) V main_cst_3 ix0 : EReal) = Ideal.ofBits FTy.f32 1124139008#32 := by
  after_reads_at

theorem st_v3B : after (opsB : List (HloOp τ sig (Elt Ideal))) V main_v3 = V main_v3 := by
  after_reads_at

theorem st_v15 (R : Fin 24576) (k : Fin 277) : (after (hostOps0_1 : List (HloOp τ sig (Elt Ideal))) V main_v15 (ix2 R k) : EReal) =
    Scalar.select (V main_v14 (ix2 R k)) (V main_v9 (ix2 0 k)) (V main_cst_3 ix0) := by
  after_reads_at
  rfl

theorem st_v3C : after (hostOps0_1 : List (HloOp τ sig (Elt Ideal))) V main_v3 = V main_v3 := by
  after_reads_at

theorem st_v17 (R : Fin 24576) : (after (hostOps0_2 : List (HloOp τ sig (Elt Ideal))) V main_v17 (ix2 R 0) : EReal) =
    Finset.fold min (Ideal.ofBits FTy.f32 2139095040#32) (fun k : Fin 277 => (V main_v15 (ix2 R k) : EReal)) Finset.univ := by
  after_reads_at

theorem st_v19 (R : Fin 24576) : after (hostOps0_2 : List (HloOp τ sig (Elt Ideal))) V main_v19 (ix2 R 0) =
    BitVec.ofBool (decide (Cert.RefQ.isZero (V main_v3 (ix2 R 0)))) := by
  after_reads_at

theorem st_c6 : (after (hostOps0_2 : List (HloOp τ sig (Elt Ideal))) V main_cst_6 ix0 : EReal) = (0 : EReal) := by
  after_reads_at

theorem st_v20 (R : Fin 24576) : (after (hostOps0_3 ++ hostOps0_4 : List (HloOp τ sig (Elt Ideal))) V main_v20 (ix2 R 0) : EReal) =
    Scalar.select (V main_v19 (ix2 R 0)) (V main_cst_6 ix0) (V main_v17 (ix2 R 0)) := by
  after_reads_at
  rfl

theorem st_v23 (R : Fin 24576) : (after (hostOps0_3 ++ hostOps0_4 : List (HloOp τ sig (Elt Ideal))) V main_v23 (ix2 R 0) : EReal) =
    Ideal.pow (Ideal.ofBits FTy.f32 1073741824#32)
      (Cert.RefQ.opp (after (hostOps0_3 ++ hostOps0_4 : List (HloOp τ sig (Elt Ideal))) V main_v20 (ix2 R 0))) := by
  rw [st_v20]
  after_reads_at
  rfl

end Cert.ReferenceIdeal.Gen

end
-- ==== Proof.My.RefT.lean ====
/- The reference's last operations, stage by stage: the weights dequantised, the products, the rows of each expert, the sum. -/
module

public import proofs.«01_k».proof.Proof.My.RefS
public import proofs.«01_k».proof.Proof.My.Tables
public import proofs.«01_k».proof.Proof.My.Visits
public import proofs.«01_k».proof.Proof.My.Counts

@[expose] public section

set_option maxRecDepth 8192

noncomputable section

namespace Cert.ReferenceIdeal.Gen

open Idealize.ShloMosaic Idealize.ShloMosaic.TcCoe Idealize.ShloMosaic.Tactic
open Idealize.ShloMosaic.StableHlo (after)

variable (V : Valuation τ sig (Elt Ideal))

/-- The reference's low nibble of a byte, signed. -/
abbrev lowN (w : BitVec 8) : BitVec 32 :=
  Scalar.select (IntOp.cmpi CmpIPredicate.sge (IntOp.andi (BitVec.setWidth 32 w) 15#32) 8#32)
    (IntOp.subi (IntOp.andi (BitVec.setWidth 32 w) 15#32) 16#32) (IntOp.andi (BitVec.setWidth 32 w) 15#32)

/-- The reference's high nibble of a byte, signed. -/
abbrev highN (w : BitVec 8) : BitVec 32 :=
  Scalar.select (IntOp.cmpi CmpIPredicate.sge (IntOp.shrsi ArithUnit.host (BitVec.setWidth 32 w) 4#32) 8#32)
    (IntOp.subi (IntOp.shrsi ArithUnit.host (BitVec.setWidth 32 w) 4#32) 16#32) (IntOp.shrsi ArithUnit.host (BitVec.setWidth 32 w) 4#32)

theorem lowN_eq (w : BitVec 8) : (lowN w).toInt = Cert.Spec.lo w := by
  revert w; decide +kernel
theorem highN_eq (w : BitVec 8) : (highN w).toInt = Cert.Spec.hi w := by
  revert w; decide +kernel

/-- A number times an entry of an array, as extended reals. -/
abbrev times (a b : EReal) : EReal := a * b

theorem tl_v61 (e : Fin 16) (l : Fin 5120) (R : Fin 24576) :
    (after (hostOps1 ++ hostOps1_1 ++ hostOps1_2 ++ hostOps1_3 ++ hostOps1_4 : List (HloOp τ sig (Elt Ideal))) V main_v61 (ix3 e l R) : EReal) =
    ∑ i : Fin 768, times (times (((Cert.Spec.lo (V main_arg2 (ix3 e l i)) : ℤ) : ℝ) : EReal) (V main_arg3 (ix3 e l ⟨i.val / 16, by omega⟩)))
      (V main_v24 (ix2 R ⟨2 * i.val, by omega⟩)) := by
  after_reads_at
  refine Finset.sum_congr rfl fun i _ => ?_
  have h1 : (⟨i.val / 16 * 16 + i.val % 16, by omega⟩ : Fin 768) = i := Fin.ext (by show i.val / 16 * 16 + i.val % 16 = i.val; omega)
  have h2 : (⟨i.val * 2, by omega⟩ : Fin 1536) = ⟨2 * i.val, by omega⟩ := Fin.ext (by show i.val * 2 = 2 * i.val; omega)
  have h3 := lowN_eq (V main_arg2 (ix3 e l i))
  simp only [h1, h2]
  rw [← h3]
  rfl

theorem tl_v60 (e : Fin 16) (l : Fin 5120) (i : Fin 768) :
    (after (hostOps1 ++ hostOps1_1 ++ hostOps1_2 ++ hostOps1_3 ++ hostOps1_4 : List (HloOp τ sig (Elt Ideal))) V main_v60 (ix3 e i l) : EReal) =
    times (((Cert.Spec.hi (V main_arg2 (ix3 e l i)) : ℤ) : ℝ) : EReal) (V main_arg3 (ix3 e l ⟨i.val / 16, by omega⟩)) := by
  after_reads_at
  have h1 : (⟨i.val / 16 * 16 + i.val % 16, by omega⟩ : Fin 768) = i := Fin.ext (by show i.val / 16 * 16 + i.val % 16 = i.val; omega)
  have h3 := highN_eq (V main_arg2 (ix3 e l i))
  simp only [h1]
  rw [← h3]
  rfl

theorem tl_v31 (R : Fin 24576) (i : Fin 768) :
    (after (hostOps1 ++ hostOps1_1 ++ hostOps1_2 ++ hostOps1_3 ++ hostOps1_4 : List (HloOp τ sig (Elt Ideal))) V main_v31 (ix2 R i) : EReal) =
    V main_v24 (ix2 R ⟨2 * i.val + 1, by omega⟩) := by
  after_reads_at
  have h2 : (⟨i.val * 2 + 1, by omega⟩ : Fin 1536) = ⟨2 * i.val + 1, by omega⟩ := Fin.ext (by show i.val * 2 + 1 = 2 * i.val + 1; omega)
  simp only [h2]

theorem tl_v26 (R : Fin 24576) :
    (after (hostOps1 ++ hostOps1_1 ++ hostOps1_2 ++ hostOps1_3 ++ hostOps1_4 : List (HloOp τ sig (Elt Ideal))) V main_v26 (ix2 R 0) : EReal) =
    Ideal.pow (Ideal.ofBits FTy.f32 1073741824#32) (V main_v20 (ix2 R 0)) := by
  after_reads_at

theorem tl_arg1 : after (hostOps1 ++ hostOps1_1 ++ hostOps1_2 ++ hostOps1_3 ++ hostOps1_4 : List (HloOp τ sig (Elt Ideal))) V main_arg1 = V main_arg1 := by
  after_reads_at

instance (f : ℕ → ℕ) (a b : ℕ) : Decidable (Cert.Sched.Of f a b) := by unfold Cert.Sched.Of; infer_instance

/-- A row is an expert's between two running sums. -/
theorem mask (x : IVec S16 32) (f : ℕ → ℕ) (hx : Cert.Counts.Are x f) (e : Fin 16) (R : Fin 24576) (a : EReal) :
    Scalar.select (IntOp.andi
        (IntOp.cmpi CmpIPredicate.sge (BitVec.ofNat 32 R.val)
          (IntOp.subi
            (Host.reduceWindow IntOp.addi ![16] ![1] ![15] ![0] x
              (broadcastInDim S_ ![] bcast_S_S_ (constantI S_ 32 0#32)) reduceWindows_S16_S16_w16s1p15_0 h_S_ (ix1 e))
            (x (ix1 e))))
        (IntOp.cmpi CmpIPredicate.slt (BitVec.ofNat 32 R.val)
          (Host.reduceWindow IntOp.addi ![16] ![1] ![15] ![0] x
            (broadcastInDim S_ ![] bcast_S_S_ (constantI S_ 32 0#32)) reduceWindows_S16_S16_w16s1p15_0 h_S_ (ix1 e)))) a 0
      = if Cert.Sched.Of f R.val e.val then a else 0 := by
  have hw : ∀ k < 16, Cert.KernelIdeal.Gen.wd (n := 16) x k = BitVec.ofNat 32 (f k) := fun k hk =>
    (Cert.KernelIdeal.Gen.wd_of_idx x (ix1 ⟨k, hk⟩) k rfl).symm.trans (hx.at_ _)
  have hc := Cert.KernelIdeal.Gen.csum x f hw (ix1 e)
  have hS : Cert.Sched.S f (e.val + 1) ≤ 24576 := by
    rw [← hx.sum]
    exact Cert.Sched.S_mono f (by omega)
  have hs := Cert.Sched.S_succ f e.val
  have hsub : IntOp.subi (BitVec.ofNat 32 (Cert.Sched.S f (e.val + 1))) (BitVec.ofNat 32 (f e.val)) = BitVec.ofNat 32 (Cert.Sched.S f e.val) := by
    show BitVec.ofNat 32 (Cert.Sched.S f (e.val + 1)) - BitVec.ofNat 32 (f e.val) = _
    rw [hs]
    apply BitVec.eq_of_toNat_eq
    simp only [BitVec.toNat_sub, BitVec.toNat_ofNat]
    omega
  have hR := R.isLt
  have h1 := Cert.KernelIdeal.Gen.sge_iff R.val (Cert.Sched.S f e.val) (by omega) (by omega)
  have h2 := Cert.KernelIdeal.Gen.slt_iff R.val (Cert.Sched.S f (e.val + 1)) (by omega) (by omega)
  have hc' : Host.reduceWindow IntOp.addi ![16] ![1] ![15] ![0] x
      (broadcastInDim S_ ![] bcast_S_S_ (constantI S_ 32 0#32)) reduceWindows_S16_S16_w16s1p15_0 h_S_ (ix1 e)
      = BitVec.ofNat 32 (Cert.Sched.S f (e.val + 1)) := hc
  have hx' : x (ix1 e) = BitVec.ofNat 32 (f e.val) := hx.at_ (ix1 e)
  rw [hc', hx', hsub]
  revert h1 h2
  generalize IntOp.cmpi CmpIPredicate.sge (BitVec.ofNat 32 R.val) (BitVec.ofNat 32 (Cert.Sched.S f e.val)) = p
  generalize IntOp.cmpi CmpIPredicate.slt (BitVec.ofNat 32 R.val) (BitVec.ofNat 32 (Cert.Sched.S f (e.val + 1))) = q
  intro h1 h2
  have hb : ∀ z : BitVec 1, z = 0#1 ∨ z = 1#1 := by decide
  rcases hb p with hp | hp <;> rcases hb q with hq | hq
  · rw [if_neg (fun h : Cert.Sched.Of f R.val e.val => absurd (h1.2 h.1) (by rw [hp]; decide)), hp, hq]; rfl
  · rw [if_neg (fun h : Cert.Sched.Of f R.val e.val => absurd (h1.2 h.1) (by rw [hp]; decide)), hp, hq]; rfl
  · rw [if_neg (fun h : Cert.Sched.Of f R.val e.val => absurd (h2.2 h.2) (by rw [hq]; decide)), hp, hq]; rfl
  · rw [if_pos (show Cert.Sched.Of f R.val e.val from ⟨h1.1 hp, h2.1 hq⟩), hp, hq]; rfl

theorem tl_v76 (f : ℕ → ℕ) (hx : Cert.Counts.Are (V main_arg1) f) (e : Fin 16) (l : Fin 5120) (R : Fin 24576) :
    (after (hostOps1_5 ++ hostOps1_6 ++ hostOps1_7 : List (HloOp τ sig (Elt Ideal))) V main_v76 (ix3 e l R) : EReal) =
    if Cert.Sched.Of f R.val e.val then (V main_v61 (ix3 e l R) : EReal) else (0 : EReal) := by
  refine Eq.trans ?_ (mask (V main_arg1) f hx e R (V main_v61 (ix3 e l R)))
  after_reads_at
  exact congrArg (Scalar.select _ _) Ideal.ofBits_zero_f32

theorem tl_v94 (f : ℕ → ℕ) (hx : Cert.Counts.Are (V main_arg1) f) (e : Fin 16) (l : Fin 5120) (R : Fin 24576) :
    (after (hostOps1_9 ++ hostOps1_10 ++ hostOps1_11 : List (HloOp τ sig (Elt Ideal))) V main_v94 (ix3 e l R) : EReal) =
    if Cert.Sched.Of f R.val e.val then (V main_v79 (ix3 e l R) : EReal) else (0 : EReal) := by
  refine Eq.trans ?_ (mask (V main_arg1) f hx e R (V main_v79 (ix3 e l R)))
  after_reads_at
  exact congrArg (Scalar.select _ _) Ideal.ofBits_zero_f32

/-- An array at an index, as an extended real. -/
abbrev er (a : EReal) : EReal := a

theorem tl_v78 (R : Fin 24576) (l : Fin 5120) :
    (after (hostOps1_8 : List (HloOp τ sig (Elt Ideal))) V main_v78 (ix2 R l) : EReal) = ∑ e : Fin 16, er (V main_v76 (ix3 e l R)) := by
  after_reads_at

theorem tl_v79 (R : Fin 24576) (e : Fin 16) (l : Fin 5120) :
    (after (hostOps1_8 : List (HloOp τ sig (Elt Ideal))) V main_v79 (ix3 e l R) : EReal) =
      ∑ i : Fin 768, times (V main_v60 (ix3 e i l)) (V main_v31 (ix2 R i)) := by
  after_reads_at

/-- The sum of the products, as extended reals. -/
abbrev plus (a b : EReal) : EReal := a + b

theorem tl_v100 (R : Fin 24576) (l : Fin 5120) :
    (after (hostOps1_12 : List (HloOp τ sig (Elt Ideal))) V main_v100 (ix2 R l) : EReal) =
      times (plus (V main_v78 (ix2 R l)) (∑ e : Fin 16, er (V main_v94 (ix3 e l R)))) (V main_v26 (ix2 R 0)) := by
  after_reads_at

/- What the middle operations leave alone. -/

theorem k5_v60 : after (hostOps1_5 ++ hostOps1_6 ++ hostOps1_7 : List (HloOp τ sig (Elt Ideal))) V main_v60 = V main_v60 := by after_reads_at
theorem k5_v31 : after (hostOps1_5 ++ hostOps1_6 ++ hostOps1_7 : List (HloOp τ sig (Elt Ideal))) V main_v31 = V main_v31 := by after_reads_at
theorem k5_v26 : after (hostOps1_5 ++ hostOps1_6 ++ hostOps1_7 : List (HloOp τ sig (Elt Ideal))) V main_v26 = V main_v26 := by after_reads_at
theorem k5_arg1 : after (hostOps1_5 ++ hostOps1_6 ++ hostOps1_7 : List (HloOp τ sig (Elt Ideal))) V main_arg1 = V main_arg1 := by after_reads_at
theorem k8_v26 : after (hostOps1_8 : List (HloOp τ sig (Elt Ideal))) V main_v26 = V main_v26 := by after_reads_at
theorem k8_arg1 : after (hostOps1_8 : List (HloOp τ sig (Elt Ideal))) V main_arg1 = V main_arg1 := by after_reads_at
theorem k9_v26 : after (hostOps1_9 ++ hostOps1_10 ++ hostOps1_11 : List (HloOp τ sig (Elt Ideal))) V main_v26 = V main_v26 := by after_reads_at
theorem k9_v78 : after (hostOps1_9 ++ hostOps1_10 ++ hostOps1_11 : List (HloOp τ sig (Elt Ideal))) V main_v78 = V main_v78 := by after_reads_at

end Cert.ReferenceIdeal.Gen

end
-- ==== Proof.My.RefC.lean ====
/- What the reference's one call leaves: every element of a row times the row's inverse scale, clipped. -/
module

public import proofs.«01_k».proof.Proof.Gen.ReferenceIdeal.Frame
public import Idealize.ShloMosaic.Lib.Pipeline.ValueKit
public import Idealize.ShloMosaic.Lib.Pointwise
public import Idealize.ShloMosaic.PureOps.Ideal

@[expose] public section

set_option maxRecDepth 8192

noncomputable section

namespace Cert.ReferenceIdeal.Gen

open Idealize.ShloMosaic Idealize.ShloMosaic.TcCoe Idealize.ShloMosaic.Tactic

variable (m : (ℓ : Loc nD τ sig) → Buf (Elt Ideal) ℓ)

/-- The call's arithmetic at an element. -/
theorem pay_at (x : FVec Ideal S24576x1536 .bf16) (y : FVec Ideal S24576x1 .f32) (R : Fin 24576) (j : Fin 1536) :
    k0_pay1 (F := Ideal) x y (ix2 R j) = min (Ideal.ofBits FTy.f32 1197473792#32) (max (Ideal.ofBits FTy.f32 3344957440#32) ((x (ix2 R j) : EReal) * y (ix2 R 0))) := by
  pointwise [k0_pay1]

/-- A window that holds a whole array: its block is the array. -/
theorem emb0 (t : Fin cfg0.N) (y : S24576x1536.Idx) : ((cfg0.win 0).blk t).view.emb y = y := by
  funext a
  match a with
  | ⟨0, _⟩ => exact Fin.ext (by show (cfg0.win 0).index t (0 : Fin 2) * 24576 + 1 * (y 0).val = (y 0).val; rw [show (cfg0.win 0).index t (0 : Fin 2) = 0 from rfl]; omega)
  | ⟨1, _⟩ => exact Fin.ext (by show (cfg0.win 0).index t (1 : Fin 2) * 1536 + 1 * (y 1).val = (y 1).val; rw [show (cfg0.win 0).index t (1 : Fin 2) = 0 from rfl]; omega)

theorem emb1 (t : Fin cfg0.N) (y : S24576x1.Idx) : ((cfg0.win 1).blk t).view.emb y = y := by
  funext a
  match a with
  | ⟨0, _⟩ => exact Fin.ext (by show (cfg0.win 1).index t (0 : Fin 2) * 24576 + 1 * (y 0).val = (y 0).val; rw [show (cfg0.win 1).index t (0 : Fin 2) = 0 from rfl]; omega)
  | ⟨1, _⟩ => exact Fin.ext (by show (cfg0.win 1).index t (1 : Fin 2) * 1 + 1 * (y 1).val = (y 1).val; rw [show (cfg0.win 1).index t (1 : Fin 2) = 0 from rfl]; omega)

theorem emb2w (t : Fin cfg0.N) (y : S24576x1536.Idx) : ((View.whole main_v24).slice (win0_2.rect t)).emb y = y := by
  funext a
  match a with
  | ⟨0, _⟩ => exact Fin.ext (by show (cfg0.win 2).index t (0 : Fin 2) * 24576 + 1 * (y 0).val = (y 0).val; rw [show (cfg0.win 2).index t (0 : Fin 2) = 0 from rfl]; omega)
  | ⟨1, _⟩ => exact Fin.ext (by show (cfg0.win 2).index t (1 : Fin 2) * 1536 + 1 * (y 1).val = (y 1).val; rw [show (cfg0.win 2).index t (1 : Fin 2) = 0 from rfl]; omega)

theorem read0 (t : Fin cfg0.N) (X : FVec Ideal S24576x1536 .bf16) : ((cfg0.win 0).blk t).view.read (Elt Ideal) X = X :=
  funext fun y => congrArg X (emb0 t y)

theorem read1 (t : Fin cfg0.N) (X : FVec Ideal S24576x1 .f32) : ((cfg0.win 1).blk t).view.read (Elt Ideal) X = X :=
  funext fun y => congrArg X (emb1 t y)

theorem pay_whole (W : (c : Dev nD) → (b : Ref sig .tc) → Buf (Elt Ideal) ((c : Thread nD τ).loc b)) (c : Dev nD) (t : Fin cfg0.N) (y : S24576x1536.Idx) :
    k0_pay1 (F := Ideal) (((cfg0.win 0).blk t).view.read (Elt Ideal) (W c (Pipeline.arrRef spec0 0)))
      (((cfg0.win 1).blk t).view.read (Elt Ideal) (W c (Pipeline.arrRef spec0 1))) y
    = k0_pay1 (F := Ideal) (W c main_arg0) (W c main_v23) (((View.whole main_v24).slice (win0_2.rect t)).emb y) :=
  (congrFun (congrArg₂ (k0_pay1 (F := Ideal)) (read0 t (W c main_arg0)) (read1 t (W c main_v23))) y).trans
    (congrArg (k0_pay1 (F := Ideal) (W c main_arg0) (W c main_v23)) (emb2w t y).symm)

theorem arr24 (c : Dev nD) : (dats m 0 c).arrAt 2 (cfgs 0).N = (k0_pay1 (F := Ideal) (V m c main_arg0) (V m c main_v23) : FVec Ideal S24576x1536 .bf16) := by
  refine (dats m 0 c).arrAt_eq_of_covers 2 _ (by decide +kernel) fun t hf y => ?_
  blk_simp
  rw [after0_2]
  frame_out
  unfold iblk
  generalize V m = W
  exact pay_whole W c t y

end Cert.ReferenceIdeal.Gen

end
-- ==== Proof.My.RefV.lean ====
/- The reference's result at an element: the product of the row with its expert's weights. -/
module

public import proofs.«01_k».proof.Proof.My.RefT
public import proofs.«01_k».proof.Proof.My.RefC

@[expose] public section

set_option maxRecDepth 8192

noncomputable section

namespace Cert.ReferenceIdeal.Gen

open Idealize.ShloMosaic Idealize.ShloMosaic.TcCoe Idealize.ShloMosaic.Tactic
open Idealize.ShloMosaic.StableHlo (after)

variable (V : Valuation τ sig (Elt Ideal))

/-- The operations before the call, in five steps. -/
theorem pre_eq (U : Valuation τ sig (Elt Ideal)) :
    after (List.flatten [hostOps0, hostOps0_1, hostOps0_2, hostOps0_3, hostOps0_4] : List (HloOp τ sig (Elt Ideal))) U
      = after (hostOps0_3 ++ hostOps0_4) (after hostOps0_2 (after hostOps0_1 (after opsB (after opsA U)))) := by
  rw [ops_eq]
  simp only [List.flatten_cons, List.flatten_nil, List.append_nil, StableHlo.after_append]

/-- The exponent of a row, when the call is entered. -/
theorem pre_v20 (U : Valuation τ sig (Elt Ideal)) (R : Fin 24576) :
    (after (List.flatten [hostOps0, hostOps0_1, hostOps0_2, hostOps0_3, hostOps0_4] : List (HloOp τ sig (Elt Ideal))) U main_v20 (ix2 R 0) : EReal)
      = Cert.RefQ.expo (Finset.fold max (Ideal.ofBits FTy.f32 4286578688#32) (fun j => max (row (U main_arg0) R j) (-(row (U main_arg0) R j))) Finset.univ) := by
  rw [pre_eq, st_v20, st_v19, st_c6, st_v17]
  have h15 : ∀ k : Fin 277, er (after hostOps0_1 (after opsB (after opsA U)) main_v15 (ix2 R k)) = Scalar.select
      (BitVec.ofBool (decide (Cert.RefQ.below (after opsA U main_v3 (ix2 R 0)) k)))
      (Ideal.ofBits FTy.f32 3272867840#32 + (((BitVec.ofNat 32 k.val).toInt : ℝ) : EReal)) (Ideal.ofBits FTy.f32 1124139008#32) := fun k => by
    have h1 := st_v15 (after opsB (after opsA U)) R k
    have h2 := st_v14 (after opsA U) R k
    have h3 := st_v9 (after opsA U) k
    have h4 := st_c3 (after opsA U)
    exact h1.trans (by rw [h2, h3, h4])
  have h3 : er (after hostOps0_1 (after opsB (after opsA U)) main_v3 (ix2 R 0)) = er (after opsA U main_v3 (ix2 R 0)) :=
    (congrFun (st_v3C (after opsB (after opsA U))) (ix2 R 0)).trans (congrFun (st_v3B (after opsA U)) (ix2 R 0))
  have hp : er (after opsA U main_v3 (ix2 R 0)) = _ := st_v3 U R
  unfold Cert.RefQ.expo Cert.RefQ.least
  rw [← hp]
  have hl : Finset.fold min (Ideal.ofBits FTy.f32 2139095040#32) (fun k : Fin 277 => er (after hostOps0_1 (after opsB (after opsA U)) main_v15 (ix2 R k))) Finset.univ
      = Finset.fold min (Ideal.ofBits FTy.f32 2139095040#32) (fun k : Fin 277 => Scalar.select
      (BitVec.ofBool (decide (Cert.RefQ.below (after opsA U main_v3 (ix2 R 0)) k)))
      (Ideal.ofBits FTy.f32 3272867840#32 + (((BitVec.ofNat 32 k.val).toInt : ℝ) : EReal)) (Ideal.ofBits FTy.f32 1124139008#32)) Finset.univ :=
    congrArg (fun g => Finset.fold min (Ideal.ofBits FTy.f32 2139095040#32) g Finset.univ) (funext h15)
  exact congrArg₂ (fun (a b : EReal) => Scalar.select (BitVec.ofBool (decide (Cert.RefQ.isZero a))) (0 : EReal) b) h3 hl

/-- The inverse scale of a row, when the call is entered. -/
theorem pre_v23 (U : Valuation τ sig (Elt Ideal)) (R : Fin 24576) :
    (after (List.flatten [hostOps0, hostOps0_1, hostOps0_2, hostOps0_3, hostOps0_4] : List (HloOp τ sig (Elt Ideal))) U main_v23 (ix2 R 0) : EReal)
      = Ideal.pow (Ideal.ofBits FTy.f32 1073741824#32)
        (Cert.RefQ.opp (after (List.flatten [hostOps0, hostOps0_1, hostOps0_2, hostOps0_3, hostOps0_4] : List (HloOp τ sig (Elt Ideal))) U main_v20 (ix2 R 0))) := by
  rw [pre_eq]
  exact st_v23 _ R

theorem opp_coe (a : EReal) (k : ℤ) (h : a = (((k : ℤ) : ℝ) : EReal)) : Cert.RefQ.opp a = (((-k : ℤ) : ℝ) : EReal) := by
  rw [h]
  show -(((k : ℤ) : ℝ) : EReal) = _
  rw [← EReal.coe_neg]
  congr 1
  push_cast
  rfl

/-- It is the power of two whose exponent is the negated one. -/
theorem pre_inv (U : Valuation τ sig (Elt Ideal)) (R : Fin 24576) (k : ℤ)
    (hk : er (after (List.flatten [hostOps0, hostOps0_1, hostOps0_2, hostOps0_3, hostOps0_4] : List (HloOp τ sig (Elt Ideal))) U main_v20 (ix2 R 0)) = (((k : ℤ) : ℝ) : EReal)) :
    er (after (List.flatten [hostOps0, hostOps0_1, hostOps0_2, hostOps0_3, hostOps0_4] : List (HloOp τ sig (Elt Ideal))) U main_v23 (ix2 R 0)) = (((2 : ℝ) ^ (-k) : ℝ) : EReal) := by
  have h1 := pre_v23 U R
  revert hk h1
  generalize after (List.flatten [hostOps0, hostOps0_1, hostOps0_2, hostOps0_3, hostOps0_4] : List (HloOp τ sig (Elt Ideal))) U = X
  intro hk h1
  exact h1.trans ((congrArg (Ideal.pow _) (opp_coe _ k hk)).trans (Cert.RefQ.pow_two (-k)))

/-- The operations after the call, in five steps. -/
theorem tail_eq (U : Valuation τ sig (Elt Ideal)) :
    after (List.flatten [hostOps1, hostOps1_1, hostOps1_2, hostOps1_3, hostOps1_4, hostOps1_5, hostOps1_6, hostOps1_7, hostOps1_8, hostOps1_9, hostOps1_10, hostOps1_11, hostOps1_12] : List (HloOp τ sig (Elt Ideal))) U
      = after hostOps1_12 (after (hostOps1_9 ++ hostOps1_10 ++ hostOps1_11) (after hostOps1_8 (after (hostOps1_5 ++ hostOps1_6 ++ hostOps1_7)
          (after (hostOps1 ++ hostOps1_1 ++ hostOps1_2 ++ hostOps1_3 ++ hostOps1_4) U)))) := by
  simp only [List.flatten_cons, List.flatten_nil, List.append_nil, StableHlo.after_append]

/-- One expert's term of the sum is the only one that is not zero. -/
theorem pick (f : ℕ → ℕ) (R : ℕ) (e : Fin 16) (ho : Cert.Sched.Of f R e.val) (g X : Fin 16 → EReal)
    (hg : ∀ a, g a = if Cert.Sched.Of f R a.val then X a else (0 : EReal)) : ∑ a, g a = X e := by
  rw [Finset.sum_eq_single e (fun b _ hb => ?_) (fun h => absurd (Finset.mem_univ _) h), hg, if_pos ho]
  rw [hg, if_neg (fun hb' => hb (Fin.ext (Cert.Sched.of_unique f hb' ho)))]

/-- The result from the codes and the exponent. -/
theorem tail_at (U : Valuation τ sig (Elt Ideal)) (v : Fin 1536 → EReal) (k : ℤ) (f : ℕ → ℕ) (hx : Cert.Counts.Are (U main_arg1) f)
    (R : Fin 24576) (l : Fin 5120) (e : Fin 16) (ho : Cert.Sched.Of f R.val e.val)
    (h20 : er (U main_v20 (ix2 R 0)) = (((k : ℤ) : ℝ) : EReal))
    (h24 : ∀ j, er (U main_v24 (ix2 R j)) = v j * (((2 : ℝ) ^ (-k) : ℝ) : EReal)) :
    er (after (List.flatten [hostOps1, hostOps1_1, hostOps1_2, hostOps1_3, hostOps1_4, hostOps1_5, hostOps1_6, hostOps1_7, hostOps1_8, hostOps1_9, hostOps1_10, hostOps1_11, hostOps1_12] : List (HloOp τ sig (Elt Ideal))) U main_v100 (ix2 R l))
      = Cert.Spec.T v (fun i => U main_arg2 (ix3 e l i)) (fun i => U main_arg3 (ix3 e l i)) := by
  rw [tail_eq]
  have a61 := tl_v61 U
  have a60 := tl_v60 U
  have a31 := tl_v31 U
  have a26 := tl_v26 U R
  have a1 := tl_arg1 U
  revert a61 a60 a31 a26 a1
  generalize after (hostOps1 ++ hostOps1_1 ++ hostOps1_2 ++ hostOps1_3 ++ hostOps1_4) U = X1
  intro a61 a60 a31 a26 a1
  have hx1 : Cert.Counts.Are (X1 main_arg1) f := by rw [a1]; exact hx
  have b76 := tl_v76 X1 f hx1
  have b60 := k5_v60 X1
  have b31 := k5_v31 X1
  have b26 := k5_v26 X1
  have b1 := k5_arg1 X1
  revert b76 b60 b31 b26 b1
  generalize after (hostOps1_5 ++ hostOps1_6 ++ hostOps1_7) X1 = X2
  intro b76 b60 b31 b26 b1
  have c78 := tl_v78 X2 R l
  have c79 := tl_v79 X2 R
  have c26 := k8_v26 X2
  have c1 := k8_arg1 X2
  revert c78 c79 c26 c1
  generalize after hostOps1_8 X2 = X3
  intro c78 c79 c26 c1
  have hx3 : Cert.Counts.Are (X3 main_arg1) f := by rw [c1, b1]; exact hx1
  have d94 := tl_v94 X3 f hx3
  have d26 := k9_v26 X3
  have d78 := k9_v78 X3
  revert d94 d26 d78
  generalize after (hostOps1_9 ++ hostOps1_10 ++ hostOps1_11) X3 = X4
  intro d94 d26 d78
  refine (tl_v100 X4 R l).trans ?_
  have r26 : er (X4 main_v26 (ix2 R 0)) = (((2 : ℝ) ^ k : ℝ) : EReal) := by
    rw [d26, c26, b26]
    refine a26.trans ?_
    have : U main_v20 (ix2 R 0) = (((k : ℤ) : ℝ) : EReal) := h20
    rw [this]
    exact Cert.RefQ.pow_two k
  have r94 : ∑ a : Fin 16, er (X4 main_v94 (ix3 a l R)) = er (X3 main_v79 (ix3 e l R)) :=
    pick f R.val e ho _ (fun a => er (X3 main_v79 (ix3 a l R))) (fun a => d94 a l R)
  have r76 : ∑ a : Fin 16, er (X2 main_v76 (ix3 a l R)) = er (X1 main_v61 (ix3 e l R)) :=
    pick f R.val e ho _ (fun a => er (X1 main_v61 (ix3 a l R))) (fun a => b76 a l R)
  have r78 : er (X4 main_v78 (ix2 R l)) = er (X1 main_v61 (ix3 e l R)) := by
    rw [d78]
    exact c78.trans r76
  have r79 : er (X3 main_v79 (ix3 e l R)) = ∑ i : Fin 768, times (X1 main_v60 (ix3 e i l)) (X1 main_v31 (ix2 R i)) := by
    rw [← b60, ← b31]
    exact c79 e l
  rw [← Cert.Spec.comb2 v _ _ k]
  have s0 : er (X1 main_v61 (ix3 e l R)) = ∑ i : Fin 768, v ⟨2 * i.val, by omega⟩ * (((2 : ℝ) ^ (-k) : ℝ) : EReal)
      * ((((Cert.Spec.lo (U main_arg2 (ix3 e l i)) : ℤ) : ℝ) : EReal) * er (U main_arg3 (ix3 e l ⟨i.val / 16, by omega⟩))) := by
    refine Eq.trans (α := EReal) (a61 e l R) ?_
    refine Finset.sum_congr rfl fun i _ => ?_
    have h := h24 ⟨2 * i.val, by omega⟩
    exact (congrArg (times _) h).trans (mul_comm _ _)
  have s1 : er (X3 main_v79 (ix3 e l R)) = ∑ i : Fin 768, v ⟨2 * i.val + 1, by omega⟩ * (((2 : ℝ) ^ (-k) : ℝ) : EReal)
      * ((((Cert.Spec.hi (U main_arg2 (ix3 e l i)) : ℤ) : ℝ) : EReal) * er (U main_arg3 (ix3 e l ⟨i.val / 16, by omega⟩))) := by
    refine r79.trans (Finset.sum_congr rfl fun i _ => ?_)
    have h := h24 ⟨2 * i.val + 1, by omega⟩
    exact (congrArg₂ times (a60 e l i) ((a31 R i).trans h)).trans (mul_comm _ _)
  exact congrArg₂ times (congrArg₂ plus (r78.trans s0) (r94.trans s1)) r26

end Cert.ReferenceIdeal.Gen

end
-- ==== Proof.My.Ref.lean ====
/- The reference's run: its result is, element by element, the product of the row with its expert's weights. -/
module

public import proofs.«01_k».proof.Proof.My.RefV

@[expose] public section

set_option maxRecDepth 8192

noncomputable section

namespace Cert.ReferenceIdeal.Gen

open Idealize.ShloMosaic Idealize.ShloMosaic.TcCoe Idealize.ShloMosaic.Tactic
open Idealize.ShloMosaic.StableHlo (after)

variable (m : (ℓ : Loc nD τ sig) → Buf (Elt Ideal) ℓ)

/-- The codes the call leaves. -/
theorem codes (c : Dev nD) (R : Fin 24576) (x : Fin 1536 → ℝ) (k : ℤ)
    (hx : ∀ j, row (m ((c : Thread nD τ).loc main_arg0)) R j = (x j : EReal))
    (hk : er (V0 m c main_v20 (ix2 R 0)) = (((k : ℤ) : ℝ) : EReal)) (hb : ∀ j, |x j| ≤ 57344 * (2 : ℝ) ^ k) (j : Fin 1536) :
    er (k0_pay1 (F := Ideal) (V m c main_arg0) (V m c main_v23) (ix2 R j)) = row (m ((c : Thread nD τ).loc main_arg0)) R j * (((2 : ℝ) ^ (-k) : ℝ) : EReal) := by
  have h23 : er (V m c main_v23 (ix2 R 0)) = (((2 : ℝ) ^ (-k) : ℝ) : EReal) := pre_inv (fun b => m (c, b)) R k hk
  have h0 : er (V m c main_arg0 (ix2 R j)) = (x j : EReal) := (congrFun (V_main_arg0 m c) (ix2 R j)).trans (hx j)
  refine (pay_at (V m c main_arg0) (V m c main_v23) R j).trans ?_
  have hm : times (V m c main_arg0 (ix2 R j)) (V m c main_v23 (ix2 R 0)) = (x j : EReal) * (((2 : ℝ) ^ (-k) : ℝ) : EReal) := congrArg₂ times h0 h23
  rw [Cert.Quant.top, Cert.Quant.bot, hx j, ← EReal.coe_mul]
  refine Eq.trans ?_ (Cert.Quant.clip (x j) ((2 : ℝ) ^ k) ((2 : ℝ) ^ (-k)) (by positivity) (by rw [mul_comm]; exact Cert.Spec.two_pow k) (hb j))
  exact congrArg (fun z => min ((57344 : ℝ) : EReal) (max ((-57344 : ℝ) : EReal) z)) hm

/-- The result at an element. -/
theorem ref_at (c : Dev nD) (f : ℕ → ℕ) (hf : Cert.Counts.Are (m ((c : Thread nD τ).loc main_arg1)) f)
    (R : Fin 24576) (l : Fin 5120) (e : Fin 16) (ho : Cert.Sched.Of f R.val e.val) (hok : Cert.Spec.Ok (row (m ((c : Thread nD τ).loc main_arg0)) R)) :
    er (Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12] c main_v100 (ix2 R l))
      = Cert.Spec.T (row (m ((c : Thread nD τ).loc main_arg0)) R) (fun i => m ((c : Thread nD τ).loc main_arg2) (ix3 e l i))
        (fun i => m ((c : Thread nD τ).loc main_arg3) (ix3 e l i)) := by
  obtain ⟨x, hx, hB⟩ := hok
  obtain ⟨k, hk, hb⟩ := Cert.RefQ.expo_spec _ x hx hB
  have h20 : er (V0 m c main_v20 (ix2 R 0)) = (((k : ℤ) : ℝ) : EReal) := (pre_v20 (fun b => m (c, b)) R).trans hk
  have hcodes := codes m c R x k hx h20 hb
  have w24 : Pipeline.withArrays (cfgs 0).spec c (V0 m c) (fun w => (dats m 0 c).arrAt w (cfgs 0).N) main_v24
      = k0_pay1 (F := Ideal) (V m c main_arg0) (V m c main_v23) :=
    (Pipeline.withArrays_arr _ winFacts0.arr_inj c (V0 m c) _ 2).trans (arr24 m c)
  have w20 : Pipeline.withArrays (cfgs 0).spec c (V0 m c) (fun w => (dats m 0 c).arrAt w (cfgs 0).N) main_v20 = V0 m c main_v20 :=
    Pipeline.withArrays_of_ne _ c (V0 m c) _ main_v20 (by exact (by decide : ∀ w, Pipeline.arrRef spec0 w ≠ main_v20))
  have w1 : Pipeline.withArrays (cfgs 0).spec c (V0 m c) (fun w => (dats m 0 c).arrAt w (cfgs 0).N) main_arg1 = m ((c : Thread nD τ).loc main_arg1) :=
    (Pipeline.withArrays_of_ne _ c (V0 m c) _ main_arg1 (by exact (by decide : ∀ w, Pipeline.arrRef spec0 w ≠ main_arg1))).trans (V_main_arg1 m c)
  have w2 : Pipeline.withArrays (cfgs 0).spec c (V0 m c) (fun w => (dats m 0 c).arrAt w (cfgs 0).N) main_arg2 = m ((c : Thread nD τ).loc main_arg2) :=
    (Pipeline.withArrays_of_ne _ c (V0 m c) _ main_arg2 (by exact (by decide : ∀ w, Pipeline.arrRef spec0 w ≠ main_arg2))).trans (V_main_arg2 m c)
  have w3 : Pipeline.withArrays (cfgs 0).spec c (V0 m c) (fun w => (dats m 0 c).arrAt w (cfgs 0).N) main_arg3 = m ((c : Thread nD τ).loc main_arg3) :=
    (Pipeline.withArrays_of_ne _ c (V0 m c) _ main_arg3 (by exact (by decide : ∀ w, Pipeline.arrRef spec0 w ≠ main_arg3))).trans (V_main_arg3 m c)
  unfold Pipeline.afterTail₀
  revert w24 w20 w1 w2 w3
  generalize Pipeline.withArrays (cfgs 0).spec c (V0 m c) (fun w => (dats m 0 c).arrAt w (cfgs 0).N) = U
  intro w24 w20 w1 w2 w3
  refine (tail_at U (row (m ((c : Thread nD τ).loc main_arg0)) R) k f (by rw [w1]; exact hf) R l e ho ?_ ?_).trans ?_
  · exact (congrFun w20 (ix2 R 0)).trans h20
  · exact fun j => (congrFun w24 (ix2 R j)).trans (hcodes j)
  · rw [w2, w3]

end Cert.ReferenceIdeal.Gen

end
-- ==== Proof.My.Alg.lean ====
/- The two runs side by side: both leave, at row `R` and column `l`, the product of row `R` with the weights of the expert that owns it. -/
module

public import proofs.«01_k».proof.Proof.My.Arr
public import proofs.«01_k».proof.Proof.My.Ref

@[expose] public section

set_option maxRecDepth 8192

noncomputable section

namespace Cert.Alg

open Idealize.ShloMosaic Idealize.ShloMosaic.TcCoe Idealize.ShloMosaic.Tactic Idealize.SL.Sem

/-- Every row has an expert. -/
theorem experts {a : IVec Cert.KernelIdeal.S16 32} {f : ℕ → ℕ} (hf : Cert.Counts.Are a f) :
    ∃ pick : Fin 24576 → Fin 16, ∀ R, Cert.Sched.Of f R.val (pick R).val := by
  have h : ∀ R : Fin 24576, ∃ e : Fin 16, Cert.Sched.Of f R.val e.val := fun R => by
    obtain ⟨e, he, ho⟩ := Cert.Sched.of_exists f R.val 16 (by rw [hf.sum]; exact R.isLt)
    exact ⟨⟨e, he⟩, ho⟩
  choose pick hpick using h
  exact ⟨pick, hpick⟩

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The array both runs leave. -/
def wantedV (pick : Fin 24576 → Fin 16) (c : Dev Cert.KernelIdeal.nD) : FVec Ideal Cert.KernelIdeal.S24576x5120 .bf16 := fun i =>
  Cert.KernelIdeal.Gen.Dot (m ((c.tc : Thread Cert.KernelIdeal.nD Cert.KernelIdeal.τ).loc Cert.KernelIdeal.main_arg0))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (i 0) (pick (i 0)) (i 1)

/-- The same, as a buffer of the kernel's result. -/
def wanted (pick : Fin 24576 → Fin 16) (c : Dev Cert.KernelIdeal.nD) :
    Buf (Elt Ideal) ((c.tc : Thread Cert.KernelIdeal.nD Cert.KernelIdeal.τ).loc Cert.KernelIdeal.main_v47) := wantedV m pick c

/-- Two arrays that agree at every row and column are one. -/
theorem ext2 (x y : FVec Ideal Cert.KernelIdeal.S24576x5120 .bf16) (h : ∀ R l, x (ix2 R l) = y (ix2 R l)) : x = y := by
  funext i
  have hi : i = ix2 (i 0) (i 1) := by
    funext a
    match a with
    | ⟨0, _⟩ => rfl
    | ⟨1, _⟩ => rfl
  rw [hi]
  exact h _ _

variable {f : ℕ → ℕ} (pick : Fin 24576 → Fin 16) (hpick : ∀ R, Cert.Sched.Of f R.val (pick R).val)
variable (hok : ∀ (c : Dev Cert.KernelIdeal.nD) (R : Fin 24576), Cert.Spec.Ok (Cert.KernelIdeal.Gen.rowD
    (m ((c.tc : Thread Cert.KernelIdeal.nD Cert.KernelIdeal.τ).loc Cert.KernelIdeal.main_arg0)) R))

include hpick hok

section

open Cert.KernelIdeal Cert.KernelIdeal.Gen

/-- The kernel's run leaves it. -/
theorem kernel_run (g : Dev nD → PrngReg) (hf : Cert.Counts.Are (sizesAt m) f) :
    θ_run defs (onTc (τ := τ) (main (F := Ideal))) ⟨m, fun _ => 0, g⟩ (fun r => ∀ c : Dev nD,
      r.2.mem ((c.tc : Thread nD τ).loc main_v47) = wanted m pick c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r hr c => ⟨?_, kept hf lawsI r hr.1 c⟩) (runK g hf lawsI)
  exact ext2 _ (wantedV m pick c) (fun R l => result hf r hr.1 c R (pick R) l (hpick R) (hok c R))

end

section

open Cert.ReferenceIdeal Cert.ReferenceIdeal.Gen

/-- The reference's run leaves it, from the same arguments. -/
theorem reference_run (g' : Dev nD → PrngReg) (hf : Cert.Counts.Are (Cert.KernelIdeal.Gen.sizesAt m) f)
    (hargs : ∀ c : Dev Cert.KernelIdeal.nD,
      m' ((c.tc : Thread nD τ).loc main_arg0) = m ((c.tc : Thread Cert.KernelIdeal.nD Cert.KernelIdeal.τ).loc Cert.KernelIdeal.main_arg0)
      ∧ m' ((c.tc : Thread nD τ).loc main_arg1) = m ((c.tc : Thread Cert.KernelIdeal.nD Cert.KernelIdeal.τ).loc Cert.KernelIdeal.main_arg1)
      ∧ m' ((c.tc : Thread nD τ).loc main_arg2) = m ((c.tc : Thread Cert.KernelIdeal.nD Cert.KernelIdeal.τ).loc Cert.KernelIdeal.main_arg2)
      ∧ m' ((c.tc : Thread nD τ).loc main_arg3) = m ((c.tc : Thread Cert.KernelIdeal.nD Cert.KernelIdeal.τ).loc Cert.KernelIdeal.main_arg3)) :
    θ_run defs (onTc (τ := τ) (main (F := Ideal))) ⟨m', fun _ => 0, g'⟩ (fun r => ∀ c : Dev nD,
      r.2.mem ((c.tc : Thread nD τ).loc main_v100) = wanted m pick c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)) := by
  refine (θ_run defs _ _).mono (fun r hr c => ⟨?_, hr.2 c⟩) (θ_run_and (run_main_quiescent m' g') (unchanged m' g'))
  refine ((hr.1.1 c).2 main_v100 (Pipeline.mem_restRefs_of main_v100 (by decide) (by decide))).trans ?_
  have e0 := (hargs c).1
  have e1 := (hargs c).2.1
  have e2 := (hargs c).2.2.1
  have e3 := (hargs c).2.2.2
  have hc : c = 0 := Subsingleton.elim _ _
  have hf' : Cert.Counts.Are (m' ((c.tc : Thread nD τ).loc main_arg1)) f := by rw [e1]; subst hc; exact hf
  refine ext2 _ (wantedV m pick c) (fun R l => ?_)
  have hk : Cert.Spec.Ok (row (m' ((c.tc : Thread nD τ).loc main_arg0)) R) := by rw [e0]; exact hok c R
  refine (ref_at m' c f hf' R l (pick R) (hpick R) hk).trans ?_
  rw [e0, e2, e3]
  rfl

end

end Cert.Alg

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_every_token_has_an_expert
public import proofs.«01_k».proof.Proof.My.Frame
public import proofs.«01_k».proof.Proof.Bits.Frame
public import proofs.«01_k».proof.Proof.Gen.Pre_finite_and_every_token_has_an_expert
public import proofs.«01_k».proof.Proof.My.Fin
public import proofs.«01_k».proof.Proof.My.Alg
public import Idealize.ShloMosaic.Adequacy
public import Idealize.ShloMosaic.Init

@[expose] public section

noncomputable section

namespace Cert.Proof

open Idealize.ShloMosaic Idealize.SL.Sem Cert.Kernel

/-- The kernel as printed leaves its arguments as they were. -/
theorem frameBits : Cert.quiescent_Kernel := fun m g h => by
  obtain ⟨f, hf⟩ := Cert.Counts.of_every _ _ _ _ (h 0)
  exact Cert.Kernel.Gen.frameK g (m := m) hf

/-- The kernel read over the extended reals leaves its arguments as they were. -/
theorem frameIdeal : Cert.quiescent_KernelIdeal := fun m g h => by
  obtain ⟨f, hf⟩ := Cert.Counts.of_every _ _ _ _ (h 0)
  exact Cert.KernelIdeal.Gen.frameK g (m := m) hf

/-- The same, where the rows are also finite. -/
theorem frameIdealFin : Cert.quiescent_KernelIdeal_pre_finite_and_every_token_has_an_expert := fun m g h => by
  obtain ⟨f, hf⟩ := Cert.Counts.of_finite _ _ _ _ ⟨(h 0).1, (h 0).2.1⟩
  exact Cert.KernelIdeal.Gen.frameK g (m := m) hf

/-- Every element the kernel leaves is the one the reference leaves. -/
theorem values : Cert.algebraic_KernelIdeal_ReferenceIdeal_pre_finite_and_every_token_has_an_expert := fun m g m' g' h hargs => by
  obtain ⟨f, hf⟩ := Cert.Counts.of_finite _ _ _ _ ⟨(h 0).1, (h 0).2.1⟩
  obtain ⟨pick, hpick⟩ := Cert.Alg.experts hf
  have hok : ∀ (c : Dev Cert.KernelIdeal.nD) (R : Fin 24576), Cert.Spec.Ok (Cert.KernelIdeal.Gen.rowD
      (m ((c.tc : Thread Cert.KernelIdeal.nD Cert.KernelIdeal.τ).loc Cert.KernelIdeal.main_arg0)) R) := fun c =>
    Cert.Counts.row_ok _ _ _ _ (h c).2.2
  refine ⟨fun c => Cert.Alg.wanted m pick c, ?_, ?_⟩
  · exact Cert.Alg.kernel_run m pick hpick hok g hf
  · exact Cert.Alg.reference_run m m' pick hpick hok g' hf hargs

theorem claim : Cert.Claim :=
  ⟨Cert.Kernel.Gen.facts, Cert.KernelIdeal.Gen.facts, Cert.ReferenceIdeal.Gen.facts, Cert.Pre_every_token_has_an_expert.Gen.facts,
    Cert.Pre_finite_and_every_token_has_an_expert.Gen.facts,
    frameBits, frameIdeal, frameIdealFin, fun m g _ => Cert.ReferenceIdeal.Gen.frame m g, fun m g _ => Cert.ReferenceIdeal.Gen.frame m g,
    trivial, values⟩

end Cert.Proof

end
